-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_three_nearest [hPre_three_nearest : Cert.Pre_three_nearest.Facts] (m : (ℓ : Loc Cert.KernelIdeal.nD Cert.KernelIdeal.τ Cert.KernelIdeal.sig) → Buf (Elt Ideal) ℓ) : Prop :=
  ∀ c : Dev Cert.KernelIdeal.nD,
    (Cert.Pre_three_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_three_nearest [hPre_three_nearest : Cert.Pre_three_nearest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_three_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_three_nearest [hKernelIdeal : Cert.KernelIdeal.Facts] [hPre_three_nearest : Cert.Pre_three_nearest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_three_nearest m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_three_nearest [hReferenceIdeal : Cert.ReferenceIdeal.Facts] [hPre_three_nearest : Cert.Pre_three_nearest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_three_nearest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "most" .f32 0x4CBEBC20#32 ((1125899906842624 / 11258999 : ℝ) : EReal)

def algebraic_KernelIdeal_ReferenceIdeal_pre_three_nearest [hKernelIdeal : Cert.KernelIdeal.Facts] [hReferenceIdeal : Cert.ReferenceIdeal.Facts] [hPre_three_nearest : Cert.Pre_three_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_three_nearest m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_three_nearest : Cert.Pre_three_nearest.Facts),
    quiescent_Kernel (hKernel := hKernel)
    ∧ quiescent_KernelIdeal (hKernelIdeal := hKernelIdeal)
    ∧ quiescent_KernelIdeal_pre_three_nearest (hKernelIdeal := hKernelIdeal) (hPre_three_nearest := hPre_three_nearest)
    ∧ quiescent_ReferenceIdeal (hReferenceIdeal := hReferenceIdeal)
    ∧ quiescent_ReferenceIdeal_pre_three_nearest (hReferenceIdeal := hReferenceIdeal) (hPre_three_nearest := hPre_three_nearest)
    ∧ preserves_Kernel_KernelIdeal
    ∧ algebraic_KernelIdeal_ReferenceIdeal_pre_three_nearest (hKernelIdeal := hKernelIdeal) (hReferenceIdeal := hReferenceIdeal) (hPre_three_nearest := hPre_three_nearest)
-- ==== Pre_three_nearest.lean ====
abbrev S8x4096x3 : Shape := ⟨3, ![8, 4096, 3]⟩
abbrev S8x1024x3 : Shape := ⟨3, ![8, 1024, 3]⟩
abbrev S8x128x4096 : Shape := ⟨3, ![8, 128, 4096]⟩
abbrev S8x256x1024 : Shape := ⟨3, ![8, 256, 1024]⟩
abbrev S256x384 : Shape := ⟨2, ![256, 384]⟩
abbrev S256 : Shape := ⟨1, ![256]⟩
abbrev S128x256 : Shape := ⟨2, ![128, 256]⟩
abbrev S128 : Shape := ⟨1, ![128]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1024x1 : Shape := ⟨3, ![8, 1024, 1]⟩
abbrev S8x1x1024 : Shape := ⟨3, ![8, 1, 1024]⟩
abbrev S8x4096x1024 : Shape := ⟨3, ![8, 4096, 1024]⟩
abbrev S8x4096x4 : Shape := ⟨3, ![8, 4096, 4]⟩

class Facts : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  reducesTo_S8x1024x3_S8x1024_d2 : S8x1024x3.ReducesTo [2] S8x1024
  bcast_S8x1024_S8x1024x1_0_1 : S8x1024.BroadcastsInDim S8x1024x1 (![0, 1] : Fin 2 → Fin S8x1024x1.rank)
  transposes_S8x1024x1_S8x1x1024_0_2_1 : S8x1024x1.Transposes [0, 2, 1] S8x1x1024
  bcast_S8x4096x1_S8x4096x1024_0_1_2 : S8x4096x1.BroadcastsInDim S8x4096x1024 (![0, 1, 2] : Fin 3 → Fin S8x4096x1024.rank)
  bcast_S8x1x1024_S8x4096x1024_0_1_2 : S8x1x1024.BroadcastsInDim S8x4096x1024 (![0, 1, 2] : Fin 3 → Fin S8x4096x1024.rank)
  bcast_S_S8x4096x1024 : S_.BroadcastsInDim S8x4096x1024 (![] : Fin 0 → Fin S8x4096x1024.rank)
  sliceFits_S8x4096x1024_S8x4096x4 : S8x4096x1024.Slices (fun _ => 0) S8x4096x4
  bcast_S_S8x1024x3 : S_.BroadcastsInDim S8x1024x3 (![] : Fin 0 → Fin S8x1024x3.rank)
  reducesTo_S8x1024x3_S_d0_1_2 : S8x1024x3.ReducesTo [0, 1, 2] S_
  bcast_S_S8x128x4096 : S_.BroadcastsInDim S8x128x4096 (![] : Fin 0 → Fin S8x128x4096.rank)
  reducesTo_S8x128x4096_S_d0_1_2 : S8x128x4096.ReducesTo [0, 1, 2] S_
  bcast_S_S8x256x1024 : S_.BroadcastsInDim S8x256x1024 (![] : Fin 0 → Fin S8x256x1024.rank)
  reducesTo_S8x256x1024_S_d0_1_2 : S8x256x1024.ReducesTo [0, 1, 2] S_
  bcast_S_S256x384 : S_.BroadcastsInDim S256x384 (![] : Fin 0 → Fin S256x384.rank)
  reducesTo_S256x384_S_d0_1 : S256x384.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  slices_S8x4096x4_S8x4096x1_0_0_1 : S8x4096x4.Slices ![0, 0, 1] S8x4096x1
  shapeCasts_S8x4096x1_S8x4096 : S8x4096x1.ShapeCasts S8x4096
  slices_S8x4096x4_S8x4096x1_0_0_2 : S8x4096x4.Slices ![0, 0, 2] S8x4096x1
  reducesTo_S8x4096_S_d0_1 : S8x4096.ReducesTo [0, 1] S_
  slices_S8x4096x4_S8x4096x1_0_0_3 : S8x4096x4.Slices ![0, 0, 3] S8x4096x1
  dot_S8x4096x3_S8x1024x3_S8x4096x1024_2_2_1_1_0_0_wf : DotDims.WF S8x4096x3 S8x1024x3 S8x4096x1024 [2] [2] [1] [1] [0] [0]

variable [Facts]

def dot_S8x4096x3_S8x1024x3_S8x4096x1024_2_2_1_1_0_0 : DotDims S8x4096x3 S8x1024x3 S8x4096x1024 where
  lhsContracting := [2]
  rhsContracting := [2]
  lhsNonContracting := [1]
  rhsNonContracting := [1]
  lhsBatch := [0]
  rhsBatch := [0]
  wf := dot_S8x4096x3_S8x1024x3_S8x4096x1024_2_2_1_1_0_0_wf
def fn_part4 {F : FTy → Type} [FloatOps F] (main_values : FVec F S8x4096x4 .f32) (main_v63 : IVec S_ 1) (main_v69 : IVec S_ 1) : IVec S_ 1 :=
  let main_v70 : IVec S_ 1 := andi main_v63 main_v69
  let main_v71 : FVec F S8x4096x1 .f32 := (extractStridedSlice S8x4096x1 ![0, 0, 2] · slices_S8x4096x4_S8x4096x1_0_0_2) main_values
  let main_v72 : FVec F S8x4096 .f32 := shapeCast S8x4096 main_v71 shapeCasts_S8x4096x1_S8x4096
  let main_v73 : FVec F S8x4096x1 .f32 := (extractStridedSlice S8x4096x1 ![0, 0, 3] · slices_S8x4096x4_S8x4096x1_0_0_3) main_values
  let main_v74 : FVec F S8x4096 .f32 := shapeCast S8x4096 main_v73 shapeCasts_S8x4096x1_S8x4096
  let main_v75 : IVec S8x4096 1 := cmpf .ogt main_v72 main_v74
  let main_c_22 : IVec S_ 1 := constantI S_ 1 1#1
  let main_v76 : IVec S_ 1 := (fun x v => Host.reduce IntOp.andi x v reducesTo_S8x4096_S_d0_1 h_S_) main_v75 main_c_22
  let main_v77 : IVec S_ 1 := andi main_v70 main_v76
  main_v77

def fn_part3 {F : FTy → Type} [FloatOps F] (main_arg9 : FVec F S128 .f32) (main_arg10 : FVec F S128 .f32) (main_values : FVec F S8x4096x4 .f32) (main_v48 : IVec S_ 1) (main_v51 : IVec S128x256 1) : IVec S_ 1 :=
  let main_c_16 : IVec S_ 1 := constantI S_ 1 1#1
  let main_v52 : IVec S_ 1 := (fun x v => Host.reduce IntOp.andi x v reducesTo_S128x256_S_d0_1 h_S_) main_v51 main_c_16
  let main_v53 : IVec S_ 1 := andi main_v48 main_v52
  let main_v54 : FVec F S128 .f32 := Host.absf main_arg9
  let main_cst_17 : FVec F S_ .f32 := constant S_ .f32 0x7F800000#32
  let main_v55 : FVec F S128 .f32 := broadcastInDim S128 ![] bcast_S_S128 main_cst_17
  let main_v56 : IVec S128 1 := cmpf .olt main_v54 main_v55
  let main_c_18 : IVec S_ 1 := constantI S_ 1 1#1
  let main_v57 : IVec S_ 1 := (fun x v => Host.reduce IntOp.andi x v reducesTo_S128_S_d0 h_S_) main_v56 main_c_18
  let main_v58 : IVec S_ 1 := andi main_v53 main_v57
  let main_v59 : FVec F S128 .f32 := Host.absf main_arg10
  let main_cst_19 : FVec F S_ .f32 := constant S_ .f32 0x7F800000#32
  let main_v60 : FVec F S128 .f32 := broadcastInDim S128 ![] bcast_S_S128 main_cst_19
  let main_v61 : IVec S128 1 := cmpf .olt main_v59 main_v60
  let main_c_20 : IVec S_ 1 := constantI S_ 1 1#1
  let main_v62 : IVec S_ 1 := (fun x v => Host.reduce IntOp.andi x v reducesTo_S128_S_d0 h_S_) main_v61 main_c_20
  let main_v63 : IVec S_ 1 := andi main_v58 main_v62
  let main_v64 : FVec F S8x4096x1 .f32 := (extractStridedSlice S8x4096x1 ![0, 0, 1] · slices_S8x4096x4_S8x4096x1_0_0_1) main_values
  let main_v65 : FVec F S8x4096 .f32 := shapeCast S8x4096 main_v64 shapeCasts_S8x4096x1_S8x4096
  let main_v66 : FVec F S8x4096x1 .f32 := (extractStridedSlice S8x4096x1 ![0, 0, 2] · slices_S8x4096x4_S8x4096x1_0_0_2) main_values
  let main_v67 : FVec F S8x4096 .f32 := shapeCast S8x4096 main_v66 shapeCasts_S8x4096x1_S8x4096
  let main_v68 : IVec S8x4096 1 := cmpf .ogt main_v65 main_v67
  let main_c_21 : IVec S_ 1 := constantI S_ 1 1#1
  let main_v69 : IVec S_ 1 := (fun x v => Host.reduce IntOp.andi x v reducesTo_S8x4096_S_d0_1 h_S_) main_v68 main_c_21
  fn_part4 (F := F) main_values main_v63 main_v69

def fn_part2 {F : FTy → Type} [FloatOps F] (main_arg6 : FVec F S256 .f32) (main_arg7 : FVec F S256 .f32) (main_arg8 : FVec F S128x256 .f32) (main_arg9 : FVec F S128 .f32) (main_arg10 : FVec F S128 .f32) (main_values : FVec F S8x4096x4 .f32) (main_v33 : IVec S_ 1) (main_v34 : FVec F S256x384 .f32) : IVec S_ 1 :=
  let main_cst_9 : FVec F S_ .f32 := constant S_ .f32 0x7F800000#32
  let main_v35 : FVec F S256x384 .f32 := broadcastInDim S256x384 ![] bcast_S_S256x384 main_cst_9
  let main_v36 : IVec S256x384 1 := cmpf .olt main_v34 main_v35
  let main_c_10 : IVec S_ 1 := constantI S_ 1 1#1
  let main_v37 : IVec S_ 1 := (fun x v => Host.reduce IntOp.andi x v reducesTo_S256x384_S_d0_1 h_S_) main_v36 main_c_10
  let main_v38 : IVec S_ 1 := andi main_v33 main_v37
  let main_v39 : FVec F S256 .f32 := Host.absf main_arg6
  let main_cst_11 : FVec F S_ .f32 := constant S_ .f32 0x7F800000#32
  let main_v40 : FVec F S256 .f32 := broadcastInDim S256 ![] bcast_S_S256 main_cst_11
  let main_v41 : IVec S256 1 := cmpf .olt main_v39 main_v40
  let main_c_12 : IVec S_ 1 := constantI S_ 1 1#1
  let main_v42 : IVec S_ 1 := (fun x v => Host.reduce IntOp.andi x v reducesTo_S256_S_d0 h_S_) main_v41 main_c_12
  let main_v43 : IVec S_ 1 := andi main_v38 main_v42
  let main_v44 : FVec F S256 .f32 := Host.absf main_arg7
  let main_cst_13 : FVec F S_ .f32 := constant S_ .f32 0x7F800000#32
  let main_v45 : FVec F S256 .f32 := broadcastInDim S256 ![] bcast_S_S256 main_cst_13
  let main_v46 : IVec S256 1 := cmpf .olt main_v44 main_v45
  let main_c_14 : IVec S_ 1 := constantI S_ 1 1#1
  let main_v47 : IVec S_ 1 := (fun x v => Host.reduce IntOp.andi x v reducesTo_S256_S_d0 h_S_) main_v46 main_c_14
  let main_v48 : IVec S_ 1 := andi main_v43 main_v47
  let main_v49 : FVec F S128x256 .f32 := Host.absf main_arg8
  let main_cst_15 : FVec F S_ .f32 := constant S_ .f32 0x7F800000#32
  let main_v50 : FVec F S128x256 .f32 := broadcastInDim S128x256 ![] bcast_S_S128x256 main_cst_15
  let main_v51 : IVec S128x256 1 := cmpf .olt main_v49 main_v50
  fn_part3 (F := F) main_arg9 main_arg10 main_values main_v48 main_v51

def fn_part1 {F : FTy → Type} [FloatOps F] (main_arg1 : FVec F S8x1024x3 .f32) (main_arg2 : FVec F S8x128x4096 .f32) (main_arg3 : FVec F S8x256x1024 .f32) (main_arg4 : FVec F S256x384 .f32) (main_arg6 : FVec F S256 .f32) (main_arg7 : FVec F S256 .f32) (main_arg8 : FVec F S128x256 .f32) (main_arg9 : FVec F S128 .f32) (main_arg10 : FVec F S128 .f32) (main_v18 : FVec F S8x4096x1024 .f32) : IVec S_ 1 :=
  let main_v19 : FVec F S8x4096x1024 .f32 := Host.negf main_v18
  let main_values : FVec F S8x4096x4 .f32 := (fun x => (Host.topK S8x4096x4 2 (FloatOps.cmpfTotal .gt) x sliceFits_S8x4096x1024_S8x4096x4).1) main_v19
  let main_indices : IVec S8x4096x4 32 := (fun x => (Host.topK S8x4096x4 2 (FloatOps.cmpfTotal .gt) x sliceFits_S8x4096x1024_S8x4096x4).2) main_v19
  let main_v20 : FVec F S8x1024x3 .f32 := Host.absf main_arg1
  let main_cst_4 : FVec F S_ .f32 := constant S_ .f32 0x7F800000#32
  let main_v21 : FVec F S8x1024x3 .f32 := broadcastInDim S8x1024x3 ![] bcast_S_S8x1024x3 main_cst_4
  let main_v22 : IVec S8x1024x3 1 := cmpf .olt main_v20 main_v21
  let main_c : IVec S_ 1 := constantI S_ 1 1#1
  let main_v23 : IVec S_ 1 := (fun x v => Host.reduce IntOp.andi x v reducesTo_S8x1024x3_S_d0_1_2 h_S_) main_v22 main_c
  let main_v24 : FVec F S8x128x4096 .f32 := Host.absf main_arg2
  let main_cst_5 : FVec F S_ .f32 := constant S_ .f32 0x7F800000#32
  let main_v25 : FVec F S8x128x4096 .f32 := broadcastInDim S8x128x4096 ![] bcast_S_S8x128x4096 main_cst_5
  let main_v26 : IVec S8x128x4096 1 := cmpf .olt main_v24 main_v25
  let main_c_6 : IVec S_ 1 := constantI S_ 1 1#1
  let main_v27 : IVec S_ 1 := (fun x v => Host.reduce IntOp.andi x v reducesTo_S8x128x4096_S_d0_1_2 h_S_) main_v26 main_c_6
  let main_v28 : IVec S_ 1 := andi main_v23 main_v27
  let main_v29 : FVec F S8x256x1024 .f32 := Host.absf main_arg3
  let main_cst_7 : FVec F S_ .f32 := constant S_ .f32 0x7F800000#32
  let main_v30 : FVec F S8x256x1024 .f32 := broadcastInDim S8x256x1024 ![] bcast_S_S8x256x1024 main_cst_7
  let main_v31 : IVec S8x256x1024 1 := cmpf .olt main_v29 main_v30
  let main_c_8 : IVec S_ 1 := constantI S_ 1 1#1
  let main_v32 : IVec S_ 1 := (fun x v => Host.reduce IntOp.andi x v reducesTo_S8x256x1024_S_d0_1_2 h_S_) main_v31 main_c_8
  let main_v33 : IVec S_ 1 := andi main_v28 main_v32
  let main_v34 : FVec F S256x384 .f32 := Host.absf main_arg4
  fn_part2 (F := F) main_arg6 main_arg7 main_arg8 main_arg9 main_arg10 main_values main_v33 main_v34

def fn {F : FTy → Type} [FloatOps F] (main_arg0 : FVec F S8x4096x3 .f32) (main_arg1 : FVec F S8x1024x3 .f32) (main_arg2 : FVec F S8x128x4096 .f32) (main_arg3 : FVec F S8x256x1024 .f32) (main_arg4 : FVec F S256x384 .f32) (main_arg5 : FVec F S256 .f32) (main_arg6 : FVec F S256 .f32) (main_arg7 : FVec F S256 .f32) (main_arg8 : FVec F S128x256 .f32) (main_arg9 : FVec F S128 .f32) (main_arg10 : FVec F S128 .f32) (main_arg11 : FVec F S128 .f32) : IVec S_ 1 :=
  let main_v0 : FVec F S8x4096x3 .f32 := mulf main_arg0 main_arg0
  let main_cst : FVec F S_ .f32 := constant S_ .f32 0x00000000#32
  let main_v1 : FVec F S8x4096 .f32 := (fun x v => Host.reduceAdd x v reducesTo_S8x4096x3_S8x4096_d2 h_S_) main_v0 main_cst
  let main_v2 : FVec F S8x4096x1 .f32 := broadcastInDim S8x4096x1 ![0, 1] bcast_S8x4096_S8x4096x1_0_1 main_v1
  let main_v3 : FVec F S8x1024x3 .f32 := mulf main_arg1 main_arg1
  let main_cst_0 : FVec F S_ .f32 := constant S_ .f32 0x00000000#32
  let main_v4 : FVec F S8x1024 .f32 := (fun x v => Host.reduceAdd x v reducesTo_S8x1024x3_S8x1024_d2 h_S_) main_v3 main_cst_0
  let main_v5 : FVec F S8x1024x1 .f32 := broadcastInDim S8x1024x1 ![0, 1] bcast_S8x1024_S8x1024x1_0_1 main_v4
  let main_v6 : FVec F S8x1x1024 .f32 := (transpose S8x1x1024 [0, 2, 1] · transposes_S8x1024x1_S8x1x1024_0_2_1) main_v5
  let main_v7 : FVec F S8x4096x1024 .f32 := broadcastInDim S8x4096x1024 ![0, 1, 2] bcast_S8x4096x1_S8x4096x1024_0_1_2 main_v2
  let main_v8 : FVec F S8x4096x1024 .f32 := broadcastInDim S8x4096x1024 ![0, 1, 2] bcast_S8x1x1024_S8x4096x1024_0_1_2 main_v6
  let main_v9 : FVec F S8x4096x1024 .f32 := addf main_v7 main_v8
  let main_v10 : FVec F S8x4096x1024 .f32 := (fun l r => Host.dotGeneral dot_S8x4096x3_S8x1024x3_S8x4096x1024_2_2_1_1_0_0 none l r) main_arg0 main_arg1
  let main_cst_1 : FVec F S_ .f32 := constant S_ .f32 0x40000000#32
  let main_v11 : FVec F S8x4096x1024 .f32 := broadcastInDim S8x4096x1024 ![] bcast_S_S8x4096x1024 main_cst_1
  let main_v12 : FVec F S8x4096x1024 .f32 := mulf main_v11 main_v10
  let main_v13 : FVec F S8x4096x1024 .f32 := subf main_v9 main_v12
  let main_cst_2 : FVec F S_ .f32 := constant S_ .f32 0x00000000#32
  let main_v14 : FVec F S8x4096x1024 .f32 := broadcastInDim S8x4096x1024 ![] bcast_S_S8x4096x1024 main_cst_2
  let main_v15 : FVec F S8x4096x1024 .f32 := maximumf main_v13 main_v14
  let main_v16 : FVec F S8x4096x1024 .f32 := Host.sqrt main_v15
  let main_cst_3 : FVec F S_ .f32 := constant S_ .f32 0x322BCC77#32
  let main_v17 : FVec F S8x4096x1024 .f32 := broadcastInDim S8x4096x1024 ![] bcast_S_S8x4096x1024 main_cst_3
  let main_v18 : FVec F S8x4096x1024 .f32 := maximumf main_v16 main_v17
  fn_part1 (F := F) main_arg1 main_arg2 main_arg3 main_arg4 main_arg6 main_arg7 main_arg8 main_arg9 main_arg10 main_v18
-- ==== Kernel.lean ====
abbrev S8x4096x3 : Shape := ⟨3, ![8, 4096, 3]⟩
abbrev S8x1024x3 : Shape := ⟨3, ![8, 1024, 3]⟩
abbrev S8x128x4096 : Shape := ⟨3, ![8, 128, 4096]⟩
abbrev S8x256x1024 : Shape := ⟨3, ![8, 256, 1024]⟩
abbrev S256x384 : Shape := ⟨2, ![256, 384]⟩
abbrev S256 : Shape := ⟨1, ![256]⟩
abbrev S128x256 : Shape := ⟨2, ![128, 256]⟩
abbrev S128 : Shape := ⟨1, ![128]⟩
abbrev S8x3x1024 : Shape := ⟨3, ![8, 3, 1024]⟩
abbrev S256x256 : Shape := ⟨2, ![256, 256]⟩
abbrev S256x128 : Shape := ⟨2, ![256, 128]⟩
abbrev S1x256 : Shape := ⟨2, ![1, 256]⟩
abbrev S1x128 : Shape := ⟨2, ![1, 128]⟩
abbrev S8x256x4096 : Shape := ⟨3, ![8, 256, 4096]⟩
abbrev S1x2048x3 : Shape := ⟨3, ![1, 2048, 3]⟩
abbrev S1x3x1024 : Shape := ⟨3, ![1, 3, 1024]⟩
abbrev S1x256x1024 : Shape := ⟨3, ![1, 256, 1024]⟩
abbrev S1x128x2048 : Shape := ⟨3, ![1, 128, 2048]⟩
abbrev S1x256x2048 : Shape := ⟨3, ![1, 256, 2048]⟩
abbrev S256x1024 : Shape := ⟨2, ![256, 1024]⟩
abbrev S2048x1024 : Shape := ⟨2, ![2048, 1024]⟩
abbrev S2048x3 : Shape := ⟨2, ![2048, 3]⟩
abbrev S3x1024 : Shape := ⟨2, ![3, 1024]⟩
abbrev S2048 : Shape := ⟨1, ![2048]⟩
abbrev S1024 : Shape := ⟨1, ![1024]⟩
abbrev S1x1024 : Shape := ⟨2, ![1, 1024]⟩
abbrev S2048x1 : Shape := ⟨2, ![2048, 1]⟩
abbrev S1x2048 : Shape := ⟨2, ![1, 2048]⟩
abbrev S1 : Shape := ⟨1, ![1]⟩
abbrev S1x1 : Shape := ⟨2, ![1, 1]⟩
abbrev S256x2048 : Shape := ⟨2, ![256, 2048]⟩
abbrev S128x2048 : Shape := ⟨2, ![128, 2048]⟩
abbrev S256x1 : Shape := ⟨2, ![256, 1]⟩
abbrev S128x1 : Shape := ⟨2, ![128, 1]⟩

abbrev nBuf : Space → Nat
  | .hbm => 28
  | .vmem => 37
  | .smem => 0
  | _ => 0

abbrev bufTy : (tb : Table) → Fin (tcTables nBuf tb) → BufTy
  | .hbm, ⟨0, _⟩ => ⟨S8x4096x3, .f32⟩
  | .hbm, ⟨1, _⟩ => ⟨S8x1024x3, .f32⟩
  | .hbm, ⟨2, _⟩ => ⟨S8x128x4096, .f32⟩
  | .hbm, ⟨3, _⟩ => ⟨S8x256x1024, .f32⟩
  | .hbm, ⟨4, _⟩ => ⟨S256x384, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S128x256, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S8x3x1024, .f32⟩
  | .hbm, ⟨13, _⟩ => ⟨S256x256, .f32⟩
  | .hbm, ⟨14, _⟩ => ⟨S256x128, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S8x256x4096, .f32⟩
  | .hbm, ⟨22, _⟩ => ⟨S1x256, .f32⟩
  | .hbm, ⟨23, _⟩ => ⟨S1x256, .f32⟩
  | .hbm, ⟨24, _⟩ => ⟨S8x128x4096, .f32⟩
  | .hbm, ⟨25, _⟩ => ⟨S1x128, .f32⟩
  | .hbm, ⟨26, _⟩ => ⟨S1x128, .f32⟩
  | .hbm, ⟨27, _⟩ => ⟨S8x128x4096, .f32⟩
  | .local _ .vmem, ⟨0, _⟩ => ⟨S1x2048x3, .f32⟩
  | .local _ .vmem, ⟨1, _⟩ => ⟨S1x2048x3, .f32⟩
  | .local _ .vmem, ⟨2, _⟩ => ⟨S1x3x1024, .f32⟩
  | .local _ .vmem, ⟨3, _⟩ => ⟨S1x3x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x128x2048, .f32⟩
  | .local _ .vmem, ⟨7, _⟩ => ⟨S1x128x2048, .f32⟩
  | .local _ .vmem, ⟨8, _⟩ => ⟨S256x256, .f32⟩
  | .local _ .vmem, ⟨9, _⟩ => ⟨S256x128, .f32⟩
  | .local _ .vmem, ⟨10, _⟩ => ⟨S1x256, .f32⟩
  | .local _ .vmem, ⟨11, _⟩ => ⟨S1x256x2048, .f32⟩
  | .local _ .vmem, ⟨12, _⟩ => ⟨S1x256x2048, .f32⟩
  | .local _ .vmem, ⟨13, _⟩ => ⟨S1x256, .f32⟩
  | .local _ .vmem, ⟨14, _⟩ => ⟨S1x256, .f32⟩
  | .local _ .vmem, ⟨15, _⟩ => ⟨S256x1024, .f32⟩
  | .local _ .vmem, ⟨16, _⟩ => ⟨S2048x1024, .f32⟩
  | .local _ .vmem, ⟨17, _⟩ => ⟨S1x256x2048, .f32⟩
  | .local _ .vmem, ⟨18, _⟩ => ⟨S1x256x2048, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S128x256, .f32⟩
  | .local _ .vmem, ⟨24, _⟩ => ⟨S1x128, .f32⟩
  | .local _ .vmem, ⟨25, _⟩ => ⟨S1x128x2048, .f32⟩
  | .local _ .vmem, ⟨26, _⟩ => ⟨S1x128x2048, .f32⟩
  | .local _ .vmem, ⟨27, _⟩ => ⟨S1x128, .f32⟩
  | .local _ .vmem, ⟨28, _⟩ => ⟨S1x128, .f32⟩
  | .local _ .vmem, ⟨29, _⟩ => ⟨S1x128x2048, .f32⟩
  | .local _ .vmem, ⟨30, _⟩ => ⟨S1x128x2048, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128x2048, .f32⟩
  | .local _ .vmem, ⟨36, _⟩ => ⟨S1x128x2048, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v10_0 : Ref sig .tc := ⟨.hbm, 24, rfl⟩
abbrev main_v10_1 : Ref sig .tc := ⟨.hbm, 25, rfl⟩
abbrev main_v10_2 : Ref sig .tc := ⟨.hbm, 26, rfl⟩
abbrev main_v11 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg9_0 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24
abbrev cc1_sem8_0 : DmaSem sig := 25
abbrev cc1_sem9_0 : DmaSem sig := 26
abbrev cc2_sem0_0 : DmaSem sig := 27
abbrev cc2_sem0_1 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg0 : BitVec 32 := BitVec.ofNat 32 (i 0).val
  let c0_i32_49 : BitVec 32 := 0#32
  let v111 : BitVec 1 := Scalar.cmpi .eq arg0 c0_i32_49
  let arg1 : BitVec 32 := BitVec.ofNat 32 (i 1).val
  let c0_i32_50 : BitVec 32 := 0#32
  let v112 : BitVec 1 := Scalar.cmpi .eq arg1 c0_i32_50
  let v113 : BitVec 1 := Scalar.andi v111 v112
  let v114 : BitVec 32 := Scalar.extui v113
  let c0_i32_51 : BitVec 32 := 0#32
  let v115 : BitVec 1 := Scalar.cmpi .ne v114 c0_i32_51
  v115

def k0_cond4 (i : grid0.Coords) : BitVec 1 :=
  let arg0 : BitVec 32 := BitVec.ofNat 32 (i 0).val
  let c0_i32_49 : BitVec 32 := 0#32
  let v111 : BitVec 1 := Scalar.cmpi .eq arg0 c0_i32_49
  let arg1 : BitVec 32 := BitVec.ofNat 32 (i 1).val
  let c0_i32_50 : BitVec 32 := 0#32
  let v112 : BitVec 1 := Scalar.cmpi .eq arg1 c0_i32_50
  let v113 : BitVec 1 := Scalar.andi v111 v112
  let v_true : BitVec 1 := 1#1
  let v116 : BitVec 1 := Scalar.xori v113 v_true
  let v117 : BitVec 32 := Scalar.extui v116
  let c0_i32_52 : BitVec 32 := 0#32
  let v118 : BitVec 1 := Scalar.cmpi .ne v117 c0_i32_52
  v118

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev grid1 : Pipeline.Grid := ⟨2, ![8, 2], ![false, false]⟩

def k1_cond1 (i : grid1.Coords) : BitVec 1 :=
  let arg0 : BitVec 32 := BitVec.ofNat 32 (i 0).val
  let c0_i32 : BitVec 32 := 0#32
  let v43 : BitVec 1 := Scalar.cmpi .eq arg0 c0_i32
  let arg1 : BitVec 32 := BitVec.ofNat 32 (i 1).val
  let c0_i32_23 : BitVec 32 := 0#32
  let v44 : BitVec 1 := Scalar.cmpi .eq arg1 c0_i32_23
  let v45 : BitVec 1 := Scalar.andi v43 v44
  let v46 : BitVec 32 := Scalar.extui v45
  let c0_i32_24 : BitVec 32 := 0#32
  let v47 : BitVec 1 := Scalar.cmpi .ne v46 c0_i32_24
  v47

def k1_cond2 (i : grid1.Coords) : BitVec 1 :=
  let arg0 : BitVec 32 := BitVec.ofNat 32 (i 0).val
  let c0_i32 : BitVec 32 := 0#32
  let v43 : BitVec 1 := Scalar.cmpi .eq arg0 c0_i32
  let arg1 : BitVec 32 := BitVec.ofNat 32 (i 1).val
  let c0_i32_23 : BitVec 32 := 0#32
  let v44 : BitVec 1 := Scalar.cmpi .eq arg1 c0_i32_23
  let v45 : BitVec 1 := Scalar.andi v43 v44
  let v_true : BitVec 1 := 1#1
  let v48 : BitVec 1 := Scalar.xori v45 v_true
  let v49 : BitVec 32 := Scalar.extui v48
  let c0_i32_25 : BitVec 32 := 0#32
  let v50 : BitVec 1 := Scalar.cmpi .ne v49 c0_i32_25
  v50

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev grid2 : Pipeline.Grid := ⟨2, ![8, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x128x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x128x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== KernelIdeal.lean ====
variable {F : FTy → Type} [FloatOps F] [Named F]
def κ : String → Option EReal := fun
  | "most" => some ((1125899906842624 / 11258999 : ℝ) : EReal)
  | _ => none
-- ==== ReferenceIdeal.lean ====
abbrev S8x4096x3 : Shape := ⟨3, ![8, 4096, 3]⟩
abbrev S8x1024x3 : Shape := ⟨3, ![8, 1024, 3]⟩
abbrev S8x128x4096 : Shape := ⟨3, ![8, 128, 4096]⟩
abbrev S8x256x1024 : Shape := ⟨3, ![8, 256, 1024]⟩
abbrev S256x384 : Shape := ⟨2, ![256, 384]⟩
abbrev S256 : Shape := ⟨1, ![256]⟩
abbrev S128x256 : Shape := ⟨2, ![128, 256]⟩
abbrev S128 : Shape := ⟨1, ![128]⟩
abbrev S_ : Shape := ⟨0, ![]⟩
abbrev S8x4096 : Shape := ⟨2, ![8, 4096]⟩
abbrev S8x4096x1 : Shape := ⟨3, ![8, 4096, 1]⟩
abbrev S8x1024 : Shape := ⟨2, ![8, 1024]⟩
abbrev S8x1024x1 : Shape := ⟨3, ![8, 1024, 1]⟩
abbrev S8x1x1024 : Shape := ⟨3, ![8, 1, 1024]⟩
abbrev S8x4096x1024 : Shape := ⟨3, ![8, 4096, 1024]⟩
abbrev S8x1024x256 : Shape := ⟨3, ![8, 1024, 256]⟩
abbrev S8 : Shape := ⟨1, ![8]⟩
abbrev S8x1x1 : Shape := ⟨3, ![8, 1, 1]⟩
abbrev S8x4096x3x1 : Shape := ⟨4, ![8, 4096, 3, 1]⟩
abbrev S8x4096x3x2 : Shape := ⟨4, ![8, 4096, 3, 2]⟩
abbrev S8x4096x3x256 : Shape := ⟨4, ![8, 4096, 3, 256]⟩
abbrev S8x4096x256 : Shape := ⟨3, ![8, 4096, 256]⟩
abbrev S8x256x4096 : Shape := ⟨3, ![8, 256, 4096]⟩
abbrev S8x384x4096 : Shape := ⟨3, ![8, 384, 4096]⟩
abbrev S1x256x1 : Shape := ⟨3, ![1, 256, 1]⟩
abbrev S8x4096x128 : Shape := ⟨3, ![8, 4096, 128]⟩
abbrev S1x128x1 : Shape := ⟨3, ![1, 128, 1]⟩

abbrev nBuf : Space → Nat
  | .hbm => 181
  | .vmem => 0
  | .smem => 0
  | _ => 0

abbrev hbmTy0_0 (i : Nat) : BufTy := match i % 128 with
  | 0 => ⟨S8x4096x3, .f32⟩
  | 1 => ⟨S8x1024x3, .f32⟩
  | 2 => ⟨S8x128x4096, .f32⟩
  | 3 => ⟨S8x256x1024, .f32⟩
  | 4 => ⟨S256x384, .f32⟩
  | 5 => ⟨S256, .f32⟩
  | 6 => ⟨S256, .f32⟩
  | 7 => ⟨S256, .f32⟩
  | 8 => ⟨S128x256, .f32⟩
  | 9 => ⟨S128, .f32⟩
  | 10 => ⟨S128, .f32⟩
  | 11 => ⟨S128, .f32⟩
  | 12 => ⟨S8x4096x3, .f32⟩
  | 13 => ⟨S_, .f32⟩
  | 14 => ⟨S8x4096, .f32⟩
  | 15 => ⟨S8x4096x1, .f32⟩
  | 16 => ⟨S8x1024x3, .f32⟩
  | 17 => ⟨S_, .f32⟩
  | 18 => ⟨S8x1024, .f32⟩
  | 19 => ⟨S8x1024x1, .f32⟩
  | 20 => ⟨S8x1x1024, .f32⟩
  | 21 => ⟨S8x4096x1024, .f32⟩
  | 22 => ⟨S8x4096x1024, .f32⟩
  | 23 => ⟨S8x4096x1024, .f32⟩
  | 24 => ⟨S8x4096x1024, .f32⟩
  | 25 => ⟨S_, .f32⟩
  | 26 => ⟨S8x4096x1024, .f32⟩
  | 27 => ⟨S8x4096x1024, .f32⟩
  | 28 => ⟨S8x4096x1024, .f32⟩
  | 29 => ⟨S_, .f32⟩
  | 30 => ⟨S8x4096x1024, .f32⟩
  | 31 => ⟨S8x4096x1024, .f32⟩
  | 32 => ⟨S8x4096x1024, .f32⟩
  | 33 => ⟨S_, .f32⟩
  | 34 => ⟨S8x4096x1024, .f32⟩
  | 35 => ⟨S8x4096x1024, .f32⟩
  | 36 => ⟨S8x4096x1024, .f32⟩
  | 37 => ⟨S8x4096x3, .f32⟩
  | 38 => ⟨S8x4096x3, .i32⟩
  | 39 => ⟨S8x4096x3, .f32⟩
  | 40 => ⟨S_, .f32⟩
  | 41 => ⟨S8x4096x3, .f32⟩
  | 42 => ⟨S8x4096x3, .f32⟩
  | 43 => ⟨S_, .f32⟩
  | 44 => ⟨S8x4096, .f32⟩
  | 45 => ⟨S8x4096x1, .f32⟩
  | 46 => ⟨S8x4096x3, .f32⟩
  | 47 => ⟨S8x4096x3, .f32⟩
  | 48 => ⟨S8x1024x256, .f32⟩
  | 49 => ⟨S8, .i32⟩
  | 50 => ⟨S8x1x1, .i32⟩
  | 51 => ⟨S_, .i32⟩
  | 52 => ⟨S8x1x1, .i32⟩
  | 53 => ⟨S8x1x1, .i1⟩
  | 54 => ⟨S_, .i32⟩
  | 55 => ⟨S8x1x1, .i32⟩
  | 56 => ⟨S8x1x1, .i32⟩
  | 57 => ⟨S8x1x1, .i32⟩
  | 58 => ⟨S_, .i32⟩
  | 59 => ⟨S8x4096x3, .i32⟩
  | 60 => ⟨S8x4096x3, .i1⟩
  | 61 => ⟨S_, .i32⟩
  | 62 => ⟨S8x4096x3, .i32⟩
  | 63 => ⟨S8x4096x3, .i32⟩
  | 64 => ⟨S8x4096x3, .i32⟩
  | 65 => ⟨S8x4096x3, .i32⟩
  | 66 => ⟨S8x4096x3x1, .i32⟩
  | 67 => ⟨S8x4096x3x1, .i32⟩
  | 68 => ⟨S8x4096x3x2, .i32⟩
  | 69 => ⟨S8x4096x3x256, .f32⟩
  | 70 => ⟨S8x4096x3x1, .f32⟩
  | 71 => ⟨S8x4096x3x256, .f32⟩
  | 72 => ⟨S8x4096x3x256, .f32⟩
  | 73 => ⟨S_, .f32⟩
  | 74 => ⟨S8x4096x256, .f32⟩
  | 75 => ⟨S8x256x4096, .f32⟩
  | 76 => ⟨S8x384x4096, .f32⟩
  | 77 => ⟨S8x4096x256, .f32⟩
  | 78 => ⟨S8x256x4096, .f32⟩
  | 79 => ⟨S1x256x1, .f32⟩
  | 80 => ⟨S8x256x4096, .f32⟩
  | 81 => ⟨S8x256x4096, .f32⟩
  | 82 => ⟨S_, .f32⟩
  | 83 => ⟨S256, .f32⟩
  | 84 => ⟨S1x256x1, .f32⟩
  | 85 => ⟨S_, .f32⟩
  | 86 => ⟨S1x256x1, .f32⟩
  | 87 => ⟨S1x256x1, .f32⟩
  | 88 => ⟨S_, .i32⟩
  | 89 => ⟨S_, .f32⟩
  | 90 => ⟨S256, .f32⟩
  | 91 => ⟨S1x256x1, .f32⟩
  | 92 => ⟨S_, .f32⟩
  | 93 => ⟨S1x256x1, .f32⟩
  | 94 => ⟨S1x256x1, .f32⟩
  | 95 => ⟨S8x256x4096, .f32⟩
  | 96 => ⟨S8x256x4096, .f32⟩
  | 97 => ⟨S8x256x4096, .f32⟩
  | 98 => ⟨S_, .f32⟩
  | 99 => ⟨S_, .f32⟩
  | 100 => ⟨S_, .f32⟩
  | 101 => ⟨S_, .f32⟩
  | 102 => ⟨S256, .f32⟩
  | 103 => ⟨S1x256x1, .f32⟩
  | 104 => ⟨S1x256x1, .f32⟩
  | 105 => ⟨S1x256x1, .f32⟩
  | 106 => ⟨S_, .f32⟩
  | 107 => ⟨S_, .i1⟩
  | 108 => ⟨S_, .f32⟩
  | 109 => ⟨S_, .f32⟩
  | 110 => ⟨S1x256x1, .f32⟩
  | 111 => ⟨S1x256x1, .f32⟩
  | 112 => ⟨S8x256x4096, .f32⟩
  | 113 => ⟨S8x256x4096, .f32⟩
  | 114 => ⟨S_, .f32⟩
  | 115 => ⟨S1x256x1, .f32⟩
  | 116 => ⟨S1x256x1, .f32⟩
  | 117 => ⟨S1x256x1, .f32⟩
  | 118 => ⟨S8x256x4096, .f32⟩
  | 119 => ⟨S8x256x4096, .f32⟩
  | 120 => ⟨S1x256x1, .f32⟩
  | 121 => ⟨S8x256x4096, .f32⟩
  | 122 => ⟨S8x256x4096, .f32⟩
  | 123 => ⟨S1x256x1, .f32⟩
  | 124 => ⟨S8x256x4096, .f32⟩
  | 125 => ⟨S8x256x4096, .f32⟩
  | 126 => ⟨S_, .f32⟩
  | 127 => ⟨S8x256x4096, .f32⟩
  | _ => ⟨S8x4096x3, .f32⟩

abbrev hbmTy0_1 (i : Nat) : BufTy := match i % 128 with
  | 0 => ⟨S8x256x4096, .f32⟩
  | 1 => ⟨S8x4096x128, .f32⟩
  | 2 => ⟨S8x128x4096, .f32⟩
  | 3 => ⟨S1x128x1, .f32⟩
  | 4 => ⟨S8x128x4096, .f32⟩
  | 5 => ⟨S8x128x4096, .f32⟩
  | 6 => ⟨S_, .f32⟩
  | 7 => ⟨S128, .f32⟩
  | 8 => ⟨S1x128x1, .f32⟩
  | 9 => ⟨S_, .f32⟩
  | 10 => ⟨S1x128x1, .f32⟩
  | 11 => ⟨S1x128x1, .f32⟩
  | 12 => ⟨S_, .i32⟩
  | 13 => ⟨S_, .f32⟩
  | 14 => ⟨S128, .f32⟩
  | 15 => ⟨S1x128x1, .f32⟩
  | 16 => ⟨S_, .f32⟩
  | 17 => ⟨S1x128x1, .f32⟩
  | 18 => ⟨S1x128x1, .f32⟩
  | 19 => ⟨S8x128x4096, .f32⟩
  | 20 => ⟨S8x128x4096, .f32⟩
  | 21 => ⟨S8x128x4096, .f32⟩
  | 22 => ⟨S_, .f32⟩
  | 23 => ⟨S_, .f32⟩
  | 24 => ⟨S_, .f32⟩
  | 25 => ⟨S_, .f32⟩
  | 26 => ⟨S128, .f32⟩
  | 27 => ⟨S1x128x1, .f32⟩
  | 28 => ⟨S1x128x1, .f32⟩
  | 29 => ⟨S1x128x1, .f32⟩
  | 30 => ⟨S_, .f32⟩
  | 31 => ⟨S_, .i1⟩
  | 32 => ⟨S_, .f32⟩
  | 33 => ⟨S_, .f32⟩
  | 34 => ⟨S1x128x1, .f32⟩
  | 35 => ⟨S1x128x1, .f32⟩
  | 36 => ⟨S8x128x4096, .f32⟩
  | 37 => ⟨S8x128x4096, .f32⟩
  | 38 => ⟨S_, .f32⟩
  | 39 => ⟨S1x128x1, .f32⟩
  | 40 => ⟨S1x128x1, .f32⟩
  | 41 => ⟨S1x128x1, .f32⟩
  | 42 => ⟨S8x128x4096, .f32⟩
  | 43 => ⟨S8x128x4096, .f32⟩
  | 44 => ⟨S1x128x1, .f32⟩
  | 45 => ⟨S8x128x4096, .f32⟩
  | 46 => ⟨S8x128x4096, .f32⟩
  | 47 => ⟨S1x128x1, .f32⟩
  | 48 => ⟨S8x128x4096, .f32⟩
  | 49 => ⟨S8x128x4096, .f32⟩
  | 50 => ⟨S_, .f32⟩
  | 51 => ⟨S8x128x4096, .f32⟩
  | 52 => ⟨S8x128x4096, .f32⟩
  | _ => ⟨S8x4096x3, .f32⟩

abbrev hbmTy (i : Nat) : BufTy := match i / 128 with
  | 0 => hbmTy0_0 i
  | 1 => hbmTy0_1 i
  | _ => ⟨S8x4096x3, .f32⟩

abbrev bufTy : (tb : Table) → Fin (tcTables nBuf tb) → BufTy
  | .hbm, ⟨i, _⟩ => hbmTy i
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_values : Ref sig .tc := ⟨.hbm, 37, rfl⟩
abbrev main_indices : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_cst_11 : Ref sig .tc := ⟨.hbm, 85, rfl⟩
abbrev main_v58 : Ref sig .tc := ⟨.hbm, 86, rfl⟩
abbrev main_v59 : Ref sig .tc := ⟨.hbm, 87, rfl⟩
abbrev main_c_12 : Ref sig .tc := ⟨.hbm, 88, rfl⟩
abbrev main_call0_cst : Ref sig .tc := ⟨.hbm, 89, rfl⟩
abbrev main_call0_v0 : Ref sig .tc := ⟨.hbm, 90, rfl⟩
abbrev main_call0_v1 : Ref sig .tc := ⟨.hbm, 91, rfl⟩
abbrev main_call0_cst_0 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_v5 : Ref sig .tc := ⟨.hbm, 96, rfl⟩
abbrev main_call0_v6 : Ref sig .tc := ⟨.hbm, 97, rfl⟩
abbrev main_call0_v7 : Ref sig .tc := ⟨.hbm, 98, rfl⟩
abbrev main_call0_cst_1 : Ref sig .tc := ⟨.hbm, 99, rfl⟩
abbrev main_call0_v8 : Ref sig .tc := ⟨.hbm, 100, rfl⟩
abbrev main_call0_cst_2 : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_call0_v12 : Ref sig .tc := ⟨.hbm, 105, rfl⟩
abbrev main_call0_cst_3 : Ref sig .tc := ⟨.hbm, 106, rfl⟩
abbrev main_call0_v13 : Ref sig .tc := ⟨.hbm, 107, rfl⟩
abbrev main_call0_cst_4 : Ref sig .tc := ⟨.hbm, 108, rfl⟩
abbrev main_call0_call0_v0 : Ref sig .tc := ⟨.hbm, 109, rfl⟩
abbrev main_call0_call0_v1 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_cst_13 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_14 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_15 : Ref sig .tc := ⟨.hbm, 134, rfl⟩
abbrev main_v81 : Ref sig .tc := ⟨.hbm, 135, rfl⟩
abbrev main_v82 : Ref sig .tc := ⟨.hbm, 136, rfl⟩
abbrev main_cst_16 : Ref sig .tc := ⟨.hbm, 137, rfl⟩
abbrev main_v83 : Ref sig .tc := ⟨.hbm, 138, rfl⟩
abbrev main_v84 : Ref sig .tc := ⟨.hbm, 139, rfl⟩
abbrev main_c_17 : Ref sig .tc := ⟨.hbm, 140, rfl⟩
abbrev main_call1_cst : Ref sig .tc := ⟨.hbm, 141, rfl⟩
abbrev main_call1_v0 : Ref sig .tc := ⟨.hbm, 142, rfl⟩
abbrev main_call1_v1 : Ref sig .tc := ⟨.hbm, 143, rfl⟩
abbrev main_call1_cst_0 : Ref sig .tc := ⟨.hbm, 144, rfl⟩
abbrev main_call1_v2 : Ref sig .tc := ⟨.hbm, 145, rfl⟩
abbrev main_call1_v3 : Ref sig .tc := ⟨.hbm, 146, rfl⟩
abbrev main_call1_v4 : Ref sig .tc := ⟨.hbm, 147, rfl⟩
abbrev main_call1_v5 : Ref sig .tc := ⟨.hbm, 148, rfl⟩
abbrev main_call1_v6 : Ref sig .tc := ⟨.hbm, 149, rfl⟩
abbrev main_call1_v7 : Ref sig .tc := ⟨.hbm, 150, rfl⟩
abbrev main_call1_cst_1 : Ref sig .tc := ⟨.hbm, 151, rfl⟩
abbrev main_call1_v8 : Ref sig .tc := ⟨.hbm, 152, rfl⟩
abbrev main_call1_cst_2 : Ref sig .tc := ⟨.hbm, 153, rfl⟩
abbrev main_call1_v9 : Ref sig .tc := ⟨.hbm, 154, rfl⟩
abbrev main_call1_v10 : Ref sig .tc := ⟨.hbm, 155, rfl⟩
abbrev main_call1_v11 : Ref sig .tc := ⟨.hbm, 156, rfl⟩
abbrev main_call1_v12 : Ref sig .tc := ⟨.hbm, 157, rfl⟩
abbrev main_call1_cst_3 : Ref sig .tc := ⟨.hbm, 158, rfl⟩
abbrev main_call1_v13 : Ref sig .tc := ⟨.hbm, 159, rfl⟩
abbrev main_call1_cst_4 : Ref sig .tc := ⟨.hbm, 160, rfl⟩
abbrev main_call1_call0_v0 : Ref sig .tc := ⟨.hbm, 161, rfl⟩
abbrev main_call1_call0_v1 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_cst_18 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_cst_19 : Ref sig .tc := ⟨.hbm, 178, rfl⟩
abbrev main_v99 : Ref sig .tc := ⟨.hbm, 179, rfl⟩
abbrev main_v100 : Ref sig .tc := ⟨.hbm, 180, rfl⟩

abbrev nD : Nat := 1
abbrev τ : Topo := Topo.v7x

variable {F : FTy → Type} [FloatOps F]
-- ==== Proof.Ideal.PassA.lean ====
/-
  The first kernel call: the three nearest neighbours' inverse distance weights, the interpolated features and
  the first convolution, block by block, with the running sums the next normalisation needs.  What its body leaves in
  the block, in the two sums and in the two scratch buffers, in each of its branches, the proof data over any contents
  the call finds (`datA`) and the body obligation at every grid point (`passA_body`).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.TableIdle
public import Idealize.ShloMosaic.Lib.Claim
public import Idealize.ShloMosaic.Lib.Ring
public import Idealize.ShloMosaic.Lib.Tactic

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The weight matrix of the block by the fast selection, -/
def fastA (x0 : Vec F S1x2048x3 .f32) (x1 : Vec F S1x3x1024 .f32) : FVec F S2048x1024 .f32 :=
  k0_pay27 (k0_pay15 x0) (k0_pay20 x0 x1) (k0_pay21 x0 x1) (k0_pay22 x0 x1) (k0_pay24 x0 x1) (k0_pay25 x0 x1)

/-- by the exact selection, -/
def exactA (x0 : Vec F S1x2048x3 .f32) (x1 : Vec F S1x3x1024 .f32) : FVec F S2048x1024 .f32 :=
  k0_pay30 (iota .tc S2048x1024 32 [1] iota_S2048x1024_d1_w32) (k0_pay5 (k0_pay15 x0) (k0_pay16 x1) (k0_pay17 x0 x1))
    (k0_pay6 (k0_pay15 x0) (k0_pay16 x1) (k0_pay17 x0 x1)) (k0_pay9 (k0_pay15 x0) (k0_pay16 x1) (k0_pay17 x0 x1))
    (k0_pay10 (k0_pay15 x0) (k0_pay16 x1) (k0_pay17 x0 x1)) (k0_pay11 (k0_pay15 x0) (k0_pay16 x1) (k0_pay17 x0 x1))

/-- whether some row of the fast one does not add up to one, -/
def offA (x0 : Vec F S1x2048x3 .f32) (x1 : Vec F S1x3x1024 .f32) : BitVec 1 :=
  Scalar.cmpi .ne (Scalar.extui (Scalar.cmpf .ogt (k0_pay29 (k0_pay28 (k0_pay15 x0) (k0_pay20 x0 x1) (k0_pay21 x0 x1)
    (k0_pay22 x0 x1) (k0_pay24 x0 x1) (k0_pay25 x0 x1))) (Scalar.ofBits .f32 0x38D1B717#32)) : BitVec 32) 0#32

/-- and the one the body goes on with. -/
def weightsA (x0 : Vec F S1x2048x3 .f32) (x1 : Vec F S1x3x1024 .f32) : FVec F S2048x1024 .f32 :=
  if offA x0 x1 = 1#1 then exactA x0 x1 else fastA x0 x1

/-- Whether a point starts a batch. -/
def startA (i : grid0.Coords) : BitVec 1 := Scalar.cmpi .ne (Scalar.extui (Scalar.cmpi .eq (BitVec.ofNat 32 (i 1).val) 0#32) : BitVec 32) 0#32

/-- A load of a whole buffer after whole stores reads the last of them. -/
theorem read_last {Val : EltTy → Type} [∀ e, Nonempty (Val e)] {S : Shape} {e : EltTy} {sg : RefSig} {κ : Kind} {sp : Space}
    (v : View sg κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

set_option maxHeartbeats 4000000 in
/-- The body where the sums start, the exact selection taken. -/
theorem passA_first_off (c : Dev nD) (E : Set ℕ) (i : grid0.Coords) (arg2 : Memref sig .tc .vmem S1x2048x3 .f32) (harg2 : arg2.IsWhole) (arg3 : Memref sig .tc .vmem S1x3x1024 .f32) (harg3 : arg3.IsWhole) (arg4 : Memref sig .tc .vmem S1x256x1024 .f32) (harg4 : arg4.IsWhole) (arg5 : Memref sig .tc .vmem S1x128x2048 .f32) (harg5 : arg5.IsWhole) (arg6 : Memref sig .tc .vmem S256x256 .f32) (harg6 : arg6.IsWhole) (arg7 : Memref sig .tc .vmem S256x128 .f32) (harg7 : arg7.IsWhole) (arg8 : Memref sig .tc .vmem S1x256 .f32) (harg8 : arg8.IsWhole) (arg9 : Memref sig .tc .vmem S1x256x2048 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x1024 .f32) (harg12 : arg12.IsWhole) (arg13 : Memref sig .tc .vmem S2048x1024 .f32) (harg13 : arg13.IsWhole)
    (hc0 : startA i = 1#1) (hc2 : k0_cond3 i = 1#1) (hc3 : ¬k0_cond4 i = 1#1) (x0 : Vec F S1x2048x3 .f32) (x1 : Vec F S1x3x1024 .f32) (x2 : Vec F S1x256x1024 .f32) (x3 : Vec F S1x128x2048 .f32) (x4 : Vec F S256x256 .f32) (x5 : Vec F S256x128 .f32) (x6 : Vec F S1x256 .f32) (hc1 : offA x0 x1 = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay32 (k0_pay12 x4 x2) (exactA x0 x1) x5 x3 x6)
            ∗ owns (c : Thread nD τ) arg10 fullShare (k0_pay35 (k0_pay12 x4 x2) (exactA x0 x1) x5 x3 x6)
            ∗ owns (c : Thread nD τ) arg11 fullShare (k0_pay36 (k0_pay12 x4 x2) (exactA x0 x1) x5 x3 x6)
            ∗ owns (c : Thread nD τ) arg12 fullShare (k0_pay12 x4 x2)
            ∗ (∃ d, owns (c : Thread nD τ) arg13 fullShare d)) -∗ K ⟨⟩))
      ⊢ wp frame (wpE (defs₀ (F := F)) Variants.none c none) E
          (cc0__pass_a i arg2 harg2 arg3 harg3 arg4 harg4 arg5 harg5 arg6 harg6 arg7 harg7 arg8 harg8 arg9 harg9 arg10 harg10 arg11 harg11 arg12 harg12 arg13 harg13) K := by
  simp only [cc0__pass_a_eq_skeleton]; unfold cc0__pass_a_skel
  simp only [k0_part2_eq_skeleton, k0_part3_eq_skeleton, k0_part4_eq_skeleton]
  unfold k0_part2_skel k0_part3_skel k0_part4_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%dg, %fg, -, Hg⟩, ⟨%dw, %fw, -, Hw⟩, Hk⟩
  subst hf0 hf1 hf2 hf3 hf4 hf5 hf6
  unfold startA at hc0
  unfold offA at hc1
  have e0 := View.ld_unit_zero (Val := Elt F) (e := .f32) (S := S1x2048x3) (off := ![0, 0, 0]) (by decide) inb_S1x2048x3_S1x2048x3_0_0_0 (arg2.view.read (Elt F) f0)
  have e1 := View.ld_unit_zero (Val := Elt F) (e := .f32) (S := S1x3x1024) (off := ![0, 0, 0]) (by decide) inb_S1x3x1024_S1x3x1024_0_0_0 (arg3.view.read (Elt F) f1)
  sl_exec (disch := first | sl_exact hc0 | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (fun y => View.cover_of_tiled (Val := Elt F) [⟨_, _⟩] S1x256x2048.size (by rfl) y)]
    rw [View.canon_unit_zero (by decide)]
    refine congr (congr (congr (congr (congrArg k0_pay32 ?_) ?_) (View.ld_unit_zero (by decide) _ _)) (View.ld_unit_zero (by decide) _ _)) (View.ld_unit_zero (by decide) _ _)
    · unfold passA_first_off.sl.v91
      try unfold passA_first_off.sl.Hg_1
      rw [read_last _ (by decide)]
      exact congr (congrArg k0_pay12 (View.ld_unit_zero (by decide) _ _)) (View.ld_unit_zero (by decide) _ _)
    · unfold passA_first_off.sl.v92
      try unfold passA_first_off.sl.Hw_2
      try unfold passA_first_off.sl.Hw_1
      rw [read_last _ (by decide)]
      dsimp only [exactA, passA_first_off.sl.v119]
  isplitl [H8]
  · iexists _; isplitr
    swap; · iexact H8
    ipureintro
    rw [View.read_writes_eq_canon _ _ _ (fun y => View.cover_of_tiled (Val := Elt F) [⟨_, _⟩] S1x256.size (by rfl) y)]
    rw [View.canon_unit_zero (by decide)]
    refine congr (congr (congr (congr (congrArg k0_pay35 ?_) ?_) (View.ld_unit_zero (by decide) _ _)) (View.ld_unit_zero (by decide) _ _)) (View.ld_unit_zero (by decide) _ _)
    · unfold passA_first_off.sl.v91
      try unfold passA_first_off.sl.Hg_1
      rw [read_last _ (by decide)]
      exact congr (congrArg k0_pay12 (View.ld_unit_zero (by decide) _ _)) (View.ld_unit_zero (by decide) _ _)
    · unfold passA_first_off.sl.v92
      try unfold passA_first_off.sl.Hw_2
      try unfold passA_first_off.sl.Hw_1
      rw [read_last _ (by decide)]
      dsimp only [exactA, passA_first_off.sl.v119]
  isplitl [H9]
  · iexists _; isplitr
    swap; · iexact H9
    ipureintro
    rw [View.read_writes_eq_canon _ _ _ (fun y => View.cover_of_tiled (Val := Elt F) [⟨_, _⟩] S1x256.size (by rfl) y)]
    rw [View.canon_unit_zero (by decide)]
    refine congr (congr (congr (congr (congrArg k0_pay36 ?_) ?_) (View.ld_unit_zero (by decide) _ _)) (View.ld_unit_zero (by decide) _ _)) (View.ld_unit_zero (by decide) _ _)
    · unfold passA_first_off.sl.v91
      try unfold passA_first_off.sl.Hg_1
      rw [read_last _ (by decide)]
      exact congr (congrArg k0_pay12 (View.ld_unit_zero (by decide) _ _)) (View.ld_unit_zero (by decide) _ _)
    · unfold passA_first_off.sl.v92
      try unfold passA_first_off.sl.Hw_2
      try unfold passA_first_off.sl.Hw_1
      rw [read_last _ (by decide)]
      dsimp only [exactA, passA_first_off.sl.v119]
  isplitl [Hg]
  · iexists _; isplitr
    swap; · iexact Hg
    ipureintro
    try unfold passA_first_off.sl.Hg_1
    rw [View.read_writes_eq_canon _ _ _ (fun y => View.cover_of_tiled (Val := Elt F) [⟨_, _⟩] S256x1024.size (by rfl) y)]
    rw [View.canon_unit_zero (by decide)]
    exact congr (congrArg k0_pay12 (View.ld_unit_zero (by decide) _ _)) (View.ld_unit_zero (by decide) _ _)
  iexists _, _; isplitr
  swap; · iexact Hw
  ipureintro; rfl

set_option maxHeartbeats 4000000 in
/-- The body where the sums start, the fast selection kept. -/
theorem passA_first_on (c : Dev nD) (E : Set ℕ) (i : grid0.Coords) (arg2 : Memref sig .tc .vmem S1x2048x3 .f32) (harg2 : arg2.IsWhole) (arg3 : Memref sig .tc .vmem S1x3x1024 .f32) (harg3 : arg3.IsWhole) (arg4 : Memref sig .tc .vmem S1x256x1024 .f32) (harg4 : arg4.IsWhole) (arg5 : Memref sig .tc .vmem S1x128x2048 .f32) (harg5 : arg5.IsWhole) (arg6 : Memref sig .tc .vmem S256x256 .f32) (harg6 : arg6.IsWhole) (arg7 : Memref sig .tc .vmem S256x128 .f32) (harg7 : arg7.IsWhole) (arg8 : Memref sig .tc .vmem S1x256 .f32) (harg8 : arg8.IsWhole) (arg9 : Memref sig .tc .vmem S1x256x2048 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x1024 .f32) (harg12 : arg12.IsWhole) (arg13 : Memref sig .tc .vmem S2048x1024 .f32) (harg13 : arg13.IsWhole)
    (hc0 : startA i = 1#1) (hc2 : k0_cond3 i = 1#1) (hc3 : ¬k0_cond4 i = 1#1) (x0 : Vec F S1x2048x3 .f32) (x1 : Vec F S1x3x1024 .f32) (x2 : Vec F S1x256x1024 .f32) (x3 : Vec F S1x128x2048 .f32) (x4 : Vec F S256x256 .f32) (x5 : Vec F S256x128 .f32) (x6 : Vec F S1x256 .f32) (hc1 : ¬offA x0 x1 = 1#1) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay32 (k0_pay12 x4 x2) (fastA x0 x1) x5 x3 x6)
            ∗ owns (c : Thread nD τ) arg10 fullShare (k0_pay35 (k0_pay12 x4 x2) (fastA x0 x1) x5 x3 x6)
            ∗ owns (c : Thread nD τ) arg11 fullShare (k0_pay36 (k0_pay12 x4 x2) (fastA x0 x1) x5 x3 x6)
            ∗ owns (c : Thread nD τ) arg12 fullShare (k0_pay12 x4 x2)
            ∗ (∃ d, owns (c : Thread nD τ) arg13 fullShare d)) -∗ K ⟨⟩))
      ⊢ wp frame (wpE (defs₀ (F := F)) Variants.none c none) E
          (cc0__pass_a i arg2 harg2 arg3 harg3 arg4 harg4 arg5 harg5 arg6 harg6 arg7 harg7 arg8 harg8 arg9 harg9 arg10 harg10 arg11 harg11 arg12 harg12 arg13 harg13) K := by
  simp only [cc0__pass_a_eq_skeleton]; unfold cc0__pass_a_skel
  simp only [k0_part2_eq_skeleton, k0_part3_eq_skeleton, k0_part4_eq_skeleton]
  unfold k0_part2_skel k0_part3_skel k0_part4_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%dg, %fg, -, Hg⟩, ⟨%dw, %fw, -, Hw⟩, Hk⟩
  subst hf0 hf1 hf2 hf3 hf4 hf5 hf6
  unfold startA at hc0
  unfold offA at hc1
  have e0 := View.ld_unit_zero (Val := Elt F) (e := .f32) (S := S1x2048x3) (off := ![0, 0, 0]) (by decide) inb_S1x2048x3_S1x2048x3_0_0_0 (arg2.view.read (Elt F) f0)
  have e1 := View.ld_unit_zero (Val := Elt F) (e := .f32) (S := S1x3x1024) (off := ![0, 0, 0]) (by decide) inb_S1x3x1024_S1x3x1024_0_0_0 (arg3.view.read (Elt F) f1)
  sl_exec (disch := first | sl_exact hc0 | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (fun y => View.cover_of_tiled (Val := Elt F) [⟨_, _⟩] S1x256x2048.size (by rfl) y)]
    rw [View.canon_unit_zero (by decide)]
    refine congr (congr (congr (congr (congrArg k0_pay32 ?_) ?_) (View.ld_unit_zero (by decide) _ _)) (View.ld_unit_zero (by decide) _ _)) (View.ld_unit_zero (by decide) _ _)
    · unfold passA_first_on.sl.v91
      try unfold passA_first_on.sl.Hg_1
      rw [read_last _ (by decide)]
      exact congr (congrArg k0_pay12 (View.ld_unit_zero (by decide) _ _)) (View.ld_unit_zero (by decide) _ _)
    · unfold passA_first_on.sl.v92
      try unfold passA_first_on.sl.Hw_2
      try unfold passA_first_on.sl.Hw_1
      rw [read_last _ (by decide)]
      dsimp only [fastA]
  isplitl [H8]
  · iexists _; isplitr
    swap; · iexact H8
    ipureintro
    rw [View.read_writes_eq_canon _ _ _ (fun y => View.cover_of_tiled (Val := Elt F) [⟨_, _⟩] S1x256.size (by rfl) y)]
    rw [View.canon_unit_zero (by decide)]
    refine congr (congr (congr (congr (congrArg k0_pay35 ?_) ?_) (View.ld_unit_zero (by decide) _ _)) (View.ld_unit_zero (by decide) _ _)) (View.ld_unit_zero (by decide) _ _)
    · unfold passA_first_on.sl.v91
      try unfold passA_first_on.sl.Hg_1
      rw [read_last _ (by decide)]
      exact congr (congrArg k0_pay12 (View.ld_unit_zero (by decide) _ _)) (View.ld_unit_zero (by decide) _ _)
    · unfold passA_first_on.sl.v92
      try unfold passA_first_on.sl.Hw_2
      try unfold passA_first_on.sl.Hw_1
      rw [read_last _ (by decide)]
      dsimp only [fastA]
  isplitl [H9]
  · iexists _; isplitr
    swap; · iexact H9
    ipureintro
    rw [View.read_writes_eq_canon _ _ _ (fun y => View.cover_of_tiled (Val := Elt F) [⟨_, _⟩] S1x256.size (by rfl) y)]
    rw [View.canon_unit_zero (by decide)]
    refine congr (congr (congr (congr (congrArg k0_pay36 ?_) ?_) (View.ld_unit_zero (by decide) _ _)) (View.ld_unit_zero (by decide) _ _)) (View.ld_unit_zero (by decide) _ _)
    · unfold passA_first_on.sl.v91
      try unfold passA_first_on.sl.Hg_1
      rw [read_last _ (by decide)]
      exact congr (congrArg k0_pay12 (View.ld_unit_zero (by decide) _ _)) (View.ld_unit_zero (by decide) _ _)
    · unfold passA_first_on.sl.v92
      try unfold passA_first_on.sl.Hw_2
      try unfold passA_first_on.sl.Hw_1
      rw [read_last _ (by decide)]
      dsimp only [fastA]
  isplitl [Hg]
  · iexists _; isplitr
    swap; · iexact Hg
    ipureintro
    try unfold passA_first_on.sl.Hg_1
    rw [View.read_writes_eq_canon _ _ _ (fun y => View.cover_of_tiled (Val := Elt F) [⟨_, _⟩] S256x1024.size (by rfl) y)]
    rw [View.canon_unit_zero (by decide)]
    exact congr (congrArg k0_pay12 (View.ld_unit_zero (by decide) _ _)) (View.ld_unit_zero (by decide) _ _)
  iexists _, _; isplitr
  swap; · iexact Hw
  ipureintro; rfl

set_option maxHeartbeats 4000000 in
/-- The body where a later batch starts, the exact selection taken. -/
theorem passA_start_off (c : Dev nD) (E : Set ℕ) (i : grid0.Coords) (arg2 : Memref sig .tc .vmem S1x2048x3 .f32) (harg2 : arg2.IsWhole) (arg3 : Memref sig .tc .vmem S1x3x1024 .f32) (harg3 : arg3.IsWhole) (arg4 : Memref sig .tc .vmem S1x256x1024 .f32) (harg4 : arg4.IsWhole) (arg5 : Memref sig .tc .vmem S1x128x2048 .f32) (harg5 : arg5.IsWhole) (arg6 : Memref sig .tc .vmem S256x256 .f32) (harg6 : arg6.IsWhole) (arg7 : Memref sig .tc .vmem S256x128 .f32) (harg7 : arg7.IsWhole) (arg8 : Memref sig .tc .vmem S1x256 .f32) (harg8 : arg8.IsWhole) (arg9 : Memref sig .tc .vmem S1x256x2048 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x1024 .f32) (harg12 : arg12.IsWhole) (arg13 : Memref sig .tc .vmem S2048x1024 .f32) (harg13 : arg13.IsWhole)
    (hc0 : startA i = 1#1) (hc2 : ¬k0_cond3 i = 1#1) (hc3 : k0_cond4 i = 1#1) (x0 : Vec F S1x2048x3 .f32) (x1 : Vec F S1x3x1024 .f32) (x2 : Vec F S1x256x1024 .f32) (x3 : Vec F S1x128x2048 .f32) (x4 : Vec F S256x256 .f32) (x5 : Vec F S256x128 .f32) (x6 : Vec F S1x256 .f32) (hc1 : offA x0 x1 = 1#1) (a8 a9 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare a8 ∗ owns (c : Thread nD τ) arg11 fullShare a9
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay32 (k0_pay12 x4 x2) (exactA x0 x1) x5 x3 x6)
            ∗ owns (c : Thread nD τ) arg10 fullShare (k0_pay1 (k0_pay33 (k0_pay12 x4 x2) (exactA x0 x1) x5 x3 x6) a8)
            ∗ owns (c : Thread nD τ) arg11 fullShare (k0_pay2 (k0_pay34 (k0_pay12 x4 x2) (exactA x0 x1) x5 x3 x6) a9)
            ∗ owns (c : Thread nD τ) arg12 fullShare (k0_pay12 x4 x2)
            ∗ (∃ d, owns (c : Thread nD τ) arg13 fullShare d)) -∗ K ⟨⟩))
      ⊢ wp frame (wpE (defs₀ (F := F)) Variants.none c none) E
          (cc0__pass_a i arg2 harg2 arg3 harg3 arg4 harg4 arg5 harg5 arg6 harg6 arg7 harg7 arg8 harg8 arg9 harg9 arg10 harg10 arg11 harg11 arg12 harg12 arg13 harg13) K := by
  simp only [cc0__pass_a_eq_skeleton]; unfold cc0__pass_a_skel
  simp only [k0_part2_eq_skeleton, k0_part3_eq_skeleton, k0_part4_eq_skeleton]
  unfold k0_part2_skel k0_part3_skel k0_part4_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%dg, %fg, -, Hg⟩, ⟨%dw, %fw, -, Hw⟩, Hk⟩
  subst hf0 hf1 hf2 hf3 hf4 hf5 hf6 hf8 hf9
  unfold startA at hc0
  unfold offA at hc1
  have e0 := View.ld_unit_zero (Val := Elt F) (e := .f32) (S := S1x2048x3) (off := ![0, 0, 0]) (by decide) inb_S1x2048x3_S1x2048x3_0_0_0 (arg2.view.read (Elt F) f0)
  have e1 := View.ld_unit_zero (Val := Elt F) (e := .f32) (S := S1x3x1024) (off := ![0, 0, 0]) (by decide) inb_S1x3x1024_S1x3x1024_0_0_0 (arg3.view.read (Elt F) f1)
  sl_exec (disch := first | sl_exact hc0 | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (fun y => View.cover_of_tiled (Val := Elt F) [⟨_, _⟩] S1x256x2048.size (by rfl) y)]
    rw [View.canon_unit_zero (by decide)]
    refine congr (congr (congr (congr (congrArg k0_pay32 ?_) ?_) (View.ld_unit_zero (by decide) _ _)) (View.ld_unit_zero (by decide) _ _)) (View.ld_unit_zero (by decide) _ _)
    · unfold passA_start_off.sl.v91
      try unfold passA_start_off.sl.Hg_1
      rw [read_last _ (by decide)]
      exact congr (congrArg k0_pay12 (View.ld_unit_zero (by decide) _ _)) (View.ld_unit_zero (by decide) _ _)
    · unfold passA_start_off.sl.v92
      try unfold passA_start_off.sl.Hw_2
      try unfold passA_start_off.sl.Hw_1
      rw [read_last _ (by decide)]
      dsimp only [exactA, passA_start_off.sl.v119]
  isplitl [H8]
  · iexists _; isplitr
    swap; · iexact H8
    ipureintro
    rw [View.read_writes_eq_canon _ _ _ (fun y => View.cover_of_tiled (Val := Elt F) [⟨_, _⟩] S1x256.size (by rfl) y)]
    rw [View.canon_unit_zero (by decide)]
    refine congr (congrArg k0_pay1 (congr (congr (congr (congr (congrArg k0_pay33 ?_) ?_) (View.ld_unit_zero (by decide) _ _)) (View.ld_unit_zero (by decide) _ _)) (View.ld_unit_zero (by decide) _ _))) (View.ld_unit_zero (by decide) _ _)
    · unfold passA_start_off.sl.v91
      try unfold passA_start_off.sl.Hg_1
      rw [read_last _ (by decide)]
      exact congr (congrArg k0_pay12 (View.ld_unit_zero (by decide) _ _)) (View.ld_unit_zero (by decide) _ _)
    · unfold passA_start_off.sl.v92
      try unfold passA_start_off.sl.Hw_2
      try unfold passA_start_off.sl.Hw_1
      rw [read_last _ (by decide)]
      dsimp only [exactA, passA_start_off.sl.v119]
  isplitl [H9]
  · iexists _; isplitr
    swap; · iexact H9
    ipureintro
    rw [View.read_writes_eq_canon _ _ _ (fun y => View.cover_of_tiled (Val := Elt F) [⟨_, _⟩] S1x256.size (by rfl) y)]
    rw [View.canon_unit_zero (by decide)]
    refine congr (congrArg k0_pay2 (congr (congr (congr (congr (congrArg k0_pay34 ?_) ?_) (View.ld_unit_zero (by decide) _ _)) (View.ld_unit_zero (by decide) _ _)) (View.ld_unit_zero (by decide) _ _))) (View.ld_unit_zero (by decide) _ _)
    · unfold passA_start_off.sl.v91
      try unfold passA_start_off.sl.Hg_1
      rw [read_last _ (by decide)]
      exact congr (congrArg k0_pay12 (View.ld_unit_zero (by decide) _ _)) (View.ld_unit_zero (by decide) _ _)
    · unfold passA_start_off.sl.v92
      try unfold passA_start_off.sl.Hw_2
      try unfold passA_start_off.sl.Hw_1
      rw [read_last _ (by decide)]
      dsimp only [exactA, passA_start_off.sl.v119]
  isplitl [Hg]
  · iexists _; isplitr
    swap; · iexact Hg
    ipureintro
    try unfold passA_start_off.sl.Hg_1
    rw [View.read_writes_eq_canon _ _ _ (fun y => View.cover_of_tiled (Val := Elt F) [⟨_, _⟩] S256x1024.size (by rfl) y)]
    rw [View.canon_unit_zero (by decide)]
    exact congr (congrArg k0_pay12 (View.ld_unit_zero (by decide) _ _)) (View.ld_unit_zero (by decide) _ _)
  iexists _, _; isplitr
  swap; · iexact Hw
  ipureintro; rfl

set_option maxHeartbeats 4000000 in
/-- The body where a later batch starts, the fast selection kept. -/
theorem passA_start_on (c : Dev nD) (E : Set ℕ) (i : grid0.Coords) (arg2 : Memref sig .tc .vmem S1x2048x3 .f32) (harg2 : arg2.IsWhole) (arg3 : Memref sig .tc .vmem S1x3x1024 .f32) (harg3 : arg3.IsWhole) (arg4 : Memref sig .tc .vmem S1x256x1024 .f32) (harg4 : arg4.IsWhole) (arg5 : Memref sig .tc .vmem S1x128x2048 .f32) (harg5 : arg5.IsWhole) (arg6 : Memref sig .tc .vmem S256x256 .f32) (harg6 : arg6.IsWhole) (arg7 : Memref sig .tc .vmem S256x128 .f32) (harg7 : arg7.IsWhole) (arg8 : Memref sig .tc .vmem S1x256 .f32) (harg8 : arg8.IsWhole) (arg9 : Memref sig .tc .vmem S1x256x2048 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x1024 .f32) (harg12 : arg12.IsWhole) (arg13 : Memref sig .tc .vmem S2048x1024 .f32) (harg13 : arg13.IsWhole)
    (hc0 : startA i = 1#1) (hc2 : ¬k0_cond3 i = 1#1) (hc3 : k0_cond4 i = 1#1) (x0 : Vec F S1x2048x3 .f32) (x1 : Vec F S1x3x1024 .f32) (x2 : Vec F S1x256x1024 .f32) (x3 : Vec F S1x128x2048 .f32) (x4 : Vec F S256x256 .f32) (x5 : Vec F S256x128 .f32) (x6 : Vec F S1x256 .f32) (hc1 : ¬offA x0 x1 = 1#1) (a8 a9 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare a8 ∗ owns (c : Thread nD τ) arg11 fullShare a9
        ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay32 (k0_pay12 x4 x2) (fastA x0 x1) x5 x3 x6)
            ∗ owns (c : Thread nD τ) arg10 fullShare (k0_pay1 (k0_pay33 (k0_pay12 x4 x2) (fastA x0 x1) x5 x3 x6) a8)
            ∗ owns (c : Thread nD τ) arg11 fullShare (k0_pay2 (k0_pay34 (k0_pay12 x4 x2) (fastA x0 x1) x5 x3 x6) a9)
            ∗ owns (c : Thread nD τ) arg12 fullShare (k0_pay12 x4 x2)
            ∗ (∃ d, owns (c : Thread nD τ) arg13 fullShare d)) -∗ K ⟨⟩))
      ⊢ wp frame (wpE (defs₀ (F := F)) Variants.none c none) E
          (cc0__pass_a i arg2 harg2 arg3 harg3 arg4 harg4 arg5 harg5 arg6 harg6 arg7 harg7 arg8 harg8 arg9 harg9 arg10 harg10 arg11 harg11 arg12 harg12 arg13 harg13) K := by
  simp only [cc0__pass_a_eq_skeleton]; unfold cc0__pass_a_skel
  simp only [k0_part2_eq_skeleton, k0_part3_eq_skeleton, k0_part4_eq_skeleton]
  unfold k0_part2_skel k0_part3_skel k0_part4_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%dg, %fg, -, Hg⟩, ⟨%dw, %fw, -, Hw⟩, Hk⟩
  subst hf0 hf1 hf2 hf3 hf4 hf5 hf6 hf8 hf9
  unfold startA at hc0
  unfold offA at hc1
  have e0 := View.ld_unit_zero (Val := Elt F) (e := .f32) (S := S1x2048x3) (off := ![0, 0, 0]) (by decide) inb_S1x2048x3_S1x2048x3_0_0_0 (arg2.view.read (Elt F) f0)
  have e1 := View.ld_unit_zero (Val := Elt F) (e := .f32) (S := S1x3x1024) (off := ![0, 0, 0]) (by decide) inb_S1x3x1024_S1x3x1024_0_0_0 (arg3.view.read (Elt F) f1)
  sl_exec (disch := first | sl_exact hc0 | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (fun y => View.cover_of_tiled (Val := Elt F) [⟨_, _⟩] S1x256x2048.size (by rfl) y)]
    rw [View.canon_unit_zero (by decide)]
    refine congr (congr (congr (congr (congrArg k0_pay32 ?_) ?_) (View.ld_unit_zero (by decide) _ _)) (View.ld_unit_zero (by decide) _ _)) (View.ld_unit_zero (by decide) _ _)
    · unfold passA_start_on.sl.v91
      try unfold passA_start_on.sl.Hg_1
      rw [read_last _ (by decide)]
      exact congr (congrArg k0_pay12 (View.ld_unit_zero (by decide) _ _)) (View.ld_unit_zero (by decide) _ _)
    · unfold passA_start_on.sl.v92
      try unfold passA_start_on.sl.Hw_2
      try unfold passA_start_on.sl.Hw_1
      rw [read_last _ (by decide)]
      dsimp only [fastA]
  isplitl [H8]
  · iexists _; isplitr
    swap; · iexact H8
    ipureintro
    rw [View.read_writes_eq_canon _ _ _ (fun y => View.cover_of_tiled (Val := Elt F) [⟨_, _⟩] S1x256.size (by rfl) y)]
    rw [View.canon_unit_zero (by decide)]
    refine congr (congrArg k0_pay1 (congr (congr (congr (congr (congrArg k0_pay33 ?_) ?_) (View.ld_unit_zero (by decide) _ _)) (View.ld_unit_zero (by decide) _ _)) (View.ld_unit_zero (by decide) _ _))) (View.ld_unit_zero (by decide) _ _)
    · unfold passA_start_on.sl.v91
      try unfold passA_start_on.sl.Hg_1
      rw [read_last _ (by decide)]
      exact congr (congrArg k0_pay12 (View.ld_unit_zero (by decide) _ _)) (View.ld_unit_zero (by decide) _ _)
    · unfold passA_start_on.sl.v92
      try unfold passA_start_on.sl.Hw_2
      try unfold passA_start_on.sl.Hw_1
      rw [read_last _ (by decide)]
      dsimp only [fastA]
  isplitl [H9]
  · iexists _; isplitr
    swap; · iexact H9
    ipureintro
    rw [View.read_writes_eq_canon _ _ _ (fun y => View.cover_of_tiled (Val := Elt F) [⟨_, _⟩] S1x256.size (by rfl) y)]
    rw [View.canon_unit_zero (by decide)]
    refine congr (congrArg k0_pay2 (congr (congr (congr (congr (congrArg k0_pay34 ?_) ?_) (View.ld_unit_zero (by decide) _ _)) (View.ld_unit_zero (by decide) _ _)) (View.ld_unit_zero (by decide) _ _))) (View.ld_unit_zero (by decide) _ _)
    · unfold passA_start_on.sl.v91
      try unfold passA_start_on.sl.Hg_1
      rw [read_last _ (by decide)]
      exact congr (congrArg k0_pay12 (View.ld_unit_zero (by decide) _ _)) (View.ld_unit_zero (by decide) _ _)
    · unfold passA_start_on.sl.v92
      try unfold passA_start_on.sl.Hw_2
      try unfold passA_start_on.sl.Hw_1
      rw [read_last _ (by decide)]
      dsimp only [fastA]
  isplitl [Hg]
  · iexists _; isplitr
    swap; · iexact Hg
    ipureintro
    try unfold passA_start_on.sl.Hg_1
    rw [View.read_writes_eq_canon _ _ _ (fun y => View.cover_of_tiled (Val := Elt F) [⟨_, _⟩] S256x1024.size (by rfl) y)]
    rw [View.canon_unit_zero (by decide)]
    exact congr (congrArg k0_pay12 (View.ld_unit_zero (by decide) _ _)) (View.ld_unit_zero (by decide) _ _)
  iexists _, _; isplitr
  swap; · iexact Hw
  ipureintro; rfl

set_option maxHeartbeats 4000000 in
/-- The body within a batch, the exact selection taken. -/
theorem passA_next_off (c : Dev nD) (E : Set ℕ) (i : grid0.Coords) (arg2 : Memref sig .tc .vmem S1x2048x3 .f32) (harg2 : arg2.IsWhole) (arg3 : Memref sig .tc .vmem S1x3x1024 .f32) (harg3 : arg3.IsWhole) (arg4 : Memref sig .tc .vmem S1x256x1024 .f32) (harg4 : arg4.IsWhole) (arg5 : Memref sig .tc .vmem S1x128x2048 .f32) (harg5 : arg5.IsWhole) (arg6 : Memref sig .tc .vmem S256x256 .f32) (harg6 : arg6.IsWhole) (arg7 : Memref sig .tc .vmem S256x128 .f32) (harg7 : arg7.IsWhole) (arg8 : Memref sig .tc .vmem S1x256 .f32) (harg8 : arg8.IsWhole) (arg9 : Memref sig .tc .vmem S1x256x2048 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x1024 .f32) (harg12 : arg12.IsWhole) (arg13 : Memref sig .tc .vmem S2048x1024 .f32) (harg13 : arg13.IsWhole)
    (hc0 : ¬startA i = 1#1) (hc2 : ¬k0_cond3 i = 1#1) (hc3 : k0_cond4 i = 1#1) (x0 : Vec F S1x2048x3 .f32) (x1 : Vec F S1x3x1024 .f32) (x2 : Vec F S1x256x1024 .f32) (x3 : Vec F S1x128x2048 .f32) (x4 : Vec F S256x256 .f32) (x5 : Vec F S256x128 .f32) (x6 : Vec F S1x256 .f32) (hc1 : offA x0 x1 = 1#1) (a8 a9 : Vec F S1x256 .f32) (g : Vec F S256x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare a8 ∗ owns (c : Thread nD τ) arg11 fullShare a9
        ∗ owns (c : Thread nD τ) arg12 fullShare g ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay32 g (exactA x0 x1) x5 x3 x6)
            ∗ owns (c : Thread nD τ) arg10 fullShare (k0_pay1 (k0_pay33 g (exactA x0 x1) x5 x3 x6) a8)
            ∗ owns (c : Thread nD τ) arg11 fullShare (k0_pay2 (k0_pay34 g (exactA x0 x1) x5 x3 x6) a9)
            ∗ owns (c : Thread nD τ) arg12 fullShare g
            ∗ (∃ d, owns (c : Thread nD τ) arg13 fullShare d)) -∗ K ⟨⟩))
      ⊢ wp frame (wpE (defs₀ (F := F)) Variants.none c none) E
          (cc0__pass_a i arg2 harg2 arg3 harg3 arg4 harg4 arg5 harg5 arg6 harg6 arg7 harg7 arg8 harg8 arg9 harg9 arg10 harg10 arg11 harg11 arg12 harg12 arg13 harg13) K := by
  simp only [cc0__pass_a_eq_skeleton]; unfold cc0__pass_a_skel
  simp only [k0_part2_eq_skeleton, k0_part3_eq_skeleton, k0_part4_eq_skeleton]
  unfold k0_part2_skel k0_part3_skel k0_part4_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fg, %hfg, Hg⟩, ⟨%dw, %fw, -, Hw⟩, Hk⟩
  subst hf0 hf1 hf2 hf3 hf4 hf5 hf6 hf8 hf9 hfg
  unfold startA at hc0
  unfold offA at hc1
  have e0 := View.ld_unit_zero (Val := Elt F) (e := .f32) (S := S1x2048x3) (off := ![0, 0, 0]) (by decide) inb_S1x2048x3_S1x2048x3_0_0_0 (arg2.view.read (Elt F) f0)
  have e1 := View.ld_unit_zero (Val := Elt F) (e := .f32) (S := S1x3x1024) (off := ![0, 0, 0]) (by decide) inb_S1x3x1024_S1x3x1024_0_0_0 (arg3.view.read (Elt F) f1)
  sl_exec (disch := first | sl_exact hc0 | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (fun y => View.cover_of_tiled (Val := Elt F) [⟨_, _⟩] S1x256x2048.size (by rfl) y)]
    rw [View.canon_unit_zero (by decide)]
    refine congr (congr (congr (congr (congrArg k0_pay32 ?_) ?_) (View.ld_unit_zero (by decide) _ _)) (View.ld_unit_zero (by decide) _ _)) (View.ld_unit_zero (by decide) _ _)
    · exact View.ld_unit_zero (by decide) _ _
    · unfold passA_next_off.sl.v92
      try unfold passA_next_off.sl.Hw_2
      try unfold passA_next_off.sl.Hw_1
      rw [read_last _ (by decide)]
      dsimp only [exactA, passA_next_off.sl.v119]
  isplitl [H8]
  · iexists _; isplitr
    swap; · iexact H8
    ipureintro
    rw [View.read_writes_eq_canon _ _ _ (fun y => View.cover_of_tiled (Val := Elt F) [⟨_, _⟩] S1x256.size (by rfl) y)]
    rw [View.canon_unit_zero (by decide)]
    refine congr (congrArg k0_pay1 (congr (congr (congr (congr (congrArg k0_pay33 ?_) ?_) (View.ld_unit_zero (by decide) _ _)) (View.ld_unit_zero (by decide) _ _)) (View.ld_unit_zero (by decide) _ _))) (View.ld_unit_zero (by decide) _ _)
    · exact View.ld_unit_zero (by decide) _ _
    · unfold passA_next_off.sl.v92
      try unfold passA_next_off.sl.Hw_2
      try unfold passA_next_off.sl.Hw_1
      rw [read_last _ (by decide)]
      dsimp only [exactA, passA_next_off.sl.v119]
  isplitl [H9]
  · iexists _; isplitr
    swap; · iexact H9
    ipureintro
    rw [View.read_writes_eq_canon _ _ _ (fun y => View.cover_of_tiled (Val := Elt F) [⟨_, _⟩] S1x256.size (by rfl) y)]
    rw [View.canon_unit_zero (by decide)]
    refine congr (congrArg k0_pay2 (congr (congr (congr (congr (congrArg k0_pay34 ?_) ?_) (View.ld_unit_zero (by decide) _ _)) (View.ld_unit_zero (by decide) _ _)) (View.ld_unit_zero (by decide) _ _))) (View.ld_unit_zero (by decide) _ _)
    · exact View.ld_unit_zero (by decide) _ _
    · unfold passA_next_off.sl.v92
      try unfold passA_next_off.sl.Hw_2
      try unfold passA_next_off.sl.Hw_1
      rw [read_last _ (by decide)]
      dsimp only [exactA, passA_next_off.sl.v119]
  isplitl [Hg]
  · iexists _; isplitr
    swap; · iexact Hg
    ipureintro
    rfl
  iexists _, _; isplitr
  swap; · iexact Hw
  ipureintro; rfl

set_option maxHeartbeats 4000000 in
/-- The body within a batch, the fast selection kept. -/
theorem passA_next_on (c : Dev nD) (E : Set ℕ) (i : grid0.Coords) (arg2 : Memref sig .tc .vmem S1x2048x3 .f32) (harg2 : arg2.IsWhole) (arg3 : Memref sig .tc .vmem S1x3x1024 .f32) (harg3 : arg3.IsWhole) (arg4 : Memref sig .tc .vmem S1x256x1024 .f32) (harg4 : arg4.IsWhole) (arg5 : Memref sig .tc .vmem S1x128x2048 .f32) (harg5 : arg5.IsWhole) (arg6 : Memref sig .tc .vmem S256x256 .f32) (harg6 : arg6.IsWhole) (arg7 : Memref sig .tc .vmem S256x128 .f32) (harg7 : arg7.IsWhole) (arg8 : Memref sig .tc .vmem S1x256 .f32) (harg8 : arg8.IsWhole) (arg9 : Memref sig .tc .vmem S1x256x2048 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x1024 .f32) (harg12 : arg12.IsWhole) (arg13 : Memref sig .tc .vmem S2048x1024 .f32) (harg13 : arg13.IsWhole)
    (hc0 : ¬startA i = 1#1) (hc2 : ¬k0_cond3 i = 1#1) (hc3 : k0_cond4 i = 1#1) (x0 : Vec F S1x2048x3 .f32) (x1 : Vec F S1x3x1024 .f32) (x2 : Vec F S1x256x1024 .f32) (x3 : Vec F S1x128x2048 .f32) (x4 : Vec F S256x256 .f32) (x5 : Vec F S256x128 .f32) (x6 : Vec F S1x256 .f32) (hc1 : ¬offA x0 x1 = 1#1) (a8 a9 : Vec F S1x256 .f32) (g : Vec F S256x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare a8 ∗ owns (c : Thread nD τ) arg11 fullShare a9
        ∗ owns (c : Thread nD τ) arg12 fullShare g ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k0_pay32 g (fastA x0 x1) x5 x3 x6)
            ∗ owns (c : Thread nD τ) arg10 fullShare (k0_pay1 (k0_pay33 g (fastA x0 x1) x5 x3 x6) a8)
            ∗ owns (c : Thread nD τ) arg11 fullShare (k0_pay2 (k0_pay34 g (fastA x0 x1) x5 x3 x6) a9)
            ∗ owns (c : Thread nD τ) arg12 fullShare g
            ∗ (∃ d, owns (c : Thread nD τ) arg13 fullShare d)) -∗ K ⟨⟩))
      ⊢ wp frame (wpE (defs₀ (F := F)) Variants.none c none) E
          (cc0__pass_a i arg2 harg2 arg3 harg3 arg4 harg4 arg5 harg5 arg6 harg6 arg7 harg7 arg8 harg8 arg9 harg9 arg10 harg10 arg11 harg11 arg12 harg12 arg13 harg13) K := by
  simp only [cc0__pass_a_eq_skeleton]; unfold cc0__pass_a_skel
  simp only [k0_part2_eq_skeleton, k0_part3_eq_skeleton, k0_part4_eq_skeleton]
  unfold k0_part2_skel k0_part3_skel k0_part4_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%fg, %hfg, Hg⟩, ⟨%dw, %fw, -, Hw⟩, Hk⟩
  subst hf0 hf1 hf2 hf3 hf4 hf5 hf6 hf8 hf9 hfg
  unfold startA at hc0
  unfold offA at hc1
  have e0 := View.ld_unit_zero (Val := Elt F) (e := .f32) (S := S1x2048x3) (off := ![0, 0, 0]) (by decide) inb_S1x2048x3_S1x2048x3_0_0_0 (arg2.view.read (Elt F) f0)
  have e1 := View.ld_unit_zero (Val := Elt F) (e := .f32) (S := S1x3x1024) (off := ![0, 0, 0]) (by decide) inb_S1x3x1024_S1x3x1024_0_0_0 (arg3.view.read (Elt F) f1)
  sl_exec (disch := first | sl_exact hc0 | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (fun y => View.cover_of_tiled (Val := Elt F) [⟨_, _⟩] S1x256x2048.size (by rfl) y)]
    rw [View.canon_unit_zero (by decide)]
    refine congr (congr (congr (congr (congrArg k0_pay32 ?_) ?_) (View.ld_unit_zero (by decide) _ _)) (View.ld_unit_zero (by decide) _ _)) (View.ld_unit_zero (by decide) _ _)
    · exact View.ld_unit_zero (by decide) _ _
    · unfold passA_next_on.sl.v92
      try unfold passA_next_on.sl.Hw_2
      try unfold passA_next_on.sl.Hw_1
      rw [read_last _ (by decide)]
      dsimp only [fastA]
  isplitl [H8]
  · iexists _; isplitr
    swap; · iexact H8
    ipureintro
    rw [View.read_writes_eq_canon _ _ _ (fun y => View.cover_of_tiled (Val := Elt F) [⟨_, _⟩] S1x256.size (by rfl) y)]
    rw [View.canon_unit_zero (by decide)]
    refine congr (congrArg k0_pay1 (congr (congr (congr (congr (congrArg k0_pay33 ?_) ?_) (View.ld_unit_zero (by decide) _ _)) (View.ld_unit_zero (by decide) _ _)) (View.ld_unit_zero (by decide) _ _))) (View.ld_unit_zero (by decide) _ _)
    · exact View.ld_unit_zero (by decide) _ _
    · unfold passA_next_on.sl.v92
      try unfold passA_next_on.sl.Hw_2
      try unfold passA_next_on.sl.Hw_1
      rw [read_last _ (by decide)]
      dsimp only [fastA]
  isplitl [H9]
  · iexists _; isplitr
    swap; · iexact H9
    ipureintro
    rw [View.read_writes_eq_canon _ _ _ (fun y => View.cover_of_tiled (Val := Elt F) [⟨_, _⟩] S1x256.size (by rfl) y)]
    rw [View.canon_unit_zero (by decide)]
    refine congr (congrArg k0_pay2 (congr (congr (congr (congr (congrArg k0_pay34 ?_) ?_) (View.ld_unit_zero (by decide) _ _)) (View.ld_unit_zero (by decide) _ _)) (View.ld_unit_zero (by decide) _ _))) (View.ld_unit_zero (by decide) _ _)
    · exact View.ld_unit_zero (by decide) _ _
    · unfold passA_next_on.sl.v92
      try unfold passA_next_on.sl.Hw_2
      try unfold passA_next_on.sl.Hw_1
      rw [read_last _ (by decide)]
      dsimp only [fastA]
  isplitl [Hg]
  · iexists _; isplitr
    swap; · iexact Hg
    ipureintro
    rfl
  iexists _, _; isplitr
  swap; · iexact Hw
  ipureintro; rfl

variable (W : Dev nD → Valuation τ sig (Elt F))

/-- Window `w`'s block at point `t`, read off the array as the call finds it. -/
def blkA (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The point that starts the batch of point `t`. -/
def startOf (t : Fin cfg0.N) : Fin cfg0.N := ⟨t.val - t.val % 2, Nat.lt_of_le_of_lt (Nat.sub_le _ _) t.isLt⟩

/-- The features of the batch of point `t` after the first half of the first convolution. -/
def featA (c : Dev nD) (t : Fin cfg0.N) : FVec F S256x1024 .f32 :=
  k0_pay12 (blkA W c 4 (startOf t)) (blkA W c 2 (startOf t))

/-- The first convolution's block at point `t`, -/
def convA (c : Dev nD) (t : Fin cfg0.N) : FVec F S1x256x2048 .f32 :=
  k0_pay32 (featA W c t) (weightsA (blkA W c 0 t) (blkA W c 1 t)) (blkA W c 5 t) (blkA W c 3 t) (blkA W c 6 t)
/-- its channel sums, -/
def chanA (c : Dev nD) (t : Fin cfg0.N) : FVec F S256 .f32 :=
  k0_pay33 (featA W c t) (weightsA (blkA W c 0 t) (blkA W c 1 t)) (blkA W c 5 t) (blkA W c 3 t) (blkA W c 6 t)
/-- and its channel sums of squares. -/
def chanSqA (c : Dev nD) (t : Fin cfg0.N) : FVec F S256 .f32 :=
  k0_pay34 (featA W c t) (weightsA (blkA W c 0 t) (blkA W c 1 t)) (blkA W c 5 t) (blkA W c 3 t) (blkA W c 6 t)

/-- The running sum of the blocks' channel sums after point `n`. -/
def sumA (c : Dev nD) : (n : ℕ) → n < cfg0.N → Vec F S1x256 .f32
  | 0, h => k0_pay35 (featA W c ⟨0, h⟩) (weightsA (blkA W c 0 ⟨0, h⟩) (blkA W c 1 ⟨0, h⟩)) (blkA W c 5 ⟨0, h⟩) (blkA W c 3 ⟨0, h⟩) (blkA W c 6 ⟨0, h⟩)
  | n + 1, h => k0_pay1 (chanA W c ⟨n + 1, h⟩) (sumA c n (Nat.lt_of_succ_lt h))

/-- The running sum of the blocks' channel sums of squares after point `n`. -/
def sqA (c : Dev nD) : (n : ℕ) → n < cfg0.N → Vec F S1x256 .f32
  | 0, h => k0_pay36 (featA W c ⟨0, h⟩) (weightsA (blkA W c 0 ⟨0, h⟩) (blkA W c 1 ⟨0, h⟩)) (blkA W c 5 ⟨0, h⟩) (blkA W c 3 ⟨0, h⟩) (blkA W c 6 ⟨0, h⟩)
  | n + 1, h => k0_pay2 (chanSqA W c ⟨n + 1, h⟩) (sqA c n (Nat.lt_of_succ_lt h))

/-- The scoped buffers that are no staging buffer: the two scratch buffers and others. -/
theorem scratch_split (c : Dev nD) : ∃ R : sProp 𝕄, (Pipeline.scopedRest spec0 c : sProp 𝕄)
    = iprop((∃ d, owns (c : Thread nD τ) (Memref.whole cc0_scratch0) fullShare d) ∗ (∃ d, owns (c : Thread nD τ) (Memref.whole cc0_scratch1) fullShare d) ∗ R) := by
  have h : ∃ R : sProp 𝕄, (Pipeline.scopedRest spec0 c : sProp 𝕄) = iprop((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f) ∗ R) := ⟨_, scopedRest0_eq c⟩
  obtain ⟨R, h⟩ := h
  refine ⟨R, h.trans ?_⟩
  simp only [owns_whole]

/-- Those others. -/
def restA (c : Dev nD) : sProp 𝕄 := Classical.choose (scratch_split (F := F) c)

/-- The two scratch buffers before point `t`: within a batch the first holds the batch's features. -/
def scratchA (c : Dev nD) (t : Fin (cfg0.N + 1)) : sProp 𝕄 :=
  if h : t.val % 2 = 1 then
    iprop(owns (c : Thread nD τ) (Memref.whole cc0_scratch0) fullShare (featA W c ⟨t.val - 1, by omega⟩)
      ∗ (∃ d, owns (c : Thread nD τ) (Memref.whole cc0_scratch1) fullShare d) ∗ restA c)
  else Pipeline.scopedRest spec0 c

/-- The call's proof data: the arrays as found, the block and the two running sums after each point. -/
def datA (c : Dev nD) : Dat τ (Elt F) Unit ℕ (UR sig nD τ) ℕ cfg0 c where
  A w := W c (Proc.devRef .tc (Pipeline.arrRef spec0 w))
  after w t := match w with
    | ⟨0, _⟩ => blkA W c 0 t
    | ⟨1, _⟩ => blkA W c 1 t
    | ⟨2, _⟩ => blkA W c 2 t
    | ⟨3, _⟩ => blkA W c 3 t
    | ⟨4, _⟩ => blkA W c 4 t
    | ⟨5, _⟩ => blkA W c 5 t
    | ⟨6, _⟩ => blkA W c 6 t
    | ⟨7, _⟩ => convA W c t
    | ⟨8, _⟩ => sumA W c t.val t.isLt
    | ⟨9, _⟩ => sqA W c t.val t.isLt
  Φ t := scratchA W c t
  q _ := fullShare
  owed _ := 0

/-- The data's arrays are what the call finds. -/
theorem datA_A (c : Dev nD) (w : Fin cfg0.W) : (datA W c).A w = W c (Proc.devRef .tc (Pipeline.arrRef spec0 w)) := by
  dsimp only [datA]

/-- What window 0's buffer holds after a point of call 1. -/
theorem afterA_0 (c : Dev nD) (t : Fin cfg0.N) : (datA W c).after 0 t = blkA W c 0 t := by dsimp only [datA]
/-- What window 1's buffer holds after a point of call 1. -/
theorem afterA_1 (c : Dev nD) (t : Fin cfg0.N) : (datA W c).after 1 t = blkA W c 1 t := by dsimp only [datA]
/-- What window 2's buffer holds after a point of call 1. -/
theorem afterA_2 (c : Dev nD) (t : Fin cfg0.N) : (datA W c).after 2 t = blkA W c 2 t := by dsimp only [datA]
/-- What window 3's buffer holds after a point of call 1. -/
theorem afterA_3 (c : Dev nD) (t : Fin cfg0.N) : (datA W c).after 3 t = blkA W c 3 t := by dsimp only [datA]
/-- What window 4's buffer holds after a point of call 1. -/
theorem afterA_4 (c : Dev nD) (t : Fin cfg0.N) : (datA W c).after 4 t = blkA W c 4 t := by dsimp only [datA]
/-- What window 5's buffer holds after a point of call 1. -/
theorem afterA_5 (c : Dev nD) (t : Fin cfg0.N) : (datA W c).after 5 t = blkA W c 5 t := by dsimp only [datA]
/-- What window 6's buffer holds after a point of call 1. -/
theorem afterA_6 (c : Dev nD) (t : Fin cfg0.N) : (datA W c).after 6 t = blkA W c 6 t := by dsimp only [datA]
/-- What window 7's buffer holds after a point of call 1. -/
theorem afterA_7 (c : Dev nD) (t : Fin cfg0.N) : (datA W c).after 7 t = convA W c t := by dsimp only [datA]
/-- What window 8's buffer holds after a point of call 1. -/
theorem afterA_8 (c : Dev nD) (t : Fin cfg0.N) : (datA W c).after 8 t = sumA W c t.val t.isLt := by dsimp only [datA]
/-- What window 9's buffer holds after a point of call 1. -/
theorem afterA_9 (c : Dev nD) (t : Fin cfg0.N) : (datA W c).after 9 t = sqA W c t.val t.isLt := by dsimp only [datA]

/-- Input window 0's buffer holds its block at every point. -/
theorem beforeA_0 (c : Dev nD) (t : Fin cfg0.N) (d) : (datA W c).before 0 t d = blkA W c 0 t :=
  ((datA W c).before_in_eq_fetched 0 rfl (fun _ => rfl) (fun _ _ _ => rfl)
    (fun t => by rw [afterA_0]; unfold Dat.blockOf blkA; rw [datA_A]; try rfl) t d).trans
    (by unfold Dat.fetched Dat.blockOf blkA; rw [datA_A]; try rfl)
/-- Input window 1's buffer holds its block at every point. -/
theorem beforeA_1 (c : Dev nD) (t : Fin cfg0.N) (d) : (datA W c).before 1 t d = blkA W c 1 t :=
  ((datA W c).before_in_eq_fetched 1 rfl (fun _ => rfl) (fun _ _ _ => rfl)
    (fun t => by rw [afterA_1]; unfold Dat.blockOf blkA; rw [datA_A]; try rfl) t d).trans
    (by unfold Dat.fetched Dat.blockOf blkA; rw [datA_A]; try rfl)
/-- Input window 2's buffer holds its block at every point. -/
theorem beforeA_2 (c : Dev nD) (t : Fin cfg0.N) (d) : (datA W c).before 2 t d = blkA W c 2 t :=
  ((datA W c).before_in_eq_fetched 2 rfl (fun _ => rfl) (fun _ _ _ => rfl)
    (fun t => by rw [afterA_2]; unfold Dat.blockOf blkA; rw [datA_A]; try rfl) t d).trans
    (by unfold Dat.fetched Dat.blockOf blkA; rw [datA_A]; try rfl)
/-- Input window 3's buffer holds its block at every point. -/
theorem beforeA_3 (c : Dev nD) (t : Fin cfg0.N) (d) : (datA W c).before 3 t d = blkA W c 3 t :=
  ((datA W c).before_in_eq_fetched 3 rfl (fun _ => rfl) (fun _ _ _ => rfl)
    (fun t => by rw [afterA_3]; unfold Dat.blockOf blkA; rw [datA_A]; try rfl) t d).trans
    (by unfold Dat.fetched Dat.blockOf blkA; rw [datA_A]; try rfl)
/-- Input window 4's buffer holds its block at every point. -/
theorem beforeA_4 (c : Dev nD) (t : Fin cfg0.N) (d) : (datA W c).before 4 t d = blkA W c 4 t :=
  ((datA W c).before_in_eq_fetched 4 rfl (fun _ => rfl) (fun _ _ _ => rfl)
    (fun t => by rw [afterA_4]; unfold Dat.blockOf blkA; rw [datA_A]; try rfl) t d).trans
    (by unfold Dat.fetched Dat.blockOf blkA; rw [datA_A]; try rfl)
/-- Input window 5's buffer holds its block at every point. -/
theorem beforeA_5 (c : Dev nD) (t : Fin cfg0.N) (d) : (datA W c).before 5 t d = blkA W c 5 t :=
  ((datA W c).before_in_eq_fetched 5 rfl (fun _ => rfl) (fun _ _ _ => rfl)
    (fun t => by rw [afterA_5]; unfold Dat.blockOf blkA; rw [datA_A]; try rfl) t d).trans
    (by unfold Dat.fetched Dat.blockOf blkA; rw [datA_A]; try rfl)
/-- Input window 6's buffer holds its block at every point. -/
theorem beforeA_6 (c : Dev nD) (t : Fin cfg0.N) (d) : (datA W c).before 6 t d = blkA W c 6 t :=
  ((datA W c).before_in_eq_fetched 6 rfl (fun _ => rfl) (fun _ _ _ => rfl)
    (fun t => by rw [afterA_6]; unfold Dat.blockOf blkA; rw [datA_A]; try rfl) t d).trans
    (by unfold Dat.fetched Dat.blockOf blkA; rw [datA_A]; try rfl)

/-- The sums start at the first point only and grow at every other; a batch starts at the even points. -/
theorem condA_first : ∀ t : Fin cfg0.N, k0_cond3 (grid0.coords t) = 1#1 ↔ t.val = 0 :=
  (by decide +kernel : ∀ t : Fin grid0.N, k0_cond3 (grid0.coords t) = 1#1 ↔ t.val = 0)
/-- The sums grow at every point but the first. -/
theorem condA_next : ∀ t : Fin cfg0.N, k0_cond4 (grid0.coords t) = 1#1 ↔ t.val ≠ 0 :=
  (by decide +kernel : ∀ t : Fin grid0.N, k0_cond4 (grid0.coords t) = 1#1 ↔ t.val ≠ 0)
/-- A batch starts at the even points. -/
theorem condA_start : ∀ t : Fin cfg0.N, startA (grid0.coords t) = 1#1 ↔ ¬t.val % 2 = 1 :=
  (by decide +kernel : ∀ t : Fin grid0.N, startA (grid0.coords t) = 1#1 ↔ ¬t.val % 2 = 1)
/-- No window is idle at any point. -/
theorem liveA_8 : ∀ t : Fin cfg0.N, cfg0.idle 8 (grid0.coords t) = false :=
  (by decide +kernel : ∀ t : Fin grid0.N, cfg0.idle 8 (grid0.coords t) = false)
/-- Window 9 is not idle at any point. -/
theorem liveA_9 : ∀ t : Fin cfg0.N, cfg0.idle 9 (grid0.coords t) = false :=
  (by decide +kernel : ∀ t : Fin grid0.N, cfg0.idle 9 (grid0.coords t) = false)

/-- The features at a point that starts a batch, -/
theorem featA_start (c : Dev nD) (t : Fin cfg0.N) (h : ¬t.val % 2 = 1) : featA W c t = k0_pay12 (blkA W c 4 t) (blkA W c 2 t) := by
  have e : startOf t = t := Fin.ext (by show t.val - t.val % 2 = t.val; omega)
  unfold featA; rw [e]
/-- and within one. -/
theorem featA_pred (c : Dev nD) (t : Fin cfg0.N) (h : t.val % 2 = 1) (hl : t.val - 1 < cfg0.N) : featA W c ⟨t.val - 1, hl⟩ = featA W c t := by
  have e : startOf ⟨t.val - 1, hl⟩ = startOf t :=
    Fin.ext (by show t.val - 1 - (t.val - 1) % 2 = t.val - t.val % 2; omega)
  unfold featA; rw [e]

/-- Whether window 8's buffer holds nothing stored yet at position `n`: at the first only, and past the last. -/
def newA_8 : ℕ → Bool
  | 0 => true
  | n + 1 => (0x8000 : ℕ).testBit n
/-- That table for window 8 follows the writes out and the idle points. -/
theorem newA_8_step : ∀ t : Fin cfg0.N,
    newA_8 (t.val + 1) = ((cfg0.win 8).flush t || (cfg0.idle 8 (cfg0.grid.coords t) && newA_8 t.val)) := by decide +kernel
/-- The table is right for window 8. -/
theorem newA_8_eq (t : Fin cfg0.N) : cfg0.fresh 8 t.val = newA_8 t.val :=
  Pipeline.Cfg.fresh_tab cfg0 8 newA_8 rfl newA_8_step t.val (Nat.le_of_lt t.isLt)
/-- After the first point window 8's buffer holds something stored. -/
theorem newA_8_later : ∀ t : Fin cfg0.N, t.val ≠ 0 → cfg0.fresh 8 t.val = false := by
  intro t; rw [newA_8_eq t]; revert t; decide +kernel
/-- After the first point window 8's buffer holds the running sum of the point before. -/
theorem beforeA_8 (c : Dev nD) (t : Fin cfg0.N) (h : t.val ≠ 0) (d) :
    (datA W c).before 8 t d = sumA W c (t.val - 1) (Nat.lt_of_le_of_lt (Nat.sub_le _ _) t.isLt) := by
  rw [Dat.before_out_traj _ 8 rfl (fun _ _ => rfl)
    (fun t _ hi _ => absurd ((liveA_8 t).symm.trans hi) Bool.false_ne_true) t.val t rfl d,
    if_neg (by rw [newA_8_later t h]; exact Bool.false_ne_true)]
  dsimp only [datA]

/-- Whether window 9's buffer holds nothing stored yet at position `n`: at the first only, and past the last. -/
def newA_9 : ℕ → Bool
  | 0 => true
  | n + 1 => (0x8000 : ℕ).testBit n
/-- That table for window 9 follows the writes out and the idle points. -/
theorem newA_9_step : ∀ t : Fin cfg0.N,
    newA_9 (t.val + 1) = ((cfg0.win 9).flush t || (cfg0.idle 9 (cfg0.grid.coords t) && newA_9 t.val)) := by decide +kernel
/-- The table is right for window 9. -/
theorem newA_9_eq (t : Fin cfg0.N) : cfg0.fresh 9 t.val = newA_9 t.val :=
  Pipeline.Cfg.fresh_tab cfg0 9 newA_9 rfl newA_9_step t.val (Nat.le_of_lt t.isLt)
/-- After the first point window 9's buffer holds something stored. -/
theorem newA_9_later : ∀ t : Fin cfg0.N, t.val ≠ 0 → cfg0.fresh 9 t.val = false := by
  intro t; rw [newA_9_eq t]; revert t; decide +kernel
/-- After the first point window 9's buffer holds the running sum of the point before. -/
theorem beforeA_9 (c : Dev nD) (t : Fin cfg0.N) (h : t.val ≠ 0) (d) :
    (datA W c).before 9 t d = sqA W c (t.val - 1) (Nat.lt_of_le_of_lt (Nat.sub_le _ _) t.isLt) := by
  rw [Dat.before_out_traj _ 9 rfl (fun _ _ => rfl)
    (fun t _ hi _ => absurd ((liveA_9 t).symm.trans hi) Bool.false_ne_true) t.val t rfl d,
    if_neg (by rw [newA_9_later t h]; exact Bool.false_ne_true)]
  dsimp only [datA]

/-- The sums of call 1 at the first point. -/
theorem sumA_zero (c : Dev nD) (t : Fin cfg0.N) (h : t.val = 0) : sumA W c t.val t.isLt = k0_pay35 (featA W c t) (weightsA (blkA W c 0 t) (blkA W c 1 t)) (blkA W c 5 t) (blkA W c 3 t) (blkA W c 6 t) := by
  obtain ⟨n, hn⟩ := t; obtain rfl : n = 0 := h; rfl
/-- The sums of squares of call 1 at the first point. -/
theorem sqA_zero (c : Dev nD) (t : Fin cfg0.N) (h : t.val = 0) : sqA W c t.val t.isLt = k0_pay36 (featA W c t) (weightsA (blkA W c 0 t) (blkA W c 1 t)) (blkA W c 5 t) (blkA W c 3 t) (blkA W c 6 t) := by
  obtain ⟨n, hn⟩ := t; obtain rfl : n = 0 := h; rfl
/-- The sums of call 1 at a later point, from those at the point before. -/
theorem sumA_next (c : Dev nD) (t : Fin cfg0.N) (h : t.val ≠ 0) :
    sumA W c t.val t.isLt = k0_pay1 (chanA W c t) (sumA W c (t.val - 1) (Nat.lt_of_le_of_lt (Nat.sub_le _ _) t.isLt)) := by
  obtain ⟨n, hn⟩ := t
  cases n with
  | zero => exact absurd rfl h
  | succ n => rfl
/-- The sums of squares of call 1 at a later point, from those at the point before. -/
theorem sqA_next (c : Dev nD) (t : Fin cfg0.N) (h : t.val ≠ 0) :
    sqA W c t.val t.isLt = k0_pay2 (chanSqA W c t) (sqA W c (t.val - 1) (Nat.lt_of_le_of_lt (Nat.sub_le _ _) t.isLt)) := by
  obtain ⟨n, hn⟩ := t
  cases n with
  | zero => exact absurd rfl h
  | succ n => rfl

/-- The scratch buffers before a point that starts a batch, -/
theorem scratchA_start (c : Dev nD) (t : Fin cfg0.N) (h : ¬t.val % 2 = 1) :
    scratchA W c t.castSucc = iprop((∃ d, owns (c : Thread nD τ) (Memref.whole cc0_scratch0) fullShare d)
      ∗ (∃ d, owns (c : Thread nD τ) (Memref.whole cc0_scratch1) fullShare d) ∗ restA c) := by
  unfold scratchA
  rw [dif_neg (show ¬t.castSucc.val % 2 = 1 from h)]
  exact Classical.choose_spec (scratch_split c)
/-- after it, -/
theorem scratchA_started (c : Dev nD) (t : Fin cfg0.N) (h : ¬t.val % 2 = 1) :
    scratchA W c t.succ = iprop(owns (c : Thread nD τ) (Memref.whole cc0_scratch0) fullShare (featA W c t)
      ∗ (∃ d, owns (c : Thread nD τ) (Memref.whole cc0_scratch1) fullShare d) ∗ restA c) := by
  unfold scratchA
  rw [dif_pos (show t.succ.val % 2 = 1 by show (t.val + 1) % 2 = 1; omega)]
  rfl
/-- before a point within a batch, -/
theorem scratchA_within (c : Dev nD) (t : Fin cfg0.N) (h : t.val % 2 = 1) :
    scratchA W c t.castSucc = iprop(owns (c : Thread nD τ) (Memref.whole cc0_scratch0) fullShare (featA W c t)
      ∗ (∃ d, owns (c : Thread nD τ) (Memref.whole cc0_scratch1) fullShare d) ∗ restA c) := by
  unfold scratchA
  rw [dif_pos (show t.castSucc.val % 2 = 1 from h), ← featA_pred W c t h (Nat.lt_of_le_of_lt (Nat.sub_le _ _) t.isLt)]
  rfl
/-- and after it. -/
theorem scratchA_done (c : Dev nD) (t : Fin cfg0.N) (h : t.val % 2 = 1) :
    scratchA W c t.succ = iprop((∃ d, owns (c : Thread nD τ) (Memref.whole cc0_scratch0) fullShare d)
      ∗ (∃ d, owns (c : Thread nD τ) (Memref.whole cc0_scratch1) fullShare d) ∗ restA c) := by
  unfold scratchA
  rw [dif_neg (show ¬t.succ.val % 2 = 1 by show ¬(t.val + 1) % 2 = 1; omega)]
  exact Classical.choose_spec (scratch_split c)

/-- What the body is called with at point `t`, window by window, -/
def preA (c : Dev nD) (t : Fin cfg0.N) : sProp 𝕄 :=
  iprop(scratchA W c t.castSucc ∗ (datA W c).owesAt () t.castSucc
    ∗ (∃ d, owns (c : Thread nD τ) (st0_0 t) fullShare ((datA W c).before 0 t d))
    ∗ (∃ d, owns (c : Thread nD τ) (st0_1 t) fullShare ((datA W c).before 1 t d))
    ∗ (∃ d, owns (c : Thread nD τ) (st0_2 t) fullShare ((datA W c).before 2 t d))
    ∗ (∃ d, owns (c : Thread nD τ) (st0_3 t) fullShare ((datA W c).before 3 t d))
    ∗ (∃ d, owns (c : Thread nD τ) (st0_4 t) fullShare ((datA W c).before 4 t d))
    ∗ (∃ d, owns (c : Thread nD τ) (st0_5 t) fullShare ((datA W c).before 5 t d))
    ∗ (∃ d, owns (c : Thread nD τ) (st0_6 t) fullShare ((datA W c).before 6 t d))
    ∗ (∃ d, owns (c : Thread nD τ) (st0_7 t) fullShare ((datA W c).before 7 t d))
    ∗ (∃ d, owns (c : Thread nD τ) (st0_8 t) fullShare ((datA W c).before 8 t d))
    ∗ (∃ d, owns (c : Thread nD τ) (st0_9 t) fullShare ((datA W c).before 9 t d)))

/-- and what it returns. -/
def postA (c : Dev nD) (t : Fin cfg0.N) : sProp 𝕄 :=
  iprop(scratchA W c t.succ ∗ (datA W c).owesAt () t.succ
    ∗ (datA W c).leavesExact 0 t
    ∗ (datA W c).leavesExact 1 t
    ∗ (datA W c).leavesExact 2 t
    ∗ (datA W c).leavesExact 3 t
    ∗ (datA W c).leavesExact 4 t
    ∗ (datA W c).leavesExact 5 t
    ∗ (datA W c).leavesExact 6 t
    ∗ (datA W c).leavesExact 7 t
    ∗ (datA W c).leavesExact 8 t
    ∗ (datA W c).leavesExact 9 t)

set_option maxHeartbeats 1000000 in
/-- The body at any grid point. -/
theorem passA_at (c : Dev nD) (t : Fin cfg0.N) :
    preA W c t ⊢ wp frame (wpE (defs₀ (F := F)) Variants.none c none) Set.univ (bodyAt0 t) (fun _ => postA W c t) := by
  unfold preA postA bodyAt0
  simp only [beforeA_0, beforeA_1, beforeA_2, beforeA_3, beforeA_4, beforeA_5, beforeA_6]
  rw [show (datA W c).owesAt () t.succ = (datA W c).owesAt () t.castSucc from rfl]
  rw [show (datA W c).leavesExact 0 t = owns (c : Thread nD τ) (st0_0 t) fullShare ((datA W c).after 0 t) from by
    unfold Dat.leavesExact; rw [show cfg0.idle 0 (cfg0.grid.coords t) = false from rfl], afterA_0]
  rw [show (datA W c).leavesExact 1 t = owns (c : Thread nD τ) (st0_1 t) fullShare ((datA W c).after 1 t) from by
    unfold Dat.leavesExact; rw [show cfg0.idle 1 (cfg0.grid.coords t) = false from rfl], afterA_1]
  rw [show (datA W c).leavesExact 2 t = owns (c : Thread nD τ) (st0_2 t) fullShare ((datA W c).after 2 t) from by
    unfold Dat.leavesExact; rw [show cfg0.idle 2 (cfg0.grid.coords t) = false from rfl], afterA_2]
  rw [show (datA W c).leavesExact 3 t = owns (c : Thread nD τ) (st0_3 t) fullShare ((datA W c).after 3 t) from by
    unfold Dat.leavesExact; rw [show cfg0.idle 3 (cfg0.grid.coords t) = false from rfl], afterA_3]
  rw [show (datA W c).leavesExact 4 t = owns (c : Thread nD τ) (st0_4 t) fullShare ((datA W c).after 4 t) from by
    unfold Dat.leavesExact; rw [show cfg0.idle 4 (cfg0.grid.coords t) = false from rfl], afterA_4]
  rw [show (datA W c).leavesExact 5 t = owns (c : Thread nD τ) (st0_5 t) fullShare ((datA W c).after 5 t) from by
    unfold Dat.leavesExact; rw [show cfg0.idle 5 (cfg0.grid.coords t) = false from rfl], afterA_5]
  rw [show (datA W c).leavesExact 6 t = owns (c : Thread nD τ) (st0_6 t) fullShare ((datA W c).after 6 t) from by
    unfold Dat.leavesExact; rw [show cfg0.idle 6 (cfg0.grid.coords t) = false from rfl], afterA_6]
  rw [show (datA W c).leavesExact 7 t = owns (c : Thread nD τ) (st0_7 t) fullShare ((datA W c).after 7 t) from by
    unfold Dat.leavesExact; rw [show cfg0.idle 7 (cfg0.grid.coords t) = false from rfl], afterA_7]
  rw [show (datA W c).leavesExact 8 t = owns (c : Thread nD τ) (st0_8 t) fullShare ((datA W c).after 8 t) from by
    unfold Dat.leavesExact; rw [liveA_8 t], afterA_8]
  rw [show (datA W c).leavesExact 9 t = owns (c : Thread nD τ) (st0_9 t) fullShare ((datA W c).after 9 t) from by
    unfold Dat.leavesExact; rw [liveA_9 t], afterA_9]
  by_cases h0 : t.val = 0
  · have h1 : ¬t.val % 2 = 1 := by omega
    rw [scratchA_start W c t h1, scratchA_started W c t h1, sumA_zero W c t h0, sqA_zero W c t h0]
    simp only [convA, featA_start W c t h1]
    by_cases hb : offA (blkA W c 0 t) (blkA W c 1 t) = 1#1
    · simp only [show weightsA (blkA W c 0 t) (blkA W c 1 t) = exactA (blkA W c 0 t) (blkA W c 1 t) from if_pos hb]
      iintro ⟨⟨Hg, Hw, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (passA_first_off c Set.univ (grid0.coords t) _ _ _ _ _ _ _ _ _ _ _ _ _ _ _ _ _ _ _ _ _ _ _ _ ((condA_start t).mpr h1) ((condA_first t).mpr h0) (fun h => (condA_next t).mp h h0) (blkA W c 0 t) (blkA W c 1 t) (blkA W c 2 t) (blkA W c 3 t) (blkA W c 4 t) (blkA W c 5 t) (blkA W c 6 t) hb _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [Hg]; · iexact Hg
      isplitl [Hw]; · iexact Hw
      iintro ⟨H0, H1, H2, H3, H4, H5, H6, H7, H8, H9, Hg, Hw⟩
      isplitl [Hg Hw Hr]
      · isplitl [Hg]; · iexact Hg
        isplitl [Hw]; · iexact Hw
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · simp only [show weightsA (blkA W c 0 t) (blkA W c 1 t) = fastA (blkA W c 0 t) (blkA W c 1 t) from if_neg hb]
      iintro ⟨⟨Hg, Hw, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (passA_first_on c Set.univ (grid0.coords t) _ _ _ _ _ _ _ _ _ _ _ _ _ _ _ _ _ _ _ _ _ _ _ _ ((condA_start t).mpr h1) ((condA_first t).mpr h0) (fun h => (condA_next t).mp h h0) (blkA W c 0 t) (blkA W c 1 t) (blkA W c 2 t) (blkA W c 3 t) (blkA W c 4 t) (blkA W c 5 t) (blkA W c 6 t) hb _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [Hg]; · iexact Hg
      isplitl [Hw]; · iexact Hw
      iintro ⟨H0, H1, H2, H3, H4, H5, H6, H7, H8, H9, Hg, Hw⟩
      isplitl [Hg Hw Hr]
      · isplitl [Hg]; · iexact Hg
        isplitl [Hw]; · iexact Hw
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  rw [sumA_next W c t h0, sqA_next W c t h0]
  simp only [beforeA_8 W c t h0, beforeA_9 W c t h0]
  by_cases h1 : t.val % 2 = 1
  · rw [scratchA_within W c t h1, scratchA_done W c t h1]
    by_cases hb : offA (blkA W c 0 t) (blkA W c 1 t) = 1#1
    · unfold convA chanA chanSqA
      simp only [show weightsA (blkA W c 0 t) (blkA W c 1 t) = exactA (blkA W c 0 t) (blkA W c 1 t) from if_pos hb]
      iintro ⟨⟨Hg, Hw, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (passA_next_off c Set.univ (grid0.coords t) _ _ _ _ _ _ _ _ _ _ _ _ _ _ _ _ _ _ _ _ _ _ _ _ (fun h => (condA_start t).mp h h1) (fun h => h0 ((condA_first t).mp h)) ((condA_next t).mpr h0) (blkA W c 0 t) (blkA W c 1 t) (blkA W c 2 t) (blkA W c 3 t) (blkA W c 4 t) (blkA W c 5 t) (blkA W c 6 t) hb _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [Hg]; · iexact Hg
      isplitl [Hw]; · iexact Hw
      iintro ⟨H0, H1, H2, H3, H4, H5, H6, H7, H8, H9, Hg, Hw⟩
      isplitl [Hg Hw Hr]
      · isplitl [Hg]; · iexists _; iexact Hg
        isplitl [Hw]; · iexact Hw
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · unfold convA chanA chanSqA
      simp only [show weightsA (blkA W c 0 t) (blkA W c 1 t) = fastA (blkA W c 0 t) (blkA W c 1 t) from if_neg hb]
      iintro ⟨⟨Hg, Hw, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (passA_next_on c Set.univ (grid0.coords t) _ _ _ _ _ _ _ _ _ _ _ _ _ _ _ _ _ _ _ _ _ _ _ _ (fun h => (condA_start t).mp h h1) (fun h => h0 ((condA_first t).mp h)) ((condA_next t).mpr h0) (blkA W c 0 t) (blkA W c 1 t) (blkA W c 2 t) (blkA W c 3 t) (blkA W c 4 t) (blkA W c 5 t) (blkA W c 6 t) hb _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [Hg]; · iexact Hg
      isplitl [Hw]; · iexact Hw
      iintro ⟨H0, H1, H2, H3, H4, H5, H6, H7, H8, H9, Hg, Hw⟩
      isplitl [Hg Hw Hr]
      · isplitl [Hg]; · iexists _; iexact Hg
        isplitl [Hw]; · iexact Hw
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · rw [scratchA_start W c t h1, scratchA_started W c t h1]
    unfold convA chanA chanSqA
    simp only [featA_start W c t h1]
    by_cases hb : offA (blkA W c 0 t) (blkA W c 1 t) = 1#1
    · simp only [show weightsA (blkA W c 0 t) (blkA W c 1 t) = exactA (blkA W c 0 t) (blkA W c 1 t) from if_pos hb]
      iintro ⟨⟨Hg, Hw, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (passA_start_off c Set.univ (grid0.coords t) _ _ _ _ _ _ _ _ _ _ _ _ _ _ _ _ _ _ _ _ _ _ _ _ ((condA_start t).mpr h1) (fun h => h0 ((condA_first t).mp h)) ((condA_next t).mpr h0) (blkA W c 0 t) (blkA W c 1 t) (blkA W c 2 t) (blkA W c 3 t) (blkA W c 4 t) (blkA W c 5 t) (blkA W c 6 t) hb _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [Hg]; · iexact Hg
      isplitl [Hw]; · iexact Hw
      iintro ⟨H0, H1, H2, H3, H4, H5, H6, H7, H8, H9, Hg, Hw⟩
      isplitl [Hg Hw Hr]
      · isplitl [Hg]; · iexact Hg
        isplitl [Hw]; · iexact Hw
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · simp only [show weightsA (blkA W c 0 t) (blkA W c 1 t) = fastA (blkA W c 0 t) (blkA W c 1 t) from if_neg hb]
      iintro ⟨⟨Hg, Hw, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (passA_start_on c Set.univ (grid0.coords t) _ _ _ _ _ _ _ _ _ _ _ _ _ _ _ _ _ _ _ _ _ _ _ _ ((condA_start t).mpr h1) (fun h => h0 ((condA_first t).mp h)) ((condA_next t).mpr h0) (blkA W c 0 t) (blkA W c 1 t) (blkA W c 2 t) (blkA W c 3 t) (blkA W c 4 t) (blkA W c 5 t) (blkA W c 6 t) hb _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [Hg]; · iexact Hg
      isplitl [Hw]; · iexact Hw
      iintro ⟨H0, H1, H2, H3, H4, H5, H6, H7, H8, H9, Hg, Hw⟩
      isplitl [Hg Hw Hr]
      · isplitl [Hg]; · iexact Hg
        isplitl [Hw]; · iexact Hw
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t` is the body there. -/
theorem rowA (t : Fin cfg0.N) :
    defs₀ (F := F) .tc cfg0.body (cfg0.bodyArgs t (cfg0.slots t)) = bodyAt0 t := by
  unfold defs₀; rw [Defs.onTc_tc]

/-- The body obligation of the first call. -/
theorem passA_body (c : Dev nD) : BodyObligation (datA W c) (defs₀ (F := F)) Variants.none () Set.univ := fun t => by
  rw [bigSep_W0, bigSep_W0, rowA]
  exact triple_restated (passA_at W c t) rfl .rfl fun _ => .rfl

end Cert.KernelIdeal.Run

end
-- ==== Proof.Ideal.PassB.lean ====
/-
  The second kernel call: batch normalisation of the first convolution, its ReLU, and the second convolution,
  block by block, with the running sums the next normalisation needs.  What its body leaves in the block and in
  the two sums, at the first grid point and at a later one (`passB_first`, `passB_next`), the proof data over any
  contents the call finds (`datB`) and the body obligation at every grid point (`passB_body`).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.TableIdle
public import Idealize.ShloMosaic.Lib.Claim
public import Idealize.ShloMosaic.Lib.Ring
public import Idealize.ShloMosaic.Lib.Tactic

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 2000000 in
/-- The body where the sums start: the block is stored and each sum becomes the block's own. -/
theorem passB_first (c : Dev nD) (E : Set ℕ) (i : grid1.Coords) (arg2 : Memref sig .tc .vmem S1x256x2048 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128x2048 .f32) (harg9 : arg9.IsWhole) (arg10 : Memref sig .tc .vmem S1x128 .f32) (harg10 : arg10.IsWhole) (arg11 : Memref sig .tc .vmem S1x128 .f32) (harg11 : arg11.IsWhole)
    (hc0 : k1_cond1 i = 1#1) (hc1 : ¬k1_cond2 i = 1#1)
    (x0 : Vec F S1x256x2048 .f32) (x1 x2 x3 x4 : Vec F S1x256 .f32) (x5 : Vec F S128x256 .f32) (x6 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k1_pay1 (k1_pay8 x1 x2 x3 x4 x0 x5 x6))
            ∗ owns (c : Thread nD τ) arg10 fullShare (k1_pay4 (k1_pay8 x1 x2 x3 x4 x0 x5 x6))
            ∗ owns (c : Thread nD τ) arg11 fullShare (k1_pay5 (k1_pay8 x1 x2 x3 x4 x0 x5 x6))) -∗ K ⟨⟩))
      ⊢ wp frame (wpE (defs₀ (F := F)) Variants.none c none) E
          (cc1__pass_b i arg2 harg2 arg3 harg3 arg4 harg4 arg5 harg5 arg6 harg6 arg7 harg7 arg8 harg8 arg9 harg9 arg10 harg10 arg11 harg11) K := by
  simp only [cc1__pass_b_eq_skeleton]; unfold cc1__pass_b_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (fun y => View.cover_of_tiled (Val := Elt F) [⟨_, _⟩] S1x128x2048.size (by rfl) y)]
    rw [View.canon_unit_zero (by decide)]
    refine congrArg k1_pay1 ?_
    unfold passB_first.sl.r
    congr 1 <;> exact View.ld_unit_zero (by decide) _ _
  isplitl [H8]
  · iexists _; isplitr
    swap; · iexact H8
    ipureintro
    rw [View.read_writes_eq_canon _ _ _ (fun y => View.cover_of_tiled (Val := Elt F) [⟨_, _⟩] S1x128.size (by rfl) y)]
    rw [View.canon_unit_zero (by decide)]
    refine congrArg k1_pay4 ?_
    unfold passB_first.sl.r
    congr 1 <;> exact View.ld_unit_zero (by decide) _ _
  iexists _; isplitr
  swap; · iexact H9
  ipureintro
  rw [View.read_writes_eq_canon _ _ _ (fun y => View.cover_of_tiled (Val := Elt F) [⟨_, _⟩] S1x128.size (by rfl) y)]
  rw [View.canon_unit_zero (by decide)]
  refine congrArg k1_pay5 ?_
  unfold passB_first.sl.r
  congr 1 <;> exact View.ld_unit_zero (by decide) _ _

set_option maxHeartbeats 2000000 in
/-- The body at a later point: the block is stored and each sum grows by the block's own. -/
theorem passB_next (c : Dev nD) (E : Set ℕ) (i : grid1.Coords) (arg2 : Memref sig .tc .vmem S1x256x2048 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S128x256 .f32) (harg7 : arg7.IsWhole) (arg8 : Memref sig .tc .vmem S1x128 .f32) (harg8 : arg8.IsWhole) (arg9 : Memref sig .tc .vmem S1x128x2048 .f32) (harg9 : arg9.IsWhole) (arg10 : Memref sig .tc .vmem S1x128 .f32) (harg10 : arg10.IsWhole) (arg11 : Memref sig .tc .vmem S1x128 .f32) (harg11 : arg11.IsWhole)
    (hc0 : ¬k1_cond1 i = 1#1) (hc1 : k1_cond2 i = 1#1)
    (x0 : Vec F S1x256x2048 .f32) (x1 x2 x3 x4 : Vec F S1x256 .f32) (x5 : Vec F S128x256 .f32) (x6 : Vec F S1x128 .f32) (a8 a9 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (∃ d, owns (c : Thread nD τ) arg9 fullShare d) ∗ owns (c : Thread nD τ) arg10 fullShare a8 ∗ owns (c : Thread nD τ) arg11 fullShare a9
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ owns (c : Thread nD τ) arg9 fullShare (k1_pay1 (k1_pay8 x1 x2 x3 x4 x0 x5 x6))
            ∗ owns (c : Thread nD τ) arg10 fullShare (k1_pay6 (k1_pay8 x1 x2 x3 x4 x0 x5 x6) a8)
            ∗ owns (c : Thread nD τ) arg11 fullShare (k1_pay7 (k1_pay8 x1 x2 x3 x4 x0 x5 x6) a9)) -∗ K ⟨⟩))
      ⊢ wp frame (wpE (defs₀ (F := F)) Variants.none c none) E
          (cc1__pass_b i arg2 harg2 arg3 harg3 arg4 harg4 arg5 harg5 arg6 harg6 arg7 harg7 arg8 harg8 arg9 harg9 arg10 harg10 arg11 harg11) K := by
  simp only [cc1__pass_b_eq_skeleton]; unfold cc1__pass_b_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf0 hf1 hf2 hf3 hf4 hf5 hf6; subst hf8 hf9
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    rw [View.read_writes_eq_canon _ _ _ (fun y => View.cover_of_tiled (Val := Elt F) [⟨_, _⟩] S1x128x2048.size (by rfl) y)]
    rw [View.canon_unit_zero (by decide)]
    refine congrArg k1_pay1 ?_
    unfold passB_next.sl.r
    congr 1 <;> exact View.ld_unit_zero (by decide) _ _
  isplitl [H8]
  · iexists _; isplitr
    swap; · iexact H8
    ipureintro
    rw [View.read_writes_eq_canon _ _ _ (fun y => View.cover_of_tiled (Val := Elt F) [⟨_, _⟩] S1x128.size (by rfl) y)]
    rw [View.canon_unit_zero (by decide)]
    refine congr (congrArg k1_pay6 ?_) (View.ld_unit_zero (by decide) _ _)
    unfold passB_next.sl.r
    congr 1 <;> exact View.ld_unit_zero (by decide) _ _
  iexists _; isplitr
  swap; · iexact H9
  ipureintro
  rw [View.read_writes_eq_canon _ _ _ (fun y => View.cover_of_tiled (Val := Elt F) [⟨_, _⟩] S1x128.size (by rfl) y)]
  rw [View.canon_unit_zero (by decide)]
  refine congr (congrArg k1_pay7 ?_) (View.ld_unit_zero (by decide) _ _)
  unfold passB_next.sl.r
  congr 1 <;> exact View.ld_unit_zero (by decide) _ _

variable (W : Dev nD → Valuation τ sig (Elt F))

/-- Window `w`'s block at point `t`, read off the array as the call finds it. -/
def blkB (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The second convolution's block at point `t`. -/
def convB (c : Dev nD) (t : Fin cfg1.N) : FVec F S128x2048 .f32 :=
  k1_pay8 (blkB W c 1 t) (blkB W c 2 t) (blkB W c 3 t) (blkB W c 4 t) (blkB W c 0 t) (blkB W c 5 t) (blkB W c 6 t)

/-- The running sum of the blocks' channel sums after point `n`. -/
def sumB (c : Dev nD) : (n : ℕ) → n < cfg1.N → Vec F S1x128 .f32
  | 0, h => k1_pay4 (convB W c ⟨0, h⟩)
  | n + 1, h => k1_pay6 (convB W c ⟨n + 1, h⟩) (sumB c n (Nat.lt_of_succ_lt h))

/-- The running sum of the blocks' channel sums of squares after point `n`. -/
def sqB (c : Dev nD) : (n : ℕ) → n < cfg1.N → Vec F S1x128 .f32
  | 0, h => k1_pay5 (convB W c ⟨0, h⟩)
  | n + 1, h => k1_pay7 (convB W c ⟨n + 1, h⟩) (sqB c n (Nat.lt_of_succ_lt h))

/-- The call's proof data: the arrays as found, the block and the two running sums after each point. -/
def datB (c : Dev nD) : Dat τ (Elt F) Unit ℕ (UR sig nD τ) ℕ cfg1 c where
  A w := W c (Proc.devRef .tc (Pipeline.arrRef spec1 w))
  after w t := match w with
    | ⟨0, _⟩ => blkB W c 0 t
    | ⟨1, _⟩ => blkB W c 1 t
    | ⟨2, _⟩ => blkB W c 2 t
    | ⟨3, _⟩ => blkB W c 3 t
    | ⟨4, _⟩ => blkB W c 4 t
    | ⟨5, _⟩ => blkB W c 5 t
    | ⟨6, _⟩ => blkB W c 6 t
    | ⟨7, _⟩ => k1_pay1 (convB W c t)
    | ⟨8, _⟩ => sumB W c t.val t.isLt
    | ⟨9, _⟩ => sqB W c t.val t.isLt
  Φ _ := Pipeline.scopedRest spec1 c
  q _ := fullShare
  owed _ := 0

/-- The data's arrays are what the call finds. -/
theorem datB_A (c : Dev nD) (w : Fin cfg1.W) : (datB W c).A w = W c (Proc.devRef .tc (Pipeline.arrRef spec1 w)) := by
  dsimp only [datB]

/-- What window 0's buffer holds after a point of call 2. -/
theorem afterB_0 (c : Dev nD) (t : Fin cfg1.N) : (datB W c).after 0 t = blkB W c 0 t := by dsimp only [datB]
/-- What window 1's buffer holds after a point of call 2. -/
theorem afterB_1 (c : Dev nD) (t : Fin cfg1.N) : (datB W c).after 1 t = blkB W c 1 t := by dsimp only [datB]
/-- What window 2's buffer holds after a point of call 2. -/
theorem afterB_2 (c : Dev nD) (t : Fin cfg1.N) : (datB W c).after 2 t = blkB W c 2 t := by dsimp only [datB]
/-- What window 3's buffer holds after a point of call 2. -/
theorem afterB_3 (c : Dev nD) (t : Fin cfg1.N) : (datB W c).after 3 t = blkB W c 3 t := by dsimp only [datB]
/-- What window 4's buffer holds after a point of call 2. -/
theorem afterB_4 (c : Dev nD) (t : Fin cfg1.N) : (datB W c).after 4 t = blkB W c 4 t := by dsimp only [datB]
/-- What window 5's buffer holds after a point of call 2. -/
theorem afterB_5 (c : Dev nD) (t : Fin cfg1.N) : (datB W c).after 5 t = blkB W c 5 t := by dsimp only [datB]
/-- What window 6's buffer holds after a point of call 2. -/
theorem afterB_6 (c : Dev nD) (t : Fin cfg1.N) : (datB W c).after 6 t = blkB W c 6 t := by dsimp only [datB]
/-- What window 7's buffer holds after a point of call 2. -/
theorem afterB_7 (c : Dev nD) (t : Fin cfg1.N) : (datB W c).after 7 t = k1_pay1 (convB W c t) := by dsimp only [datB]
/-- What window 8's buffer holds after a point of call 2. -/
theorem afterB_8 (c : Dev nD) (t : Fin cfg1.N) : (datB W c).after 8 t = sumB W c t.val t.isLt := by dsimp only [datB]
/-- What window 9's buffer holds after a point of call 2. -/
theorem afterB_9 (c : Dev nD) (t : Fin cfg1.N) : (datB W c).after 9 t = sqB W c t.val t.isLt := by dsimp only [datB]

/-- Input window 0's buffer holds its block at every point. -/
theorem beforeB_0 (c : Dev nD) (t : Fin cfg1.N) (d) : (datB W c).before 0 t d = blkB W c 0 t :=
  ((datB W c).before_in_eq_fetched 0 rfl (fun _ => rfl) (fun _ _ _ => rfl)
    (fun t => by rw [afterB_0]; unfold Dat.blockOf blkB; rw [datB_A]; try rfl) t d).trans
    (by unfold Dat.fetched Dat.blockOf blkB; rw [datB_A]; try rfl)
/-- Input window 1's buffer holds its block at every point. -/
theorem beforeB_1 (c : Dev nD) (t : Fin cfg1.N) (d) : (datB W c).before 1 t d = blkB W c 1 t :=
  ((datB W c).before_in_eq_fetched 1 rfl (fun _ => rfl) (fun _ _ _ => rfl)
    (fun t => by rw [afterB_1]; unfold Dat.blockOf blkB; rw [datB_A]; try rfl) t d).trans
    (by unfold Dat.fetched Dat.blockOf blkB; rw [datB_A]; try rfl)
/-- Input window 2's buffer holds its block at every point. -/
theorem beforeB_2 (c : Dev nD) (t : Fin cfg1.N) (d) : (datB W c).before 2 t d = blkB W c 2 t :=
  ((datB W c).before_in_eq_fetched 2 rfl (fun _ => rfl) (fun _ _ _ => rfl)
    (fun t => by rw [afterB_2]; unfold Dat.blockOf blkB; rw [datB_A]; try rfl) t d).trans
    (by unfold Dat.fetched Dat.blockOf blkB; rw [datB_A]; try rfl)
/-- Input window 3's buffer holds its block at every point. -/
theorem beforeB_3 (c : Dev nD) (t : Fin cfg1.N) (d) : (datB W c).before 3 t d = blkB W c 3 t :=
  ((datB W c).before_in_eq_fetched 3 rfl (fun _ => rfl) (fun _ _ _ => rfl)
    (fun t => by rw [afterB_3]; unfold Dat.blockOf blkB; rw [datB_A]; try rfl) t d).trans
    (by unfold Dat.fetched Dat.blockOf blkB; rw [datB_A]; try rfl)
/-- Input window 4's buffer holds its block at every point. -/
theorem beforeB_4 (c : Dev nD) (t : Fin cfg1.N) (d) : (datB W c).before 4 t d = blkB W c 4 t :=
  ((datB W c).before_in_eq_fetched 4 rfl (fun _ => rfl) (fun _ _ _ => rfl)
    (fun t => by rw [afterB_4]; unfold Dat.blockOf blkB; rw [datB_A]; try rfl) t d).trans
    (by unfold Dat.fetched Dat.blockOf blkB; rw [datB_A]; try rfl)
/-- Input window 5's buffer holds its block at every point. -/
theorem beforeB_5 (c : Dev nD) (t : Fin cfg1.N) (d) : (datB W c).before 5 t d = blkB W c 5 t :=
  ((datB W c).before_in_eq_fetched 5 rfl (fun _ => rfl) (fun _ _ _ => rfl)
    (fun t => by rw [afterB_5]; unfold Dat.blockOf blkB; rw [datB_A]; try rfl) t d).trans
    (by unfold Dat.fetched Dat.blockOf blkB; rw [datB_A]; try rfl)
/-- Input window 6's buffer holds its block at every point. -/
theorem beforeB_6 (c : Dev nD) (t : Fin cfg1.N) (d) : (datB W c).before 6 t d = blkB W c 6 t :=
  ((datB W c).before_in_eq_fetched 6 rfl (fun _ => rfl) (fun _ _ _ => rfl)
    (fun t => by rw [afterB_6]; unfold Dat.blockOf blkB; rw [datB_A]; try rfl) t d).trans
    (by unfold Dat.fetched Dat.blockOf blkB; rw [datB_A]; try rfl)

/-- The first branch is taken at the first point only, the second at every other. -/
theorem condB_first : ∀ t : Fin cfg1.N, k1_cond1 (grid1.coords t) = 1#1 ↔ t.val = 0 :=
  (by decide +kernel : ∀ t : Fin grid1.N, k1_cond1 (grid1.coords t) = 1#1 ↔ t.val = 0)
/-- The sums grow at every point but the first. -/
theorem condB_next : ∀ t : Fin cfg1.N, k1_cond2 (grid1.coords t) = 1#1 ↔ t.val ≠ 0 :=
  (by decide +kernel : ∀ t : Fin grid1.N, k1_cond2 (grid1.coords t) = 1#1 ↔ t.val ≠ 0)
/-- No window is idle at any point. -/
theorem liveB_8 : ∀ t : Fin cfg1.N, cfg1.idle 8 (grid1.coords t) = false :=
  (by decide +kernel : ∀ t : Fin grid1.N, cfg1.idle 8 (grid1.coords t) = false)
/-- Window 9 is not idle at any point. -/
theorem liveB_9 : ∀ t : Fin cfg1.N, cfg1.idle 9 (grid1.coords t) = false :=
  (by decide +kernel : ∀ t : Fin grid1.N, cfg1.idle 9 (grid1.coords t) = false)

/-- Whether window 8's buffer holds nothing stored yet at position `n`: at the first only, and past the last. -/
def newB_8 : ℕ → Bool
  | 0 => true
  | n + 1 => (0x8000 : ℕ).testBit n
/-- That table for window 8 follows the writes out and the idle points. -/
theorem newB_8_step : ∀ t : Fin cfg1.N,
    newB_8 (t.val + 1) = ((cfg1.win 8).flush t || (cfg1.idle 8 (cfg1.grid.coords t) && newB_8 t.val)) := by decide +kernel
/-- The table is right for window 8. -/
theorem newB_8_eq (t : Fin cfg1.N) : cfg1.fresh 8 t.val = newB_8 t.val :=
  Pipeline.Cfg.fresh_tab cfg1 8 newB_8 rfl newB_8_step t.val (Nat.le_of_lt t.isLt)
/-- After the first point window 8's buffer holds something stored. -/
theorem newB_8_later : ∀ t : Fin cfg1.N, t.val ≠ 0 → cfg1.fresh 8 t.val = false := by
  intro t; rw [newB_8_eq t]; revert t; decide +kernel
/-- After the first point window 8's buffer holds the running sum of the point before. -/
theorem beforeB_8 (c : Dev nD) (t : Fin cfg1.N) (h : t.val ≠ 0) (d) :
    (datB W c).before 8 t d = sumB W c (t.val - 1) (Nat.lt_of_le_of_lt (Nat.sub_le _ _) t.isLt) := by
  rw [Dat.before_out_traj _ 8 rfl (fun _ _ => rfl)
    (fun t _ hi _ => absurd ((liveB_8 t).symm.trans hi) Bool.false_ne_true) t.val t rfl d,
    if_neg (by rw [newB_8_later t h]; exact Bool.false_ne_true)]
  dsimp only [datB]

/-- Whether window 9's buffer holds nothing stored yet at position `n`: at the first only, and past the last. -/
def newB_9 : ℕ → Bool
  | 0 => true
  | n + 1 => (0x8000 : ℕ).testBit n
/-- That table for window 9 follows the writes out and the idle points. -/
theorem newB_9_step : ∀ t : Fin cfg1.N,
    newB_9 (t.val + 1) = ((cfg1.win 9).flush t || (cfg1.idle 9 (cfg1.grid.coords t) && newB_9 t.val)) := by decide +kernel
/-- The table is right for window 9. -/
theorem newB_9_eq (t : Fin cfg1.N) : cfg1.fresh 9 t.val = newB_9 t.val :=
  Pipeline.Cfg.fresh_tab cfg1 9 newB_9 rfl newB_9_step t.val (Nat.le_of_lt t.isLt)
/-- After the first point window 9's buffer holds something stored. -/
theorem newB_9_later : ∀ t : Fin cfg1.N, t.val ≠ 0 → cfg1.fresh 9 t.val = false := by
  intro t; rw [newB_9_eq t]; revert t; decide +kernel
/-- After the first point window 9's buffer holds the running sum of the point before. -/
theorem beforeB_9 (c : Dev nD) (t : Fin cfg1.N) (h : t.val ≠ 0) (d) :
    (datB W c).before 9 t d = sqB W c (t.val - 1) (Nat.lt_of_le_of_lt (Nat.sub_le _ _) t.isLt) := by
  rw [Dat.before_out_traj _ 9 rfl (fun _ _ => rfl)
    (fun t _ hi _ => absurd ((liveB_9 t).symm.trans hi) Bool.false_ne_true) t.val t rfl d,
    if_neg (by rw [newB_9_later t h]; exact Bool.false_ne_true)]
  dsimp only [datB]

/-- The sums of call 2 at the first point. -/
theorem sumB_zero (c : Dev nD) (t : Fin cfg1.N) (h : t.val = 0) : sumB W c t.val t.isLt = k1_pay4 (convB W c t) := by
  obtain ⟨n, hn⟩ := t; obtain rfl : n = 0 := h; rfl
/-- The sums of squares of call 2 at the first point. -/
theorem sqB_zero (c : Dev nD) (t : Fin cfg1.N) (h : t.val = 0) : sqB W c t.val t.isLt = k1_pay5 (convB W c t) := by
  obtain ⟨n, hn⟩ := t; obtain rfl : n = 0 := h; rfl
/-- The sums of call 2 at a later point, from those at the point before. -/
theorem sumB_next (c : Dev nD) (t : Fin cfg1.N) (h : t.val ≠ 0) :
    sumB W c t.val t.isLt = k1_pay6 (convB W c t) (sumB W c (t.val - 1) (Nat.lt_of_le_of_lt (Nat.sub_le _ _) t.isLt)) := by
  obtain ⟨n, hn⟩ := t
  cases n with
  | zero => exact absurd rfl h
  | succ n => rfl
/-- The sums of squares of call 2 at a later point, from those at the point before. -/
theorem sqB_next (c : Dev nD) (t : Fin cfg1.N) (h : t.val ≠ 0) :
    sqB W c t.val t.isLt = k1_pay7 (convB W c t) (sqB W c (t.val - 1) (Nat.lt_of_le_of_lt (Nat.sub_le _ _) t.isLt)) := by
  obtain ⟨n, hn⟩ := t
  cases n with
  | zero => exact absurd rfl h
  | succ n => rfl

/-- What the body is called with at point `t`, window by window, -/
def preB (c : Dev nD) (t : Fin cfg1.N) : sProp 𝕄 :=
  iprop((datB W c).Φ t.castSucc ∗ (datB W c).owesAt () t.castSucc
    ∗ (∃ d, owns (c : Thread nD τ) (st1_0 t) fullShare ((datB W c).before 0 t d))
    ∗ (∃ d, owns (c : Thread nD τ) (st1_1 t) fullShare ((datB W c).before 1 t d))
    ∗ (∃ d, owns (c : Thread nD τ) (st1_2 t) fullShare ((datB W c).before 2 t d))
    ∗ (∃ d, owns (c : Thread nD τ) (st1_3 t) fullShare ((datB W c).before 3 t d))
    ∗ (∃ d, owns (c : Thread nD τ) (st1_4 t) fullShare ((datB W c).before 4 t d))
    ∗ (∃ d, owns (c : Thread nD τ) (st1_5 t) fullShare ((datB W c).before 5 t d))
    ∗ (∃ d, owns (c : Thread nD τ) (st1_6 t) fullShare ((datB W c).before 6 t d))
    ∗ (∃ d, owns (c : Thread nD τ) (st1_7 t) fullShare ((datB W c).before 7 t d))
    ∗ (∃ d, owns (c : Thread nD τ) (st1_8 t) fullShare ((datB W c).before 8 t d))
    ∗ (∃ d, owns (c : Thread nD τ) (st1_9 t) fullShare ((datB W c).before 9 t d)))

/-- and what it returns. -/
def postB (c : Dev nD) (t : Fin cfg1.N) : sProp 𝕄 :=
  iprop((datB W c).Φ t.succ ∗ (datB W c).owesAt () t.succ
    ∗ (datB W c).leavesExact 0 t
    ∗ (datB W c).leavesExact 1 t
    ∗ (datB W c).leavesExact 2 t
    ∗ (datB W c).leavesExact 3 t
    ∗ (datB W c).leavesExact 4 t
    ∗ (datB W c).leavesExact 5 t
    ∗ (datB W c).leavesExact 6 t
    ∗ (datB W c).leavesExact 7 t
    ∗ (datB W c).leavesExact 8 t
    ∗ (datB W c).leavesExact 9 t)

/-- The body at any grid point. -/
theorem passB_at (c : Dev nD) (t : Fin cfg1.N) :
    preB W c t ⊢ wp frame (wpE (defs₀ (F := F)) Variants.none c none) Set.univ (bodyAt1 t) (fun _ => postB W c t) := by
  unfold preB postB bodyAt1
  simp only [beforeB_0, beforeB_1, beforeB_2, beforeB_3, beforeB_4, beforeB_5, beforeB_6]
  rw [show (datB W c).Φ t.succ = (datB W c).Φ t.castSucc from rfl,
    show (datB W c).owesAt () t.succ = (datB W c).owesAt () t.castSucc from rfl]
  rw [show (datB W c).leavesExact 0 t = owns (c : Thread nD τ) (st1_0 t) fullShare ((datB W c).after 0 t) from by
    unfold Dat.leavesExact; rw [show cfg1.idle 0 (cfg1.grid.coords t) = false from rfl], afterB_0]
  rw [show (datB W c).leavesExact 1 t = owns (c : Thread nD τ) (st1_1 t) fullShare ((datB W c).after 1 t) from by
    unfold Dat.leavesExact; rw [show cfg1.idle 1 (cfg1.grid.coords t) = false from rfl], afterB_1]
  rw [show (datB W c).leavesExact 2 t = owns (c : Thread nD τ) (st1_2 t) fullShare ((datB W c).after 2 t) from by
    unfold Dat.leavesExact; rw [show cfg1.idle 2 (cfg1.grid.coords t) = false from rfl], afterB_2]
  rw [show (datB W c).leavesExact 3 t = owns (c : Thread nD τ) (st1_3 t) fullShare ((datB W c).after 3 t) from by
    unfold Dat.leavesExact; rw [show cfg1.idle 3 (cfg1.grid.coords t) = false from rfl], afterB_3]
  rw [show (datB W c).leavesExact 4 t = owns (c : Thread nD τ) (st1_4 t) fullShare ((datB W c).after 4 t) from by
    unfold Dat.leavesExact; rw [show cfg1.idle 4 (cfg1.grid.coords t) = false from rfl], afterB_4]
  rw [show (datB W c).leavesExact 5 t = owns (c : Thread nD τ) (st1_5 t) fullShare ((datB W c).after 5 t) from by
    unfold Dat.leavesExact; rw [show cfg1.idle 5 (cfg1.grid.coords t) = false from rfl], afterB_5]
  rw [show (datB W c).leavesExact 6 t = owns (c : Thread nD τ) (st1_6 t) fullShare ((datB W c).after 6 t) from by
    unfold Dat.leavesExact; rw [show cfg1.idle 6 (cfg1.grid.coords t) = false from rfl], afterB_6]
  rw [show (datB W c).leavesExact 7 t = owns (c : Thread nD τ) (st1_7 t) fullShare ((datB W c).after 7 t) from by
    unfold Dat.leavesExact; rw [show cfg1.idle 7 (cfg1.grid.coords t) = false from rfl], afterB_7]
  rw [show (datB W c).leavesExact 8 t = owns (c : Thread nD τ) (st1_8 t) fullShare ((datB W c).after 8 t) from by
    unfold Dat.leavesExact; rw [liveB_8 t], afterB_8]
  rw [show (datB W c).leavesExact 9 t = owns (c : Thread nD τ) (st1_9 t) fullShare ((datB W c).after 9 t) from by
    unfold Dat.leavesExact; rw [liveB_9 t], afterB_9]
  by_cases h0 : t.val = 0
  · rw [sumB_zero W c t h0, sqB_zero W c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (passB_first c Set.univ (grid1.coords t) _ _ _ _ _ _ _ _ _ _ _ _ _ _ _ _ _ _ _ _ ((condB_first t).mpr h0) (fun h => (condB_next t).mp h h0) (blkB W c 0 t) (blkB W c 1 t) (blkB W c 2 t) (blkB W c 3 t) (blkB W c 4 t) (blkB W c 5 t) (blkB W c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [sumB_next W c t h0, sqB_next W c t h0]
    simp only [beforeB_8 W c t h0, beforeB_9 W c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (passB_next c Set.univ (grid1.coords t) _ _ _ _ _ _ _ _ _ _ _ _ _ _ _ _ _ _ _ _ (fun h => h0 ((condB_first t).mp h)) ((condB_next t).mpr h0) (blkB W c 0 t) (blkB W c 1 t) (blkB W c 2 t) (blkB W c 3 t) (blkB W c 4 t) (blkB W c 5 t) (blkB W c 6 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t` is the body there. -/
theorem rowB (t : Fin cfg1.N) :
    defs₀ (F := F) .tc cfg1.body (cfg1.bodyArgs t (cfg1.slots t)) = bodyAt1 t := by
  unfold defs₀; rw [Defs.onTc_tc]

/-- The body obligation of the second call. -/
theorem passB_body (c : Dev nD) : BodyObligation (datB W c) (defs₀ (F := F)) Variants.none () Set.univ := fun t => by
  rw [bigSep_W1, bigSep_W1, rowB]
  exact triple_restated (passB_at W c t) rfl .rfl fun _ => .rfl

end Cert.KernelIdeal.Run

end
-- ==== Proof.Ideal.PassC.lean ====
/-
  The third kernel call: batch normalisation of the second convolution and the last ReLU, block by block.
  What its body leaves in the output block (`passC_run`), the proof data over any contents the call finds
  (`datC`) and the body obligation at every grid point (`passC_body`).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Claim
public import Idealize.ShloMosaic.Lib.Ring
public import Idealize.ShloMosaic.Lib.Tactic

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1000000 in
/-- The body on whole buffers: the five inputs stay, the output block ends at the normalised, scaled, shifted and
    clamped block. -/
theorem passC_run (c : Dev nD) (E : Set ℕ) (i : grid2.Coords) (arg2 : Memref sig .tc .vmem S1x128x2048 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128x2048 .f32) (harg7 : arg7.IsWhole)
    (x0 : Vec F S1x128x2048 .f32) (x1 x2 x3 x4 : Vec F S1x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k2_pay1 x1 x2 x3 x4 x0)) -∗ K ⟨⟩))
      ⊢ wp frame (wpE (defs₀ (F := F)) Variants.none c none) E
          (cc2__pass_c i arg2 harg2 arg3 harg3 arg4 harg4 arg5 harg5 arg6 harg6 arg7 harg7) K := by
  simp only [cc2__pass_c_eq_skeleton]; unfold cc2__pass_c_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (fun y => View.cover_of_tiled (Val := Elt F) [⟨_, _⟩] S1x128x2048.size (by rfl) y)]
  rw [View.canon_unit_zero (by decide)]
  congr 1 <;> exact View.ld_unit_zero (by decide) _ _

variable (W : Dev nD → Valuation τ sig (Elt F))

/-- Window `w`'s block at point `t`, read off the array as the call finds it. -/
def blkC (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The output block at point `t`. -/
def outC (c : Dev nD) (t : Fin cfg2.N) : Vec F S1x128x2048 .f32 :=
  k2_pay1 (blkC W c 1 t) (blkC W c 2 t) (blkC W c 3 t) (blkC W c 4 t) (blkC W c 0 t)

/-- The call's proof data: the arrays as found, the output block after each point, nothing carried between points. -/
def datC (c : Dev nD) : Dat τ (Elt F) Unit ℕ (UR sig nD τ) ℕ cfg2 c where
  A w := W c (Proc.devRef .tc (Pipeline.arrRef spec2 w))
  after w t := match w with
    | ⟨0, _⟩ => blkC W c 0 t
    | ⟨1, _⟩ => blkC W c 1 t
    | ⟨2, _⟩ => blkC W c 2 t
    | ⟨3, _⟩ => blkC W c 3 t
    | ⟨4, _⟩ => blkC W c 4 t
    | ⟨5, _⟩ => outC W c t
  Φ _ := Pipeline.scopedRest spec2 c
  q _ := fullShare
  owed _ := 0

/-- The data's arrays are what the call finds. -/
theorem datC_A (c : Dev nD) (w : Fin cfg2.W) : (datC W c).A w = W c (Proc.devRef .tc (Pipeline.arrRef spec2 w)) := by
  dsimp only [datC]

/-- What window 0's buffer holds after a point of call 3. -/
theorem afterC_0 (c : Dev nD) (t : Fin cfg2.N) : (datC W c).after 0 t = blkC W c 0 t := by dsimp only [datC]
/-- What window 1's buffer holds after a point of call 3. -/
theorem afterC_1 (c : Dev nD) (t : Fin cfg2.N) : (datC W c).after 1 t = blkC W c 1 t := by dsimp only [datC]
/-- What window 2's buffer holds after a point of call 3. -/
theorem afterC_2 (c : Dev nD) (t : Fin cfg2.N) : (datC W c).after 2 t = blkC W c 2 t := by dsimp only [datC]
/-- What window 3's buffer holds after a point of call 3. -/
theorem afterC_3 (c : Dev nD) (t : Fin cfg2.N) : (datC W c).after 3 t = blkC W c 3 t := by dsimp only [datC]
/-- What window 4's buffer holds after a point of call 3. -/
theorem afterC_4 (c : Dev nD) (t : Fin cfg2.N) : (datC W c).after 4 t = blkC W c 4 t := by dsimp only [datC]
/-- What window 5's buffer holds after a point of call 3. -/
theorem afterC_5 (c : Dev nD) (t : Fin cfg2.N) : (datC W c).after 5 t = outC W c t := by dsimp only [datC]

/-- Each input window's buffer holds its block at every point. -/
theorem beforeC_0 (c : Dev nD) (t : Fin cfg2.N) (d) : (datC W c).before 0 t d = blkC W c 0 t :=
  ((datC W c).before_in_eq_fetched 0 rfl (fun _ => rfl) (fun _ _ _ => rfl)
    (fun t => by rw [afterC_0]; unfold Dat.blockOf blkC; rw [datC_A]; try rfl) t d).trans
    (by unfold Dat.fetched Dat.blockOf blkC; rw [datC_A]; try rfl)
/-- What window 1's buffer holds before a point of call 3. -/
theorem beforeC_1 (c : Dev nD) (t : Fin cfg2.N) (d) : (datC W c).before 1 t d = blkC W c 1 t :=
  ((datC W c).before_in_eq_fetched 1 rfl (fun _ => rfl) (fun _ _ _ => rfl)
    (fun t => by rw [afterC_1]; unfold Dat.blockOf blkC; rw [datC_A]; try rfl) t d).trans
    (by unfold Dat.fetched Dat.blockOf blkC; rw [datC_A]; try rfl)
/-- What window 2's buffer holds before a point of call 3. -/
theorem beforeC_2 (c : Dev nD) (t : Fin cfg2.N) (d) : (datC W c).before 2 t d = blkC W c 2 t :=
  ((datC W c).before_in_eq_fetched 2 rfl (fun _ => rfl) (fun _ _ _ => rfl)
    (fun t => by rw [afterC_2]; unfold Dat.blockOf blkC; rw [datC_A]; try rfl) t d).trans
    (by unfold Dat.fetched Dat.blockOf blkC; rw [datC_A]; try rfl)
/-- What window 3's buffer holds before a point of call 3. -/
theorem beforeC_3 (c : Dev nD) (t : Fin cfg2.N) (d) : (datC W c).before 3 t d = blkC W c 3 t :=
  ((datC W c).before_in_eq_fetched 3 rfl (fun _ => rfl) (fun _ _ _ => rfl)
    (fun t => by rw [afterC_3]; unfold Dat.blockOf blkC; rw [datC_A]; try rfl) t d).trans
    (by unfold Dat.fetched Dat.blockOf blkC; rw [datC_A]; try rfl)
/-- What window 4's buffer holds before a point of call 3. -/
theorem beforeC_4 (c : Dev nD) (t : Fin cfg2.N) (d) : (datC W c).before 4 t d = blkC W c 4 t :=
  ((datC W c).before_in_eq_fetched 4 rfl (fun _ => rfl) (fun _ _ _ => rfl)
    (fun t => by rw [afterC_4]; unfold Dat.blockOf blkC; rw [datC_A]; try rfl) t d).trans
    (by unfold Dat.fetched Dat.blockOf blkC; rw [datC_A]; try rfl)

/-- What the body is called with at point `t`, window by window, -/
def preC (c : Dev nD) (t : Fin cfg2.N) : sProp 𝕄 :=
  iprop((datC W c).Φ t.castSucc ∗ (datC W c).owesAt () t.castSucc
    ∗ (∃ d, owns (c : Thread nD τ) (st2_0 t) fullShare ((datC W c).before 0 t d))
    ∗ (∃ d, owns (c : Thread nD τ) (st2_1 t) fullShare ((datC W c).before 1 t d))
    ∗ (∃ d, owns (c : Thread nD τ) (st2_2 t) fullShare ((datC W c).before 2 t d))
    ∗ (∃ d, owns (c : Thread nD τ) (st2_3 t) fullShare ((datC W c).before 3 t d))
    ∗ (∃ d, owns (c : Thread nD τ) (st2_4 t) fullShare ((datC W c).before 4 t d))
    ∗ (∃ d, owns (c : Thread nD τ) (st2_5 t) fullShare ((datC W c).before 5 t d)))

/-- and what it returns. -/
def postC (c : Dev nD) (t : Fin cfg2.N) : sProp 𝕄 :=
  iprop((datC W c).Φ t.succ ∗ (datC W c).owesAt () t.succ
    ∗ owns (c : Thread nD τ) (st2_0 t) fullShare ((datC W c).after 0 t)
    ∗ owns (c : Thread nD τ) (st2_1 t) fullShare ((datC W c).after 1 t)
    ∗ owns (c : Thread nD τ) (st2_2 t) fullShare ((datC W c).after 2 t)
    ∗ owns (c : Thread nD τ) (st2_3 t) fullShare ((datC W c).after 3 t)
    ∗ owns (c : Thread nD τ) (st2_4 t) fullShare ((datC W c).after 4 t)
    ∗ owns (c : Thread nD τ) (st2_5 t) fullShare ((datC W c).after 5 t))

/-- The body at any grid point. -/
theorem passC_at (c : Dev nD) (t : Fin cfg2.N) :
    preC W c t ⊢ wp frame (wpE (defs₀ (F := F)) Variants.none c none) Set.univ (bodyAt2 t) (fun _ => postC W c t) := by
  unfold preC postC bodyAt2
  simp only [beforeC_0, beforeC_1, beforeC_2, beforeC_3, beforeC_4]
  rw [show (datC W c).Φ t.succ = (datC W c).Φ t.castSucc from rfl,
    show (datC W c).owesAt () t.succ = (datC W c).owesAt () t.castSucc from rfl,
    afterC_0, afterC_1, afterC_2, afterC_3, afterC_4, afterC_5]
  iintro ⟨HΦ, Ho, ⟨%d0, H0⟩, ⟨%d1, H1⟩, ⟨%d2, H2⟩, ⟨%d3, H3⟩, ⟨%d4, H4⟩, ⟨%d5, H5⟩⟩
  iapply (passC_run c Set.univ (grid2.coords t) _ _ _ _ _ _ _ _ _ _ _ _ (blkC W c 0 t) (blkC W c 1 t) (blkC W c 2 t) (blkC W c 3 t) (blkC W c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t` is the body there. -/
theorem rowC (t : Fin cfg2.N) :
    defs₀ (F := F) .tc cfg2.body (cfg2.bodyArgs t (cfg2.slots t)) = bodyAt2 t := by
  unfold defs₀; rw [Defs.onTc_tc]

/-- The body obligation of the third call. -/
theorem passC_body (c : Dev nD) : BodyObligation (datC W c) (defs₀ (F := F)) Variants.none () Set.univ := fun t => by
  rw [bigSep_W2, bigSep_W2, rowC]
  exact triple_restated (passC_at W c t) rfl .rfl fun _ => .rfl

end Cert.KernelIdeal.Run

end
-- ==== Proof.Ideal.Chain.lean ====
/-
  The three kernel calls in a row.  From any memory every run of the whole program ends with every argument as it was, every
  semaphore at zero, and every buffer at the contents the three calls' proof data name (`run_all`).
-/
module

public import proofs.«01_k».proof.Proof.Ideal.PassA
public import proofs.«01_k».proof.Proof.Ideal.PassB
public import proofs.«01_k».proof.Proof.Ideal.PassC
public import proofs.«01_k».proof.Proof.Gen.KernelIdeal.Regions
public import Idealize.ShloMosaic.Lib.Pipeline.Regions
public import Idealize.ShloMosaic.Lib.Pipeline.RegionArraysS
public import Idealize.ShloMosaic.Lib.Pipeline.Kit

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg RegionSeg HostSeg)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers when the first call starts: the launch contents after the host's reshapes, -/
def atA (c : Dev nD) : Valuation τ sig (Elt F) := StableHlo.after hostOps0 (fun b => m (c, b))
/-- when the second starts, -/
def atB (c : Dev nD) : Valuation τ sig (Elt F) := Pipeline.afterRegion (datA (atA m) c) (atA m c)
/-- when the third starts, -/
def atC (c : Dev nD) : Valuation τ sig (Elt F) := Pipeline.afterRegion (datB (atB m) c) (atB m c)
/-- and at the end. -/
def atEnd (c : Dev nD) : Valuation τ sig (Elt F) := Pipeline.afterRegion (datC (atC m) c) (atC m c)

/-- The three calls' proof data. -/
def pdats : (p : Fin 3) → (c : Dev nD) → Dat τ (Elt F) Unit ℕ (UR sig nD τ) ℕ (cfgs p) c
  | ⟨0, _⟩ => datA (atA m)
  | ⟨1, _⟩ => datB (atB m)
  | ⟨2, _⟩ => datC (atC m)

/-- The waits' index at every TensorCore semaphore. -/
def L : GSem nD τ sig → Finset Unit := fun g => if g.1.2 = .tc then {()} else ∅
/-- All at one level. -/
def lv : GSem nD τ sig → Unit → ℕ := fun _ _ => 0
/-- Every TensorCore semaphore has the one index of waits. -/
theorem L_tc (c : Dev nD) (s : SemLoc sig) : () ∈ L ((c : Thread nD τ), s) := by
  unfold L; rw [if_pos rfl]; exact Finset.mem_singleton_self _
/-- No other semaphore has one. -/
theorem L_off (g : GSem nD τ sig) (h : g.1.2 ≠ .tc) : L g = ∅ := if_neg h
/-- No core owes anything. -/
def D : Dev nD → CellTallies nD τ sig Unit := fun _ => 0
/-- The one level of the waits is as each call needs it. -/
theorem cut (p : Fin 3) : Pipeline.LevelCut (pcfgs (F := F)) adm () L lv p D (fun _ => 0) :=
  ⟨fun c _ _ => L_tc c _, fun _ _ _ => le_rfl, fun _ _ _ h => absurd h (Nat.lt_irrefl 0)⟩

/-- What rides along: each core owing nothing. -/
def ride (c : Dev nD) : sProp 𝕄 := iprop((∃ Wd, owes (c : Thread nD τ) (D c) Wd) ∗ iprop(emp) ∗ iprop(emp))

/-- Call 1's record over the unscoped buffers. -/
def regA : RegionSeg (pcfgs (F := F)) adm (pdats m) () defs₀ Variants.none L lv 0 :=
  RegionSeg.ofHeldIn (pcfgs (F := F)) adm (pdats m) () defs₀ Variants.none L lv 0 D (Pipeline.ucRefs τ sig)
    (fun _ => iprop(emp)) (fun _ => iprop(emp)) launch0.toP rfl (fun c => (passA_body (atA m) c).loose)
    (fun _ _ => rfl) (fun _ => rfl) (fun c w => (datA (atA m) c).share_full (fun _ => rfl) w)
    (fun c => by rw [show (pdats m 0 c).Φ 0 = scratchA (atA m) c 0 from rfl]; unfold scratchA; rw [dif_neg (by decide)]; iintro ⟨H, -⟩; iexact H)
    (fun c => by
      rw [show (pdats m 0 c).Φ (Fin.last _) = scratchA (atA m) c (Fin.last cfg0.N) from rfl]; unfold scratchA
      rw [dif_neg (by decide)]; iintro H; isplitl [H]; · iexact H
      iempintro)
    (fun _ => 0) (cut 0) (fun _ => iprop(emp)) (atA m)
    (fun c w => datA_A (atA m) c w)

/-- The arrays of call 1 are among the arrays held. -/
theorem arrsA : Pipeline.arrRefs (τ := τ) (pcfgs (F := F) 0).spec ⊆ Pipeline.ucRefs τ sig :=
  Pipeline.arrRefs_sub_ucRefs spec0 (by decide)
/-- What is held before call 1 is what the call needs. -/
theorem regA_pre (c : Dev nD) : iprop(StableHlo.held (c : Thread nD τ) (Pipeline.ucRefs τ sig) (atA m c) ∗ ride (F := F) c) ⊢ (regA m).pre c :=
  by
  unfold regA ride; exact RegionSeg.ofHeldIn_pre (pcs := pcfgs (F := F)) (a := adm) (pdats := pdats m) (p := 0) (D := D) (S := Pipeline.ucRefs τ sig)
    (X := fun _ => iprop(emp)) (Y := fun _ => iprop(emp)) (R := fun _ => iprop(emp)) (W := atA m) (arrsA (F := F)) c
/-- What call 1 leaves is what is held after it. -/
theorem regA_post (c : Dev nD) : (regA m).post c ⊢ iprop(StableHlo.held (c : Thread nD τ) (Pipeline.ucRefs τ sig) (atB m c) ∗ ride (F := F) c) :=
  by
  unfold regA ride; exact RegionSeg.ofHeldIn_post (pcs := pcfgs (F := F)) (a := adm) (pdats := pdats m) (p := 0) (D := D) (S := Pipeline.ucRefs τ sig)
    (X := fun _ => iprop(emp)) (Y := fun _ => iprop(emp)) (R := fun _ => iprop(emp)) (W := atA m) (arrsA (F := F)) c

/-- Call 2's record over the unscoped buffers. -/
def regB : RegionSeg (pcfgs (F := F)) adm (pdats m) () defs₀ Variants.none L lv 1 :=
  RegionSeg.ofHeldIn (pcfgs (F := F)) adm (pdats m) () defs₀ Variants.none L lv 1 D (Pipeline.ucRefs τ sig)
    (fun _ => iprop(emp)) (fun _ => iprop(emp)) launch1.toP rfl (fun c => (passB_body (atB m) c).loose)
    (fun _ _ => rfl) (fun _ => rfl) (fun c w => (datB (atB m) c).share_full (fun _ => rfl) w)
    (fun c => by rw [show (pdats m 1 c).Φ 0 = Pipeline.scopedRest spec1 c from rfl]; iintro ⟨H, -⟩; iexact H)
    (fun c => by
      rw [show (pdats m 1 c).Φ (Fin.last _) = Pipeline.scopedRest spec1 c from rfl]; iintro H; isplitl [H]; · iexact H
      iempintro)
    (fun _ => 0) (cut 1) (fun _ => iprop(emp)) (atB m)
    (fun c w => datB_A (atB m) c w)

/-- The arrays of call 2 are among the arrays held. -/
theorem arrsB : Pipeline.arrRefs (τ := τ) (pcfgs (F := F) 1).spec ⊆ Pipeline.ucRefs τ sig :=
  Pipeline.arrRefs_sub_ucRefs spec1 (by decide)
/-- What is held before call 2 is what the call needs. -/
theorem regB_pre (c : Dev nD) : iprop(StableHlo.held (c : Thread nD τ) (Pipeline.ucRefs τ sig) (atB m c) ∗ ride (F := F) c) ⊢ (regB m).pre c :=
  by
  unfold regB ride; exact RegionSeg.ofHeldIn_pre (pcs := pcfgs (F := F)) (a := adm) (pdats := pdats m) (p := 1) (D := D) (S := Pipeline.ucRefs τ sig)
    (X := fun _ => iprop(emp)) (Y := fun _ => iprop(emp)) (R := fun _ => iprop(emp)) (W := atB m) (arrsB (F := F)) c
/-- What call 2 leaves is what is held after it. -/
theorem regB_post (c : Dev nD) : (regB m).post c ⊢ iprop(StableHlo.held (c : Thread nD τ) (Pipeline.ucRefs τ sig) (atC m c) ∗ ride (F := F) c) :=
  by
  unfold regB ride; exact RegionSeg.ofHeldIn_post (pcs := pcfgs (F := F)) (a := adm) (pdats := pdats m) (p := 1) (D := D) (S := Pipeline.ucRefs τ sig)
    (X := fun _ => iprop(emp)) (Y := fun _ => iprop(emp)) (R := fun _ => iprop(emp)) (W := atB m) (arrsB (F := F)) c

/-- Call 3's record over the unscoped buffers. -/
def regC : RegionSeg (pcfgs (F := F)) adm (pdats m) () defs₀ Variants.none L lv 2 :=
  RegionSeg.ofHeldIn (pcfgs (F := F)) adm (pdats m) () defs₀ Variants.none L lv 2 D (Pipeline.ucRefs τ sig)
    (fun _ => iprop(emp)) (fun _ => iprop(emp)) launch2.toP rfl (fun c => (passC_body (atC m) c).loose)
    (fun _ _ => rfl) (fun _ => rfl) (fun c w => (datC (atC m) c).share_full (fun _ => rfl) w)
    (fun c => by rw [show (pdats m 2 c).Φ 0 = Pipeline.scopedRest spec2 c from rfl]; iintro ⟨H, -⟩; iexact H)
    (fun c => by
      rw [show (pdats m 2 c).Φ (Fin.last _) = Pipeline.scopedRest spec2 c from rfl]; iintro H; isplitl [H]; · iexact H
      iempintro)
    (fun _ => 0) (cut 2) (fun _ => iprop(emp)) (atC m)
    (fun c w => datC_A (atC m) c w)

/-- The arrays of call 3 are among the arrays held. -/
theorem arrsC : Pipeline.arrRefs (τ := τ) (pcfgs (F := F) 2).spec ⊆ Pipeline.ucRefs τ sig :=
  Pipeline.arrRefs_sub_ucRefs spec2 (by decide)
/-- What is held before call 3 is what the call needs. -/
theorem regC_pre (c : Dev nD) : iprop(StableHlo.held (c : Thread nD τ) (Pipeline.ucRefs τ sig) (atC m c) ∗ ride (F := F) c) ⊢ (regC m).pre c :=
  by
  unfold regC ride; exact RegionSeg.ofHeldIn_pre (pcs := pcfgs (F := F)) (a := adm) (pdats := pdats m) (p := 2) (D := D) (S := Pipeline.ucRefs τ sig)
    (X := fun _ => iprop(emp)) (Y := fun _ => iprop(emp)) (R := fun _ => iprop(emp)) (W := atC m) (arrsC (F := F)) c
/-- What call 3 leaves is what is held after it. -/
theorem regC_post (c : Dev nD) : (regC m).post c ⊢ iprop(StableHlo.held (c : Thread nD τ) (Pipeline.ucRefs τ sig) (atEnd m c) ∗ ride (F := F) c) :=
  by
  unfold regC ride; exact RegionSeg.ofHeldIn_post (pcs := pcfgs (F := F)) (a := adm) (pdats := pdats m) (p := 2) (D := D) (S := Pipeline.ucRefs τ sig)
    (X := fun _ => iprop(emp)) (Y := fun _ => iprop(emp)) (R := fun _ => iprop(emp)) (W := atC m) (arrsC (F := F)) c

/-- What a final state holds: every unscoped buffer at the last contents. -/
def Final (s : MemSt nD τ sig (Elt F)) : Prop :=
  ∀ (c : Dev nD) (b : Ref sig .tc), (Proc.devRef .tc b : DevRef τ sig) ∈ Pipeline.ucRefs τ sig →
    s.mem ((c : Thread nD τ).loc b) = atEnd m c (Proc.devRef .tc b)

/-- What a core starts with gives its buffers at the launch contents and what rides along. -/
theorem start_at (c : Dev nD) : iprop(unscopedBufs c (fun b => m ((c : Thread nD τ).loc b)) ∗ unscopedSems0 c
      ∗ owes (c : Thread nD τ) (D c) ∅ ∗ Pipeline.launchCred D c ∗ prngReg c (ρ c) ∗ iprop(emp))
    ⊢ (iprop(StableHlo.held (c : Thread nD τ) (Pipeline.ucRefs τ sig) (fun b => m (c, b)) ∗ ride (F := F) c) : sProp 𝕄) := by
  rw [← Pipeline.unscopedBufs_held (Ix := Unit) (Name := ℕ) (U := UR sig nD τ) (Lvl := ℕ) c (fun b => m (c, b))]
  unfold ride
  iintro ⟨Hb, -, Ho, -, -, -⟩
  isplitl [Hb]; · iexact Hb
  isplitl [Ho]; · iexists _; iexact Ho
  isplitr; · iempintro
  iempintro

set_option backward.isDefEq.respectTransparency.types false in
/-- Every weakly fair run of the program ends, with every unscoped buffer at the last contents and every semaphore at zero. -/
theorem run_all : θ_run defs (onTc (τ := τ) (main (F := F))) ⟨m, fun _ => 0, ρ⟩ (fun r => Final m r.2 ∧ r.2.sem = fun _ => 0) := by
  refine Pipeline.θ_run_regions_kit_dev_sems (pcfgs (F := F)) adm (pdats m) () cellOf_inj
    (emb₁ : Emb (URounds (GSem nD τ sig) Unit) 𝕄) defs₀ Variants.none L lv m ρ main
    (segs m Variants.none L lv (fun _ => ride (F := F)) () (pdats m) (regA m) (regB m) (regC m))
    (fun c Q => by
      rewrite [main_chain c, Seg.run_eq_chain,
        show (segs m Variants.none L lv (fun _ => ride (F := F)) () (pdats m) (regA m) (regB m) (regC m) c).map Seg.prog = [
          StableHlo.seq hostOps0,
          Prog.lift (.customCall (Pipeline.entry 0) ()),
          Prog.lift (.customCall (Pipeline.entry 1) ()),
          Prog.lift (.customCall (Pipeline.entry 2) ()) ] from rfl]
      dsimp (config := { failIfUnchanged := false }) only
      exact .rfl)
    (fun c => by simp only [segs, Seg.pipes_host, Seg.pipes_region, Seg.pipes_nil]; decide)
    (O₀ := D) (hL := L_off) (G := fun _ => iprop(emp))
    (u₀ := initOf (Pipeline.cells (Pipeline.pin (pcfgs (F := F)) adm) cellOf_inj) (Pipeline.launchToks (Pipeline.pin (pcfgs (F := F)) adm) cellOf_inj))
    (hu₀ := by
      rw [ownU_emb₁]
      iintro Hu
      imodintro
      isplitl [Hu]
      · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ ride (F := F) c))
    (Tₙ := fun c => StableHlo.held (c : Thread nD τ) (Pipeline.ucRefs τ sig) (atEnd m c))
    (hch := fun c => ⟨.rfl, regA_pre m c, (regA_post m c).trans (regB_pre m c), (regB_post m c).trans (regC_pre m c), (regC_post m c).trans (sep_mono .rfl ?_)⟩)
    (hinit := ?_)
    (QY := fun c s => ∀ b : Ref sig .tc, (Proc.devRef .tc b : DevRef τ sig) ∈ Pipeline.ucRefs τ sig →
      s.mem ((c : Thread nD τ).loc b) = atEnd m c (Proc.devRef .tc b))
    (hfin := fun c s' => ?_)
    (hQ := fun _ h hz => ⟨h, funext fun g => hz g (.inr (regions_no_unscoped g.2))⟩)
  · unfold ride; iintro ⟨H, -, -⟩; iexact H
  · have hall : (bigSep Finset.univ fun c : Dev nD => iprop(unscopedBufs c (fun b => m ((c : Thread nD τ).loc b)) ∗ unscopedSems0 c
          ∗ owes (c : Thread nD τ) (D c) ∅ ∗ Pipeline.launchCred D c ∗ prngReg c (ρ c) ∗ iprop(emp)))
        ⊢ (bigSep Finset.univ fun c : Dev nD => iprop(StableHlo.held (c : Thread nD τ) (Pipeline.ucRefs τ sig) (fun b => m (c, b)) ∗ ride (F := F) c) : sProp 𝕄) :=
      bigSep_mono fun c _ => start_at m ρ c
    iintro ⟨H, -⟩
    imodintro
    iapply hall
    iexact H
  · unfold StableHlo.held
    iintro ⟨Hh, HSI⟩
    ihave Hr := (pointsTo_read_all (Pipeline.ucRefs τ sig) (fun b => ((c : Thread nD τ).1, b)) (atEnd m c) s') $$ [Hh HSI]
    · isplitl [Hh] <;> iassumption
    icases Hr with ⟨%h, HSI⟩
    imodintro
    isplitr
    · ipureintro
      exact fun b hb => h _ hb
    · iexact HSI

/-- An unscoped reference is among the buffers held. -/
theorem held_ref (b : Ref sig .tc) (h : b.isScoped = false) : (Proc.devRef .tc b : DevRef τ sig) ∈ Pipeline.ucRefs τ sig :=
  Finset.mem_filter.mpr ⟨StableHlo.devRef_mem_tcRefs _, fun h' => Bool.false_ne_true (h.symm.trans h')⟩

/-- Call 1 changes no buffer but its results. -/
theorem keepA (c : Dev nD) (r : Ref sig .tc) (h : ∀ w, Pipeline.arrRef spec0 w = r → (cfg0.win w).isOut = false) :
    atB m c (Proc.devRef .tc r) = atA m c (Proc.devRef .tc r) :=
  Pipeline.afterRegion_keeps (datA (atA m) c) (atA m c) launch0.win.arr_inj (datA_A (atA m) c) r h
/-- Call 2 changes no buffer but its results. -/
theorem keepB (c : Dev nD) (r : Ref sig .tc) (h : ∀ w, Pipeline.arrRef spec1 w = r → (cfg1.win w).isOut = false) :
    atC m c (Proc.devRef .tc r) = atB m c (Proc.devRef .tc r) :=
  Pipeline.afterRegion_keeps (datB (atB m) c) (atB m c) launch1.win.arr_inj (datB_A (atB m) c) r h
/-- Call 3 changes no buffer but its results. -/
theorem keepC (c : Dev nD) (r : Ref sig .tc) (h : ∀ w, Pipeline.arrRef spec2 w = r → (cfg2.win w).isOut = false) :
    atEnd m c (Proc.devRef .tc r) = atC m c (Proc.devRef .tc r) :=
  Pipeline.afterRegion_keeps (datC (atC m) c) (atC m c) launch2.win.arr_inj (datC_A (atC m) c) r h

/-- Nothing writes an argument. -/
theorem atEnd_arg (c : Dev nD) (r : Ref sig .tc) (h : r ∉ hostOps0_W)
    (hA : ∀ w, Pipeline.arrRef spec0 w = r → (cfg0.win w).isOut = false)
    (hB : ∀ w, Pipeline.arrRef spec1 w = r → (cfg1.win w).isOut = false)
    (hC : ∀ w, Pipeline.arrRef spec2 w = r → (cfg2.win w).isOut = false) :
    atEnd m c (Proc.devRef .tc r) = m ((c : Thread nD τ).loc r) :=
  (keepC m c r hC).trans <| (keepB m c r hB).trans <| (keepA m c r hA).trans <| V1_of m c r h
/-- Argument 0 is unchanged at the end. -/
theorem atEnd_arg0 (c : Dev nD) : atEnd m c (Proc.devRef .tc main_arg0) = m ((c : Thread nD τ).loc main_arg0) :=
  atEnd_arg m c main_arg0 (by decide) (by decide) (by decide) (by decide)
/-- Argument 1 is unchanged at the end. -/
theorem atEnd_arg1 (c : Dev nD) : atEnd m c (Proc.devRef .tc main_arg1) = m ((c : Thread nD τ).loc main_arg1) :=
  atEnd_arg m c main_arg1 (by decide) (by decide) (by decide) (by decide)
/-- Argument 2 is unchanged at the end. -/
theorem atEnd_arg2 (c : Dev nD) : atEnd m c (Proc.devRef .tc main_arg2) = m ((c : Thread nD τ).loc main_arg2) :=
  atEnd_arg m c main_arg2 (by decide) (by decide) (by decide) (by decide)
/-- Argument 3 is unchanged at the end. -/
theorem atEnd_arg3 (c : Dev nD) : atEnd m c (Proc.devRef .tc main_arg3) = m ((c : Thread nD τ).loc main_arg3) :=
  atEnd_arg m c main_arg3 (by decide) (by decide) (by decide) (by decide)
/-- Argument 4 is unchanged at the end. -/
theorem atEnd_arg4 (c : Dev nD) : atEnd m c (Proc.devRef .tc main_arg4) = m ((c : Thread nD τ).loc main_arg4) :=
  atEnd_arg m c main_arg4 (by decide) (by decide) (by decide) (by decide)
/-- Argument 5 is unchanged at the end. -/
theorem atEnd_arg5 (c : Dev nD) : atEnd m c (Proc.devRef .tc main_arg5) = m ((c : Thread nD τ).loc main_arg5) :=
  atEnd_arg m c main_arg5 (by decide) (by decide) (by decide) (by decide)
/-- Argument 6 is unchanged at the end. -/
theorem atEnd_arg6 (c : Dev nD) : atEnd m c (Proc.devRef .tc main_arg6) = m ((c : Thread nD τ).loc main_arg6) :=
  atEnd_arg m c main_arg6 (by decide) (by decide) (by decide) (by decide)
/-- Argument 7 is unchanged at the end. -/
theorem atEnd_arg7 (c : Dev nD) : atEnd m c (Proc.devRef .tc main_arg7) = m ((c : Thread nD τ).loc main_arg7) :=
  atEnd_arg m c main_arg7 (by decide) (by decide) (by decide) (by decide)
/-- Argument 8 is unchanged at the end. -/
theorem atEnd_arg8 (c : Dev nD) : atEnd m c (Proc.devRef .tc main_arg8) = m ((c : Thread nD τ).loc main_arg8) :=
  atEnd_arg m c main_arg8 (by decide) (by decide) (by decide) (by decide)
/-- Argument 9 is unchanged at the end. -/
theorem atEnd_arg9 (c : Dev nD) : atEnd m c (Proc.devRef .tc main_arg9) = m ((c : Thread nD τ).loc main_arg9) :=
  atEnd_arg m c main_arg9 (by decide) (by decide) (by decide) (by decide)
/-- Argument 10 is unchanged at the end. -/
theorem atEnd_arg10 (c : Dev nD) : atEnd m c (Proc.devRef .tc main_arg10) = m ((c : Thread nD τ).loc main_arg10) :=
  atEnd_arg m c main_arg10 (by decide) (by decide) (by decide) (by decide)
/-- Argument 11 is unchanged at the end. -/
theorem atEnd_arg11 (c : Dev nD) : atEnd m c (Proc.devRef .tc main_arg11) = m ((c : Thread nD τ).loc main_arg11) :=
  atEnd_arg m c main_arg11 (by decide) (by decide) (by decide) (by decide)

/-- The result is what the third call's windows leave in their array. -/
theorem atEnd_result (c : Dev nD) : atEnd m c (Proc.devRef .tc main_v11) = (datC (atC m) c).arrAt 5 cfg2.N :=
  Pipeline.afterRegion_arr (datC (atC m) c) (atC m c) launch2.win.arr_inj 5

/-- From any memory every run of the program ends with every argument as it was and every semaphore at zero. -/
theorem run_frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11))
    ∧ r.2.sem = fun _ => 0) :=
  (θ_run defs _ _).mono (fun r h => ⟨fun c => ⟨
    (h.1 c main_arg0 (held_ref main_arg0 rfl)).trans (atEnd_arg0 m c),
    (h.1 c main_arg1 (held_ref main_arg1 rfl)).trans (atEnd_arg1 m c),
    (h.1 c main_arg2 (held_ref main_arg2 rfl)).trans (atEnd_arg2 m c),
    (h.1 c main_arg3 (held_ref main_arg3 rfl)).trans (atEnd_arg3 m c),
    (h.1 c main_arg4 (held_ref main_arg4 rfl)).trans (atEnd_arg4 m c),
    (h.1 c main_arg5 (held_ref main_arg5 rfl)).trans (atEnd_arg5 m c),
    (h.1 c main_arg6 (held_ref main_arg6 rfl)).trans (atEnd_arg6 m c),
    (h.1 c main_arg7 (held_ref main_arg7 rfl)).trans (atEnd_arg7 m c),
    (h.1 c main_arg8 (held_ref main_arg8 rfl)).trans (atEnd_arg8 m c),
    (h.1 c main_arg9 (held_ref main_arg9 rfl)).trans (atEnd_arg9 m c),
    (h.1 c main_arg10 (held_ref main_arg10 rfl)).trans (atEnd_arg10 m c),
    (h.1 c main_arg11 (held_ref main_arg11 rfl)).trans (atEnd_arg11 m c)⟩, h.2⟩)
    (run_all m ρ)

/-- From any memory every run of the program ends with the result at the last contents and every argument as it was. -/
theorem run_value : θ_run defs (onTc (τ := τ) (main (F := F))) ⟨m, fun _ => 0, ρ⟩ (fun r => ∀ c : Dev nD,
    r.2.mem ((c.tc : Thread nD τ).loc main_v11) = atEnd m c (Proc.devRef .tc main_v11)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)) :=
  (θ_run defs _ _).mono (fun r h c => ⟨h.1 c main_v11 (held_ref main_v11 rfl),
    (h.1 c main_arg0 (held_ref main_arg0 rfl)).trans (atEnd_arg0 m c),
    (h.1 c main_arg1 (held_ref main_arg1 rfl)).trans (atEnd_arg1 m c),
    (h.1 c main_arg2 (held_ref main_arg2 rfl)).trans (atEnd_arg2 m c),
    (h.1 c main_arg3 (held_ref main_arg3 rfl)).trans (atEnd_arg3 m c),
    (h.1 c main_arg4 (held_ref main_arg4 rfl)).trans (atEnd_arg4 m c),
    (h.1 c main_arg5 (held_ref main_arg5 rfl)).trans (atEnd_arg5 m c),
    (h.1 c main_arg6 (held_ref main_arg6 rfl)).trans (atEnd_arg6 m c),
    (h.1 c main_arg7 (held_ref main_arg7 rfl)).trans (atEnd_arg7 m c),
    (h.1 c main_arg8 (held_ref main_arg8 rfl)).trans (atEnd_arg8 m c),
    (h.1 c main_arg9 (held_ref main_arg9 rfl)).trans (atEnd_arg9 m c),
    (h.1 c main_arg10 (held_ref main_arg10 rfl)).trans (atEnd_arg10 m c),
    (h.1 c main_arg11 (held_ref main_arg11 rfl)).trans (atEnd_arg11 m c)⟩)
    (run_all m ρ)

end Cert.KernelIdeal.Run

end
-- ==== Proof.Frames.lean ====
/-
  The frames: every run of the kernel, of its idealization and of the reference ends, with every argument as it was and every
  semaphore at zero; and the one named constant.
-/
module

public import proofs.«01_k».proof.Defs
public import proofs.«01_k».proof.Proof.Ideal.Chain
public import proofs.«01_k».proof.Proof.Plain.Chain
public import proofs.«01_k».proof.Proof.Gen.ReferenceIdeal.Run

@[expose] public section

noncomputable section

namespace Cert.Proof

open Idealize.ShloMosaic Idealize.SL.Sem

/-- The kernel's frame. -/
theorem frame_kernel : Cert.quiescent_Kernel (hKernel := Cert.Kernel.Gen.facts) :=
  fun m g _ => Cert.Kernel.Run.run_frame (F := Bits) m g

/-- The idealized kernel's frame. -/
theorem frame_ideal : Cert.quiescent_KernelIdeal (hKernelIdeal := Cert.KernelIdeal.Gen.facts) :=
  fun m g _ => Cert.KernelIdeal.Run.run_frame (F := Ideal) m g

/-- The reference's frame. -/
theorem frame_reference : Cert.quiescent_ReferenceIdeal (hReferenceIdeal := Cert.ReferenceIdeal.Gen.facts) :=
  fun m g _ => (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The bound on a weight is named. -/
theorem bound_named : Cert.preserves_Kernel_KernelIdeal :=
  IdealRules.named_const.statement Cert.KernelIdeal.κ "most" .f32 0x4CBEBC20#32 ((1125899906842624 / 11258999 : ℝ) : EReal) rfl

end Cert.Proof

end
-- ==== Proof.Near.lean ====
/-
  One row of the three-nearest weights, as plain real numbers and extended reals: the fast way (three rounds of "smallest value,
  drop every entry equal to it") and the exact way (three rounds of "lowest position of the smallest value, drop that
  entry") both give the weights of the three nearest points, the fast way when its row adds up to nearly one.
-/
module

public import Idealize.ShloMosaic.Lib.IdealHost
public import Idealize.ShloMosaic.Lib.Pointwise

@[expose] public section

set_option maxRecDepth 16384

noncomputable section

namespace Cert.Near

open Idealize.ShloMosaic

/-! ## The literals -/

/-- The least distance, the float nearest to 1e-8. -/
def eps : ℝ := 11258999 / 1125899906842624

/-- It is positive. -/
theorem eps_pos : 0 < eps := by unfold eps; norm_num

/-- The plus infinity pattern. -/
theorem word_top : Ideal.ofBits .f32 0x7F800000#32 = ⊤ := by simp [Ideal.ofBits, Ideal.ieee]

/-- The minus infinity pattern. -/
theorem word_bot : Ideal.ofBits .f32 0xFF800000#32 = ⊥ := by simp [Ideal.ofBits, Ideal.ieee]

/-- The pattern of the least distance. -/
theorem word_eps : Ideal.ofBits .f32 0x322BCC77#32 = ((eps : ℝ) : EReal) := by
  simp [Ideal.ofBits, Ideal.ieee, -EReal.coe_mul, eps]; norm_num

/-- The pattern of two. -/
theorem word_two : Ideal.ofBits .f32 0x40000000#32 = ((2 : ℝ) : EReal) := by
  simp [Ideal.ofBits, Ideal.ieee, -EReal.coe_mul]; norm_num

/-- The pattern of minus two. -/
theorem word_neg_two : Ideal.ofBits .f32 0xC0000000#32 = ((-2 : ℝ) : EReal) := by
  simp [Ideal.ofBits, Ideal.ieee, -EReal.coe_mul, -EReal.coe_neg]; norm_num

/-- How far a row sum may be from one. -/
def slack : ℝ := 13743895 / 137438953472

/-- The pattern of the slack. -/
theorem word_slack : Ideal.ofBits .f32 0x38D1B717#32 = ((slack : ℝ) : EReal) := by
  simp [Ideal.ofBits, Ideal.ieee, -EReal.coe_mul, slack]; norm_num

/-- The slack is below one third. -/
theorem slack_lt : slack < 1 / 3 := by unfold slack; norm_num

/-- The larger of two reals, as extended reals. -/
theorem max_coe (x y : ℝ) : max (x : EReal) (y : EReal) = ((max x y : ℝ) : EReal) :=
  (EReal.coe_strictMono.monotone.map_max).symm

/-- The smaller of two reals, as extended reals. -/
theorem min_coe (x y : ℝ) : min (x : EReal) (y : EReal) = ((min x y : ℝ) : EReal) :=
  (EReal.coe_strictMono.monotone.map_min).symm

/-! ## Distances and weights of one row -/

/-- The distance of a squared distance: no root of a negative number, and never below the least distance. -/
def dist (d : ℝ) : ℝ := max (Real.sqrt (max d 0)) eps

/-- A distance is positive. -/
theorem dist_pos (d : ℝ) : 0 < dist d := lt_of_lt_of_le eps_pos (le_max_right _ _)

/-- A larger squared distance has no smaller distance. -/
theorem dist_mono {d e : ℝ} (h : d ≤ e) : dist d ≤ dist e :=
  max_le_max (Real.sqrt_le_sqrt (max_le_max h le_rfl)) le_rfl

/-- A smaller distance comes from a smaller squared distance. -/
theorem lt_of_dist_lt {d e : ℝ} (h : dist d < dist e) : d < e := by
  by_contra hn; exact absurd (dist_mono (not_lt.1 hn)) (not_le.2 h)

/-- The three nearest of a row of squared distances: three points, one of them strictly the farthest of the three, every
    other point strictly farther still. -/
structure Nearest (D : Fin 1024 → ℝ) (T : Finset (Fin 1024)) (z : Fin 1024) : Prop where
  card : T.card = 3
  mem : z ∈ T
  inner : ∀ s ∈ T, s ≠ z → dist (D s) < dist (D z)
  outer : ∀ s, s ∉ T → dist (D z) < dist (D s)

/-- The weight of point `s`: the inverse distance over the sum of the three, zero off the three. -/
def weight (D : Fin 1024 → ℝ) (T : Finset (Fin 1024)) (s : Fin 1024) : ℝ :=
  if s ∈ T then (dist (D s))⁻¹ / ∑ u ∈ T, (dist (D u))⁻¹ else 0

variable {D : Fin 1024 → ℝ} {T : Finset (Fin 1024)} {z : Fin 1024}

/-- No point of the three is farther than the farthest. -/
theorem Nearest.le (h : Nearest D T z) {s : Fin 1024} (hs : s ∈ T) : dist (D s) ≤ dist (D z) := by
  by_cases e : s = z
  · rw [e]
  · exact (h.inner s hs e).le

/-- Three points no other point is closer than are the three nearest. -/
theorem Nearest.unique (h : Nearest D T z) (S : Finset (Fin 1024)) (hS : S.card = 3)
    (hl : ∀ u ∈ S, ∀ s, s ∉ S → D u ≤ D s) : S = T := by
  apply Finset.eq_of_subset_of_card_le _ (by rw [hS, h.card])
  intro u hu
  by_contra hn
  have : ∃ s ∈ T, s ∉ S := by
    by_contra hc
    push Not at hc
    have e := Finset.eq_of_subset_of_card_le (s := T) (t := S) hc (by rw [hS, h.card])
    exact hn (e ▸ hu)
  obtain ⟨s, hs, hs'⟩ := this
  have h1 := dist_mono (hl u hu s hs')
  have h2 := h.outer u hn
  have h3 := h.le hs
  linarith

/-- The weights written over three distinct points that are the three nearest. -/
theorem weight_of_points (p : Fin 3 → Fin 1024) (h01 : p 0 ≠ p 1) (h02 : p 0 ≠ p 2) (h12 : p 1 ≠ p 2)
    (hT : ({p 0, p 1, p 2} : Finset (Fin 1024)) = T) (s : Fin 1024) :
    weight D T s = (if s = p 0 then (dist (D (p 0)))⁻¹ / ((dist (D (p 0)))⁻¹ + (dist (D (p 1)))⁻¹ + (dist (D (p 2)))⁻¹) else 0)
      + (if s = p 1 then (dist (D (p 1)))⁻¹ / ((dist (D (p 0)))⁻¹ + (dist (D (p 1)))⁻¹ + (dist (D (p 2)))⁻¹) else 0)
      + (if s = p 2 then (dist (D (p 2)))⁻¹ / ((dist (D (p 0)))⁻¹ + (dist (D (p 1)))⁻¹ + (dist (D (p 2)))⁻¹) else 0) := by
  have hsum : ∑ u ∈ T, (dist (D u))⁻¹ = (dist (D (p 0)))⁻¹ + (dist (D (p 1)))⁻¹ + (dist (D (p 2)))⁻¹ := by
    rw [← hT, Finset.sum_insert (by simp [h01, h02]), Finset.sum_insert (by simp [h12]), Finset.sum_singleton, add_assoc]
  unfold weight
  rw [hsum, ← hT]
  by_cases e0 : s = p 0
  · subst e0; simp [h01, h02]
  · by_cases e1 : s = p 1
    · subst e1; simp [h12, e0]
    · by_cases e2 : s = p 2
      · subst e2; simp [e0, e1]
      · simp [e0, e1, e2]

/-! ## The smallest entry of a row of extended reals -/

/-- The smallest entry. -/
def low (t : Fin 1024 → EReal) : EReal := Finset.univ.fold min ⊤ t

/-- The smallest entry is an entry, and no entry is below it. -/
theorem low_spec (t : Fin 1024 → EReal) : ∃ p, low t = t p ∧ ∀ s, t p ≤ t s := by
  obtain ⟨p, -, hp⟩ := Finset.exists_min_image Finset.univ t ⟨0, Finset.mem_univ _⟩
  refine ⟨p, le_antisymm ?_ ?_, fun s => hp s (Finset.mem_univ _)⟩
  · exact (Finset.fold_min_le _).2 (Or.inr ⟨p, Finset.mem_univ _, le_rfl⟩)
  · exact (Finset.le_fold_min _).2 ⟨le_top, fun s hs => hp s hs⟩

/-- The smallest entry, from an entry nothing is below. -/
theorem low_eq (t : Fin 1024 → EReal) (p : Fin 1024) (h : ∀ s, t p ≤ t s) : low t = t p := by
  obtain ⟨q, hq, hl⟩ := low_spec t
  rw [hq]; exact le_antisymm (hl p) (h q)

/-! ## One weight of the fast way -/

/-- The largest weight, the inverse of the least distance. -/
def most : EReal := ((1125899906842624 / 11258999 : ℝ) : EReal)

/-- The inverse root of a squared distance, bounded, is the inverse distance. -/
theorem bounded_rsqrt (a m : ℝ) :
    min (Ideal.rsqrt (max ((a : EReal) + (m : EReal)) 0)) most = (((dist (a + m))⁻¹ : ℝ) : EReal) := by
  rw [← EReal.coe_add, ← EReal.coe_zero, max_coe, Ideal.rsqrt_coe]
  have hm : most = ((eps⁻¹ : ℝ) : EReal) := by unfold most eps; norm_num
  have h0 : ¬ (max (a + m) 0 < 0) := not_lt.2 (le_max_right _ _)
  rw [if_neg h0, hm]
  split
  · rename_i h
    unfold dist
    rw [h, Real.sqrt_zero, max_eq_right eps_pos.le, min_eq_right le_top]
  · rename_i h
    have hp : 0 < max (a + m) 0 := lt_of_le_of_ne (le_max_right _ _) (Ne.symm h)
    have hs : 0 < Real.sqrt (max (a + m) 0) := Real.sqrt_pos.2 hp
    rw [min_coe]
    congr 1
    unfold dist
    rcases le_total (Real.sqrt (max (a + m) 0)) eps with hl | hl
    · rw [max_eq_right hl, min_eq_right ((inv_le_inv₀ eps_pos hs).2 hl)]
    · rw [max_eq_left hl, min_eq_left ((inv_le_inv₀ hs eps_pos).2 hl)]

/-- One over a clamped root is the inverse distance. -/
theorem one_div_root (d : ℝ) :
    Ideal.div 1 (max (Ideal.sqrt (max (d : EReal) 0)) ((eps : ℝ) : EReal)) = (((dist d)⁻¹ : ℝ) : EReal) := by
  rw [← EReal.coe_zero, max_coe, Ideal.sqrt_coe, if_neg (not_lt.2 (le_max_right _ _)), max_coe]
  change Ideal.div 1 ((dist d : ℝ) : EReal) = _
  rw [Ideal.div_coe (dist_pos d).ne', one_mul, one_div]

/-! ## The fast way -/

/-- Every entry equal to the smallest becomes infinite. -/
def drop (t : Fin 1024 → EReal) (s : Fin 1024) : EReal := if t s = low t then ⊤ else t s

/-- The bounded inverse root of the row's smallest entry. -/
def near (a : EReal) (t : Fin 1024 → EReal) : EReal := min (Ideal.rsqrt (max (a + low t) 0)) most

/-- One over the sum of the three weights. -/
def scale (a : EReal) (t : Fin 1024 → EReal) : EReal :=
  Ideal.div 1 (near a t + near a (drop t) + near a (drop (drop t)))

/-- The fast row. -/
def fast (a : EReal) (t : Fin 1024 → EReal) (s : Fin 1024) : EReal :=
  (if t s = low t then near a t * scale a t else 0)
    + (if drop t s = low (drop t) then near a (drop t) * scale a t else 0)
    + (if drop (drop t) s = low (drop (drop t)) then near a (drop (drop t)) * scale a t else 0)

/-- The three smallest distinct values of a row with four strictly ordered entries somewhere. -/
theorem fast_groups (t : Fin 1024 → ℝ) (x y w : Fin 1024) (hxy : t x < t y) (hyw : t y < t w) :
    ∃ p : Fin 3 → Fin 1024, t (p 0) < t (p 1) ∧ t (p 1) < t (p 2)
      ∧ (∀ s, t s = t (p 0) ∨ t s = t (p 1) ∨ t s = t (p 2) ∨ t (p 2) < t s)
      ∧ low (fun s => (t s : EReal)) = t (p 0)
      ∧ low (drop fun s => (t s : EReal)) = t (p 1)
      ∧ low (drop (drop fun s => (t s : EReal))) = t (p 2)
      ∧ (∀ s, drop (fun s => (t s : EReal)) s = t (p 1) ↔ t s = t (p 1))
      ∧ (∀ s, drop (drop fun s => (t s : EReal)) s = t (p 2) ↔ t s = t (p 2)) := by
  obtain ⟨p0, h0, l0⟩ := low_spec (fun s => (t s : EReal))
  have l0' : ∀ s, t p0 ≤ t s := fun s => EReal.coe_le_coe_iff.1 (l0 s)
  have d1 : ∀ s, drop (fun s => (t s : EReal)) s = if t s = t p0 then ⊤ else (t s : EReal) := fun s => by
    unfold drop; simp only [h0, EReal.coe_eq_coe_iff]
  obtain ⟨p1, h1, l1⟩ := low_spec (drop fun s => (t s : EReal))
  have n1 : t p1 ≠ t p0 := by
    intro e
    have := l1 y
    rw [d1, d1, if_pos e, if_neg (fun e' => by have := l0' x; linarith), top_le_iff] at this
    exact EReal.coe_ne_top _ this
  rw [d1, if_neg n1] at h1
  have l1' : ∀ s, t s ≠ t p0 → t p1 ≤ t s := fun s hs => by
    have := l1 s
    rw [d1, d1, if_neg n1, if_neg hs] at this
    exact EReal.coe_le_coe_iff.1 this
  have m1 : ∀ s, drop (fun s => (t s : EReal)) s = t p1 ↔ t s = t p1 := fun s => by
    rw [d1]
    split
    · rename_i e; constructor
      · intro e'; exact absurd e'.symm (EReal.coe_ne_top _)
      · intro e'; exact absurd (e'.symm.trans e) n1
    · exact EReal.coe_eq_coe_iff
  have d2 : ∀ s, drop (drop fun s => (t s : EReal)) s = if t s = t p0 ∨ t s = t p1 then ⊤ else (t s : EReal) := fun s => by
    conv_lhs => unfold drop
    change (if drop (fun s => (t s : EReal)) s = low (drop fun s => (t s : EReal)) then ⊤ else drop (fun s => (t s : EReal)) s) = _
    rw [h1]
    by_cases e : t s = t p1
    · rw [if_pos ((m1 s).2 e), if_pos (Or.inr e)]
    · rw [if_neg (fun e' => e ((m1 s).1 e')), d1]; simp [e]
  obtain ⟨p2, h2, l2⟩ := low_spec (drop (drop fun s => (t s : EReal)))
  have lt01 : t p0 < t p1 := lt_of_le_of_ne (l0' p1) (Ne.symm n1)
  have hw : ¬ (t w = t p0 ∨ t w = t p1) := by
    rintro (e | e)
    · have := l0' x; linarith
    · have h := l1' y (fun e' => by have := l0' x; linarith); linarith
  have n2 : ¬ (t p2 = t p0 ∨ t p2 = t p1) := by
    intro e
    have := l2 w
    rw [d2, d2, if_pos e, if_neg hw, top_le_iff] at this
    exact EReal.coe_ne_top _ this
  rw [d2, if_neg n2] at h2
  have l2' : ∀ s, ¬ (t s = t p0 ∨ t s = t p1) → t p2 ≤ t s := fun s hs => by
    have := l2 s
    rw [d2, d2, if_neg n2, if_neg hs] at this
    exact EReal.coe_le_coe_iff.1 this
  push Not at n2
  have lt12 : t p1 < t p2 := lt_of_le_of_ne (l1' p2 n2.1) (Ne.symm n2.2)
  refine ⟨![p0, p1, p2], lt01, lt12, fun s => ?_, h0, h1, h2, m1, fun s => ?_⟩
  · by_cases e0 : t s = t p0
    · exact Or.inl e0
    by_cases e1 : t s = t p1
    · exact Or.inr (Or.inl e1)
    have := l2' s (by rintro (e | e); exacts [e0 e, e1 e])
    rcases this.lt_or_eq with h | h
    · exact Or.inr (Or.inr (Or.inr h))
    · exact Or.inr (Or.inr (Or.inl h.symm))
  · change _ = ((t p2 : ℝ) : EReal) ↔ t s = t p2
    rw [d2]
    split
    · rename_i e; constructor
      · intro e'; exact absurd e'.symm (EReal.coe_ne_top _)
      · intro e'
        rcases e with e | e
        · exact absurd (e'.symm.trans e) n2.1
        · exact absurd (e'.symm.trans e) n2.2
    · exact EReal.coe_eq_coe_iff

/-- What is counted once: a sum of one value over the entries equal to `v`. -/
theorem sum_group (t : Fin 1024 → ℝ) (v w : ℝ) :
    ∑ s, (if t s = v then w else 0) = ((Finset.univ.filter fun s => t s = v).card : ℝ) * w := by
  rw [← Finset.sum_filter, Finset.sum_const, nsmul_eq_mul]

set_option maxHeartbeats 2000000 in
/-- THE FAST WAY: when the fast row adds up to one within the slack, it is the row of weights. -/
theorem fast_eq (a : ℝ) (t : Fin 1024 → ℝ) (h : Nearest (fun s => a + t s) T z)
    (hsum : max (∑ s, fast a (fun s => (t s : EReal)) s - 1) (-(∑ s, fast a (fun s => (t s : EReal)) s - 1)) ≤ ((slack : ℝ) : EReal))
    (s : Fin 1024) : fast a (fun s => (t s : EReal)) s = ((weight (fun s => a + t s) T s : ℝ) : EReal) := by
  have tlt : ∀ {u v : Fin 1024}, dist (a + t u) < dist (a + t v) → t u < t v := fun hd => by
    have := lt_of_dist_lt hd; linarith
  obtain ⟨x, hx, hxz⟩ : ∃ x ∈ T, x ≠ z := by
    by_contra hc
    push Not at hc
    have h1 : T.card ≤ ({z} : Finset (Fin 1024)).card := Finset.card_le_card fun u hu => by simp [hc u hu]
    rw [h.card] at h1; simp at h1
  obtain ⟨w, hw⟩ : ∃ w, w ∉ T := by
    by_contra hc
    push Not at hc
    have h1 : (Finset.univ : Finset (Fin 1024)).card ≤ T.card := Finset.card_le_card fun u _ => hc u
    rw [h.card] at h1; simp at h1
  obtain ⟨p, h01, h12, hall, e0, e1, e2, m1, m2⟩ :=
    fast_groups t x z w (tlt (h.inner x hx hxz)) (tlt (h.outer w hw))
  have w0 : near a (fun s => (t s : EReal)) = (((dist (a + t (p 0)))⁻¹ : ℝ) : EReal) := by unfold near; rw [e0, bounded_rsqrt]
  have w1 : near a (drop fun s => (t s : EReal)) = (((dist (a + t (p 1)))⁻¹ : ℝ) : EReal) := by unfold near; rw [e1, bounded_rsqrt]
  have w2 : near a (drop (drop fun s => (t s : EReal))) = (((dist (a + t (p 2)))⁻¹ : ℝ) : EReal) := by
    unfold near; rw [e2, bounded_rsqrt]
  obtain ⟨v0, hv0⟩ : ∃ v, v = (dist (a + t (p 0)))⁻¹ := ⟨_, rfl⟩
  obtain ⟨v1, hv1⟩ : ∃ v, v = (dist (a + t (p 1)))⁻¹ := ⟨_, rfl⟩
  obtain ⟨v2, hv2⟩ : ∃ v, v = (dist (a + t (p 2)))⁻¹ := ⟨_, rfl⟩
  have q0 : 0 < v0 := by rw [hv0]; exact inv_pos.2 (dist_pos _)
  have q1 : 0 < v1 := by rw [hv1]; exact inv_pos.2 (dist_pos _)
  have q2 : 0 < v2 := by rw [hv2]; exact inv_pos.2 (dist_pos _)
  have o01 : v1 ≤ v0 := by
    rw [hv0, hv1]; exact (inv_le_inv₀ (dist_pos _) (dist_pos _)).2 (dist_mono (by linarith))
  have o12 : v2 ≤ v1 := by
    rw [hv1, hv2]; exact (inv_le_inv₀ (dist_pos _) (dist_pos _)).2 (dist_mono (by linarith))
  have qs : 0 < v0 + v1 + v2 := by linarith
  have hsc : scale a (fun s => (t s : EReal)) = ((1 / (v0 + v1 + v2) : ℝ) : EReal) := by
    unfold scale
    rw [w0, w1, w2, ← hv0, ← hv1, ← hv2, ← EReal.coe_add, ← EReal.coe_add, Ideal.div_coe qs.ne', one_mul]
  have hrow : ∀ s, fast a (fun s => (t s : EReal)) s
      = (((if t s = t (p 0) then v0 * (1 / (v0 + v1 + v2)) else 0) + (if t s = t (p 1) then v1 * (1 / (v0 + v1 + v2)) else 0)
        + (if t s = t (p 2) then v2 * (1 / (v0 + v1 + v2)) else 0) : ℝ) : EReal) := by
    intro s
    unfold fast
    rw [hsc, w0, w1, w2, ← hv0, ← hv1, ← hv2, e0, e1, e2]
    simp only [m1 s, m2 s, EReal.coe_eq_coe_iff, ← EReal.coe_mul]
    simp only [EReal.coe_add]
    congr 1
    · congr 1 <;> split <;> simp
    · split <;> simp
  have hs' : |(∑ s, ((if t s = t (p 0) then v0 * (1 / (v0 + v1 + v2)) else 0) + (if t s = t (p 1) then v1 * (1 / (v0 + v1 + v2)) else 0)
        + (if t s = t (p 2) then v2 * (1 / (v0 + v1 + v2)) else 0))) - 1| ≤ slack := by
    rw [Finset.sum_congr rfl fun s _ => hrow s] at hsum
    have hc : ∀ f : Fin 1024 → ℝ, ∑ s, ((f s : ℝ) : EReal) = ((∑ s, f s : ℝ) : EReal) := fun f => by
      induction (Finset.univ : Finset (Fin 1024)) using Finset.induction_on with
      | empty => simp
      | insert i S hi ih => rw [Finset.sum_insert hi, Finset.sum_insert hi, ih, EReal.coe_add]
    rw [hc, ← EReal.coe_one, ← EReal.coe_sub, ← EReal.coe_neg, max_coe, EReal.coe_le_coe_iff] at hsum
    exact hsum
  rw [Finset.sum_add_distrib, Finset.sum_add_distrib, sum_group, sum_group, sum_group] at hs'
  have up := le_trans (le_abs_self _) hs'
  obtain ⟨n0, hn0⟩ : ∃ n, n = (Finset.univ.filter fun s => t s = t (p 0)).card := ⟨_, rfl⟩
  obtain ⟨n1, hn1⟩ : ∃ n, n = (Finset.univ.filter fun s => t s = t (p 1)).card := ⟨_, rfl⟩
  obtain ⟨n2, hn2⟩ : ∃ n, n = (Finset.univ.filter fun s => t s = t (p 2)).card := ⟨_, rfl⟩
  rw [← hn0, ← hn1, ← hn2] at up
  have p0 : 1 ≤ n0 := by rw [hn0]; exact Finset.card_pos.2 ⟨p 0, by simp⟩
  have p1 : 1 ≤ n1 := by rw [hn1]; exact Finset.card_pos.2 ⟨p 1, by simp⟩
  have p2 : 1 ≤ n2 := by rw [hn2]; exact Finset.card_pos.2 ⟨p 2, by simp⟩
  have c0 : n0 = 1 := by
    by_contra hne
    have h2 : (2 : ℝ) ≤ n0 := by exact_mod_cast (by omega : 2 ≤ n0)
    have h3 : (1 : ℝ) ≤ n1 := by exact_mod_cast p1
    have h4 : (1 : ℝ) ≤ n2 := by exact_mod_cast p2
    have key : (n0 : ℝ) * (v0 * (1 / (v0 + v1 + v2))) + n1 * (v1 * (1 / (v0 + v1 + v2))) + n2 * (v2 * (1 / (v0 + v1 + v2)))
        = (n0 * v0 + n1 * v1 + n2 * v2) / (v0 + v1 + v2) := by ring
    rw [key] at up
    have h5 : 4 / 3 ≤ (n0 * v0 + n1 * v1 + n2 * v2) / (v0 + v1 + v2) := by
      rw [le_div_iff₀ qs]; nlinarith
    have := slack_lt; linarith
  have one : ∀ (n : ℕ) (i : Fin 3), n = (Finset.univ.filter fun s => t s = t (p i)).card → n = 1 → ∀ s, t s = t (p i) → s = p i := by
    intro n i hn h1 s hs
    rw [h1] at hn
    obtain ⟨q, hq⟩ := Finset.card_eq_one.1 hn.symm
    have a1 : s ∈ (Finset.univ.filter fun s => t s = t (p i)) := by simp [hs]
    have a2 : p i ∈ (Finset.univ.filter fun s => t s = t (p i)) := by simp
    rw [hq, Finset.mem_singleton] at a1 a2
    rw [a1, a2]
  have two : ∀ (n : ℕ) (i : Fin 3), n = (Finset.univ.filter fun s => t s = t (p i)).card → n ≠ 1 → 1 ≤ n → ∃ s, t s = t (p i) ∧ s ≠ p i := by
    intro n i hn h1 hp
    have : 1 < (Finset.univ.filter fun s => t s = t (p i)).card := by omega
    obtain ⟨s, hs, hne⟩ := Finset.exists_mem_ne this (p i)
    exact ⟨s, by simpa using hs, hne⟩
  have u0 := one n0 0 hn0 c0
  have c1 : n1 = 1 := by
    by_contra hne
    obtain ⟨r, hr, hrp⟩ := two n1 1 hn1 hne p1
    have a1 : p 0 ≠ p 1 := fun e => by rw [e] at h01; exact lt_irrefl _ h01
    have a2 : p 0 ≠ r := fun e => by rw [e, hr] at h01; exact lt_irrefl _ h01
    have hS := h.unique {p 0, p 1, r} (Finset.card_eq_three.2 ⟨_, _, _, a1, a2, Ne.symm hrp, rfl⟩) (by
      intro u hu s hs
      simp only [Finset.mem_insert, Finset.mem_singleton, not_or] at hu hs
      have hs0 : t s ≠ t (p 0) := fun e => hs.1 (u0 s e)
      have hs1 : t (p 1) ≤ t s := by
        rcases hall s with e | e | e | e
        · exact absurd e hs0
        · exact e.ge
        · rw [e]; exact h12.le
        · exact (h12.trans e).le
      rcases hu with e | e | e
      · rw [e]; linarith
      · rw [e]; linarith
      · rw [e, hr]; linarith)
    have k0 : p 0 ∈ T := by rw [← hS]; simp
    have k1 : p 1 ∈ T := by rw [← hS]; simp
    have kr : r ∈ T := by rw [← hS]; simp
    have kz : z ∈ ({p 0, p 1, r} : Finset (Fin 1024)) := by rw [hS]; exact h.mem
    simp only [Finset.mem_insert, Finset.mem_singleton] at kz
    rcases kz with e | e | e
    · have b := h.inner (p 1) k1 (by rw [e]; exact Ne.symm a1)
      rw [e] at b; have := tlt b; linarith
    · have b := h.inner r kr (by rw [e]; exact hrp)
      rw [e] at b; have := tlt b; linarith
    · have b := h.inner (p 1) k1 (by rw [e]; exact Ne.symm hrp)
      rw [e] at b; have := tlt b; linarith
  have u1 := one n1 1 hn1 c1
  have a01 : p 0 ≠ p 1 := fun e => by rw [e] at h01; exact lt_irrefl _ h01
  have a12 : p 1 ≠ p 2 := fun e => by rw [e] at h12; exact lt_irrefl _ h12
  have a02 : p 0 ≠ p 2 := fun e => by rw [e] at h01; exact lt_asymm h01 h12
  have hS := h.unique {p 0, p 1, p 2} (Finset.card_eq_three.2 ⟨_, _, _, a01, a02, a12, rfl⟩) (by
    intro u hu s hs
    simp only [Finset.mem_insert, Finset.mem_singleton, not_or] at hu hs
    have hs1 : t (p 2) ≤ t s := by
      rcases hall s with e | e | e | e
      · exact absurd (u0 s e) hs.1
      · exact absurd (u1 s e) hs.2.1
      · exact e.ge
      · exact e.le
    rcases hu with e | e | e <;> rw [e] <;> linarith)
  have c2 : n2 = 1 := by
    by_contra hne
    obtain ⟨r, hr, hrp⟩ := two n2 2 hn2 hne p2
    have hr' : r ∉ T := by
      rw [← hS]; simp only [Finset.mem_insert, Finset.mem_singleton, not_or]
      refine ⟨fun e => ?_, fun e => ?_, hrp⟩
      · rw [e] at hr; linarith
      · rw [e] at hr; linarith
    have b1 := h.outer r hr'
    have b2 := h.le (s := p 2) (by rw [← hS]; simp)
    simp only [hr] at b1
    linarith
  have u2 := one n2 2 hn2 c2
  rw [hrow, weight_of_points p a01 a02 a12 hS]
  have i0 : (t s = t (p 0)) = (s = p 0) := propext ⟨u0 s, fun e => by rw [e]⟩
  have i1 : (t s = t (p 1)) = (s = p 1) := propext ⟨u1 s, fun e => by rw [e]⟩
  have i2 : (t s = t (p 2)) = (s = p 2) := propext ⟨u2 s, fun e => by rw [e]⟩
  simp only [i0, i1, i2, ← hv0, ← hv1, ← hv2, mul_one_div]

/-! ## The exact way -/

/-- A signed fold over words is the fold of the signed values. -/
theorem fold_minsi (S : Finset (Fin 1024)) (b : BitVec 32) (f : Fin 1024 → BitVec 32) :
    (S.fold IntOp.minsi b f).toInt = S.fold min b.toInt (fun s => (f s).toInt) := by
  induction S using Finset.induction_on with
  | empty => rfl
  | insert i S hi ih =>
    rw [Finset.fold_insert hi, Finset.fold_insert hi, ← ih]
    generalize Finset.fold IntOp.minsi b f S = w
    unfold IntOp.minsi
    simp only [BitVec.slt, decide_eq_true_eq]
    split <;> omega

/-- Whether entry `s` is the lowest position of the smallest entry. -/
def pick (t : Fin 1024 → EReal) (s : Fin 1024) : BitVec 1 :=
  IntOp.cmpi .eq (BitVec.ofNat 32 (s : ℕ))
    (Finset.univ.fold IntOp.minsi 2147483647#32 fun x => if t x = low t then BitVec.ofNat 32 (x : ℕ) else 1024#32)

/-- That entry becomes infinite. -/
def cut (t : Fin 1024 → EReal) (s : Fin 1024) : EReal := Scalar.select (pick t s) ⊤ (t s)

/-- What `pick` is. -/
theorem pick_def (t : Fin 1024 → EReal) (s : Fin 1024) : IntOp.cmpi .eq (BitVec.ofNat 32 (s : ℕ))
    (Finset.univ.fold IntOp.minsi 2147483647#32 fun x : Fin 1024 => if t x = low t then BitVec.ofNat 32 (x : ℕ) else 1024#32) = pick t s := by
  unfold pick; with_reducible rfl

/-- What `cut` is. -/
theorem cut_def (t : Fin 1024 → EReal) (s : Fin 1024) : Scalar.select (pick t s) ⊤ (t s) = cut t s := by
  unfold cut; with_reducible rfl

/-- What `low` is. -/
theorem low_def (t : Fin 1024 → EReal) : (Finset.univ.fold min ⊤ fun s => t s) = low t := by
  unfold low; with_reducible rfl

/-- Signed value of a position. -/
theorem toInt_pos (s : Fin 1024) : (BitVec.ofNat 32 (s : ℕ)).toInt = (s : ℕ) := by
  have := s.isLt
  rw [BitVec.toInt_eq_toNat_of_lt]
  · rw [BitVec.toNat_ofNat]; omega
  · rw [BitVec.toNat_ofNat]; omega

/-- There is exactly one picked entry, and no entry is below it. -/
theorem pick_spec (t : Fin 1024 → EReal) :
    ∃ p, low t = t p ∧ (∀ s, t p ≤ t s) ∧ ∀ s, pick t s = if s = p then 1#1 else 0#1 := by
  obtain ⟨q, hq, hl⟩ := low_spec t
  have hne : (Finset.univ.filter fun s => t s = low t).Nonempty := ⟨q, by simp [hq]⟩
  obtain ⟨p, hp, hmin⟩ := Finset.exists_min_image _ (fun s : Fin 1024 => (s : ℕ)) hne
  simp only [Finset.mem_filter, Finset.mem_univ, true_and] at hp hmin
  refine ⟨p, hp.symm, fun s => by rw [hp, hq]; exact hl s, fun s => ?_⟩
  have key : (Finset.univ.fold IntOp.minsi 2147483647#32 fun x : Fin 1024 => if t x = low t then BitVec.ofNat 32 (x : ℕ) else 1024#32)
      = BitVec.ofNat 32 (p : ℕ) := by
    apply BitVec.eq_of_toInt_eq
    rw [fold_minsi, toInt_pos]
    apply le_antisymm
    · refine (Finset.fold_min_le _).2 (Or.inr ⟨p, Finset.mem_univ _, ?_⟩)
      rw [if_pos hp, toInt_pos]
    · refine (Finset.le_fold_min _).2 ⟨?_, fun x _ => ?_⟩
      · have := p.isLt
        have e : (2147483647#32 : BitVec 32).toInt = 2147483647 := by decide
        rw [e]; omega
      · split
        · rename_i h
          rw [toInt_pos]
          have := hmin x h
          omega
        · have := p.isLt
          have e : (1024#32 : BitVec 32).toInt = 1024 := by decide
          rw [e]; omega
  unfold pick
  rw [key]
  by_cases e : s = p
  · rw [if_pos e, e]; simp [IntOp.cmpi]
  · rw [if_neg e]
    have : BitVec.ofNat 32 (s : ℕ) ≠ BitVec.ofNat 32 (p : ℕ) := fun h => by
      have h' := congrArg BitVec.toInt h
      rw [toInt_pos, toInt_pos] at h'
      exact e (Fin.ext (by exact_mod_cast h'))
    have hb : (BitVec.ofNat 32 (s : ℕ) == BitVec.ofNat 32 (p : ℕ)) = false := beq_false_of_ne this
    simp [IntOp.cmpi, hb]

/-- One over the clamped root of the row's smallest entry. -/
def invLow (t : Fin 1024 → EReal) : EReal := Ideal.div 1 (max (Ideal.sqrt (max (low t) 0)) ((eps : ℝ) : EReal))

/-- The exact row. -/
def exact (t : Fin 1024 → EReal) (s : Fin 1024) : EReal :=
  Scalar.select (pick t s) (Ideal.div (invLow t) (invLow t + invLow (cut t) + invLow (cut (cut t)))) 0
    + Scalar.select (pick (cut t) s) (Ideal.div (invLow (cut t)) (invLow t + invLow (cut t) + invLow (cut (cut t)))) 0
    + Scalar.select (pick (cut (cut t)) s) (Ideal.div (invLow (cut (cut t))) (invLow t + invLow (cut t) + invLow (cut (cut t)))) 0

/-- What `invLow` is. -/
theorem invLow_def (t : Fin 1024 → EReal) : Ideal.div 1 (max (Ideal.sqrt (max (low t) 0)) ((eps : ℝ) : EReal)) = invLow t := by
  unfold invLow; with_reducible rfl

/-- What `exact` is. -/
theorem exact_def (t : Fin 1024 → EReal) (s : Fin 1024) :
    Scalar.select (pick t s) (Ideal.div (invLow t) (invLow t + invLow (cut t) + invLow (cut (cut t)))) 0
    + Scalar.select (pick (cut t) s) (Ideal.div (invLow (cut t)) (invLow t + invLow (cut t) + invLow (cut (cut t)))) 0
    + Scalar.select (pick (cut (cut t)) s) (Ideal.div (invLow (cut (cut t))) (invLow t + invLow (cut t) + invLow (cut (cut t)))) 0 = exact t s := by
  unfold Cert.Near.exact; with_reducible rfl

/-- A choice on a decided bit. -/
theorem select_ite (P : Prop) [Decidable P] (a b : EReal) : Scalar.select (if P then 1#1 else 0#1) a b = if P then a else b := by
  split <;> simp [Scalar.select]

/-- THE EXACT WAY gives the row of weights. -/
theorem exact_eq (h : Nearest D T z) (s : Fin 1024) :
    exact (fun s => (D s : EReal)) s = ((weight D T s : ℝ) : EReal) := by
  obtain ⟨p0, h0, l0, k0⟩ := pick_spec (fun s => (D s : EReal))
  have d1 : ∀ s, cut (fun s => (D s : EReal)) s = if s = p0 then ⊤ else (D s : EReal) := fun s => by
    unfold cut; rw [k0, select_ite]
  obtain ⟨p1, h1, l1, k1⟩ := pick_spec (cut fun s => (D s : EReal))
  have other : ∀ S : Finset (Fin 1024), S.card ≤ 2 → ∃ w, w ∉ S := fun S hS => by
    by_contra hc
    push Not at hc
    have h1 : (Finset.univ : Finset (Fin 1024)).card ≤ S.card := Finset.card_le_card fun u _ => hc u
    simp at h1; omega
  have n1 : p1 ≠ p0 := fun e => by
    obtain ⟨w, hw⟩ := other {p0} (by simp)
    have := l1 w
    rw [d1, d1, if_pos e, if_neg (by simpa using hw), top_le_iff] at this
    exact EReal.coe_ne_top _ this
  rw [d1, if_neg n1] at h1
  have d2 : ∀ s, cut (cut fun s => (D s : EReal)) s = if s = p0 ∨ s = p1 then ⊤ else (D s : EReal) := fun s => by
    conv_lhs => unfold cut
    change Scalar.select (pick (cut fun s => (D s : EReal)) s) ⊤ (cut (fun s => (D s : EReal)) s) = _
    rw [k1, select_ite, d1]
    by_cases e1 : s = p1
    · simp [e1]
    · simp [e1]
  obtain ⟨p2, h2, l2, k2⟩ := pick_spec (cut (cut fun s => (D s : EReal)))
  have n2 : ¬ (p2 = p0 ∨ p2 = p1) := fun e => by
    obtain ⟨w, hw⟩ := other {p0, p1} Finset.card_le_two
    have := l2 w
    rw [d2, d2, if_pos e, if_neg (by simpa using hw), top_le_iff] at this
    exact EReal.coe_ne_top _ this
  rw [d2, if_neg n2] at h2
  have n2' := n2
  push Not at n2'
  have hS := h.unique {p0, p1, p2} (Finset.card_eq_three.2 ⟨_, _, _, Ne.symm n1, Ne.symm n2'.1, Ne.symm n2'.2, rfl⟩) (by
    intro u hu s hs
    simp only [Finset.mem_insert, Finset.mem_singleton, not_or] at hu hs
    rcases hu with e | e | e
    · rw [e]; exact EReal.coe_le_coe_iff.1 (l0 s)
    · have := l1 s
      rw [d1, d1, if_neg n1, if_neg hs.1] at this
      rw [e]; exact EReal.coe_le_coe_iff.1 this
    · have := l2 s
      rw [d2, d2, if_neg n2, if_neg (by rintro (e | e); exacts [hs.1 e, hs.2.1 e])] at this
      rw [e]; exact EReal.coe_le_coe_iff.1 this)
  have i0 : invLow (fun s => (D s : EReal)) = (((dist (D p0))⁻¹ : ℝ) : EReal) := by unfold invLow; rw [h0, one_div_root]
  have i1 : invLow (cut fun s => (D s : EReal)) = (((dist (D p1))⁻¹ : ℝ) : EReal) := by unfold invLow; rw [h1, one_div_root]
  have i2 : invLow (cut (cut fun s => (D s : EReal))) = (((dist (D p2))⁻¹ : ℝ) : EReal) := by unfold invLow; rw [h2, one_div_root]
  have qs : 0 < (dist (D p0))⁻¹ + (dist (D p1))⁻¹ + (dist (D p2))⁻¹ := by
    have a := inv_pos.2 (dist_pos (D p0)); have b := inv_pos.2 (dist_pos (D p1)); have c := inv_pos.2 (dist_pos (D p2)); linarith
  unfold exact
  rw [k0, k1, k2, i0, i1, i2, select_ite, select_ite, select_ite, ← EReal.coe_add, ← EReal.coe_add, Ideal.div_coe qs.ne',
    Ideal.div_coe qs.ne', Ideal.div_coe qs.ne', weight_of_points ![p0, p1, p2] (Ne.symm n1) (Ne.symm n2'.1) (Ne.symm n2'.2) hS]
  have hc : ∀ (P : Prop) [Decidable P] (x y : ℝ), (if P then (x : EReal) * ((1 / y : ℝ) : EReal) else 0) = ((if P then x / y else 0 : ℝ) : EReal) := by
    intro P _ x y
    split
    · rw [← EReal.coe_mul, mul_one_div]
    · rfl
  rw [hc, hc, hc, ← EReal.coe_add, ← EReal.coe_add]
  rfl

end Cert.Near

end
-- ==== Proof.Value.Norm.lean ====
/-
  Batch normalisation over real numbers: scaling by one over the root of the mean square less the square of the mean, and
  dividing the difference from the mean by the root of the mean squared difference, agree.
-/
module

public import proofs.«01_k».proof.Proof.Near

@[expose] public section

noncomputable section

namespace Cert.Norm

open Idealize.ShloMosaic
open Cert.Near

/-- What is added to a variance, as the programs round it. -/
def fuzz : ℝ := 10995116 / 2 ^ 40

/-- The constant under the root is positive. -/
theorem fuzz_pos : 0 < fuzz := by unfold fuzz; norm_num

/-- The literal `1e-5` as a real number. -/
theorem word_fuzz : Ideal.ofBits .f32 0x3727C5AC#32 = ((fuzz : ℝ) : EReal) := by
  simp [Ideal.ofBits, Ideal.ieee, fuzz, -EReal.coe_mul, ← EReal.coe_mul]
  norm_num

/-- The literal for the number of entries of a channel. -/
theorem word_count : Ideal.ofBits .f32 0x47000000#32 = ((32768 : ℝ) : EReal) := by
  simp [Ideal.ofBits, Ideal.ieee, -EReal.coe_mul, ← EReal.coe_mul]
  norm_num

/-- The mean over a batch and its points. -/
def mean (Y : Fin 8 → Fin 4096 → ℝ) : ℝ := (∑ b, ∑ n, Y b n) / 32768

/-- The mean squared difference from the mean. -/
def spread (Y : Fin 8 → Fin 4096 → ℝ) : ℝ := (∑ b, ∑ n, (Y b n - mean Y) * (Y b n - mean Y)) / 32768

/-- A variance is not negative. -/
theorem spread_nonneg (Y : Fin 8 → Fin 4096 → ℝ) : 0 ≤ spread Y :=
  div_nonneg (Finset.sum_nonneg fun _ _ => Finset.sum_nonneg fun _ _ => mul_self_nonneg _) (by norm_num)

/-- The mean square less the square of the mean. -/
theorem spread_eq (Y : Fin 8 → Fin 4096 → ℝ) : (∑ b, ∑ n, Y b n * Y b n) / 32768 - mean Y * mean Y = spread Y := by
  have h : ∑ b, ∑ n, (Y b n - mean Y) * (Y b n - mean Y)
      = (∑ b, ∑ n, Y b n * Y b n) - 2 * mean Y * (∑ b, ∑ n, Y b n) + 32768 * (mean Y * mean Y) := by
    have h1 : ∀ b n, (Y b n - mean Y) * (Y b n - mean Y) = Y b n * Y b n - 2 * mean Y * Y b n + mean Y * mean Y := fun b n => by ring
    simp only [h1, Finset.sum_add_distrib, Finset.sum_sub_distrib, Finset.mul_sum, Finset.sum_const, Finset.card_univ, Fintype.card_fin, nsmul_eq_mul]
    push_cast
    ring
  have h2 : ∑ b, ∑ n, Y b n = 32768 * mean Y := by unfold mean; ring
  unfold spread
  rw [h, h2]
  ring

/-- One normalised entry before the offset. -/
def normed (Y : Fin 8 → Fin 4096 → ℝ) (g : ℝ) (b : Fin 8) (n : Fin 4096) : ℝ := (Y b n - mean Y) / √(spread Y + fuzz) * g

/-- The deviation is positive. -/
theorem root_pos (Y : Fin 8 → Fin 4096 → ℝ) : 0 < √(spread Y + fuzz) :=
  Real.sqrt_pos.2 (add_pos_of_nonneg_of_pos (spread_nonneg Y) fuzz_pos)

/-- Normalising takes a constant away. -/
theorem normed_shift (Y : Fin 8 → Fin 4096 → ℝ) (c g : ℝ) (b : Fin 8) (n : Fin 4096) : normed (fun b n => Y b n + c) g b n = normed Y g b n := by
  have hm : mean (fun b n => Y b n + c) = mean Y + c := by
    unfold mean
    simp only [Finset.sum_add_distrib, Finset.sum_const, Finset.card_univ, Fintype.card_fin, nsmul_eq_mul]
    push_cast
    ring
  have hs : spread (fun b n => Y b n + c) = spread Y := by
    unfold spread
    rw [hm]
    simp only [add_sub_add_right_eq_sub]
  unfold normed
  rw [hm, hs]
  simp only [add_sub_add_right_eq_sub]

/-- An infinite sum over the count is infinite. -/
theorem div_top : Ideal.div ⊤ ((32768 : ℝ) : EReal) = ⊤ := by
  rw [Ideal.div_coe (by norm_num)]
  exact EReal.top_mul_coe_of_pos (by norm_num)
/-- And for minus infinity. -/
theorem div_bot : Ideal.div ⊥ ((32768 : ℝ) : EReal) = ⊥ := by
  rw [Ideal.div_coe (by norm_num)]
  exact EReal.bot_mul_coe_of_pos (by norm_num)

/-- The scaled form of an infinite constant channel, cut at zero. -/
theorem scaled_wild (x : EReal) (hx : x = ⊤ ∨ x = ⊥) (g e : ℝ) (y s q : EReal) (hy : y = x) (hs : s = x) (hq : q = ⊤) :
    max (y * (Ideal.rsqrt (Ideal.div q ((32768 : ℝ) : EReal) - Ideal.div s ((32768 : ℝ) : EReal) * Ideal.div s ((32768 : ℝ) : EReal) + ((fuzz : ℝ) : EReal)) * (g : EReal))
      + ((e : EReal) - Ideal.div s ((32768 : ℝ) : EReal)
        * (Ideal.rsqrt (Ideal.div q ((32768 : ℝ) : EReal) - Ideal.div s ((32768 : ℝ) : EReal) * Ideal.div s ((32768 : ℝ) : EReal) + ((fuzz : ℝ) : EReal)) * (g : EReal)))) 0
      = (((if g = 0 then max e 0 else 0) : ℝ) : EReal) := by
  have hd : Ideal.div s ((32768 : ℝ) : EReal) = x := by
    rw [hs]
    rcases hx with h | h <;> rw [h]
    · exact div_top
    · exact div_bot
  have hm : x * x = ⊤ := by rcases hx with h | h <;> rw [h] <;> rfl
  have hr : Ideal.rsqrt (Ideal.div q ((32768 : ℝ) : EReal) - x * x + ((fuzz : ℝ) : EReal)) = ⊥ := by
    rw [hq, div_top, hm]
    rfl
  rw [hd, hr, hy]
  rcases lt_trichotomy g 0 with hg | hg | hg
  · rw [if_neg hg.ne, EReal.bot_mul_coe_of_neg hg]
    rcases hx with h | h <;> rw [h]
    · have : (⊤ : EReal) * ⊤ + ((e : EReal) - ⊤ * ⊤) = ⊥ := by rw [EReal.top_mul_top]; rfl
      rw [this]; simp
    · have : (⊥ : EReal) * ⊤ + ((e : EReal) - ⊥ * ⊤) = ⊥ := by rw [EReal.bot_mul_top]; exact EReal.bot_add _
      rw [this]; simp
  · rw [if_pos hg, hg, EReal.coe_zero, mul_zero, mul_zero, zero_add, sub_zero, ← EReal.coe_zero]
    exact (EReal.coe_strictMono.monotone.map_max).symm
  · rw [if_neg hg.ne', EReal.bot_mul_coe_of_pos hg]
    rcases hx with h | h <;> rw [h]
    · have : (⊤ : EReal) * ⊥ + ((e : EReal) - ⊤ * ⊥) = ⊥ := by rw [EReal.top_mul_bot]; exact EReal.bot_add _
      rw [this]; simp
    · have : (⊥ : EReal) * ⊥ + ((e : EReal) - ⊥ * ⊥) = ⊥ := by rw [EReal.bot_mul_bot]; rfl
      rw [this]; simp

/-- The quotient form of an infinite constant channel: nothing is left. -/
theorem quotient_wild (x : EReal) (hx : x = ⊤ ∨ x = ⊥) (g : ℝ) (y s q : EReal) (hy : y = x) (hs : s = x) (hq : q = ⊤) :
    Ideal.div (y - s) (Ideal.sqrt (q + ((fuzz : ℝ) : EReal))) * (g : EReal) = 0 := by
  have h1 : y - s = ⊥ := by rw [hy, hs]; rcases hx with h | h <;> rw [h] <;> rfl
  have h2 : Ideal.sqrt (q + ((fuzz : ℝ) : EReal)) = ⊤ := by rw [hq]; rfl
  rw [h1, h2]
  unfold Ideal.div
  rw [if_neg (by simp), EReal.inv_top, mul_zero, zero_mul]

/-- The mean as a quotient of extended reals. -/
theorem div_mean (Y : Fin 8 → Fin 4096 → ℝ) : Ideal.div ((∑ b, ∑ n, Y b n : ℝ) : EReal) ((32768 : ℝ) : EReal) = ((mean Y : ℝ) : EReal) := by
  rw [Ideal.div_coe (by norm_num), ← EReal.coe_mul]
  unfold mean
  congr 1
  ring

/-- Dividing by the number of entries. -/
theorem div_count (x : ℝ) : Ideal.div (x : EReal) ((32768 : ℝ) : EReal) = ((x / 32768 : ℝ) : EReal) := by
  rw [Ideal.div_coe (by norm_num), ← EReal.coe_mul]
  congr 1
  ring

/-- THE SCALED FORM, from the sum and the sum of squares; the offset may be infinite. -/
theorem scaled (Y : Fin 8 → Fin 4096 → ℝ) (g : ℝ) (be : EReal) (b : Fin 8) (n : Fin 4096) (y s q : EReal)
    (hy : y = ((Y b n : ℝ) : EReal)) (hs : s = ((∑ b, ∑ n, Y b n : ℝ) : EReal)) (hq : q = ((∑ b, ∑ n, Y b n * Y b n : ℝ) : EReal)) :
    y * (Ideal.rsqrt (Ideal.div q ((32768 : ℝ) : EReal) - Ideal.div s ((32768 : ℝ) : EReal) * Ideal.div s ((32768 : ℝ) : EReal) + ((fuzz : ℝ) : EReal)) * (g : EReal))
      + (be - Ideal.div s ((32768 : ℝ) : EReal)
        * (Ideal.rsqrt (Ideal.div q ((32768 : ℝ) : EReal) - Ideal.div s ((32768 : ℝ) : EReal) * Ideal.div s ((32768 : ℝ) : EReal) + ((fuzz : ℝ) : EReal)) * (g : EReal)))
      = ((normed Y g b n : ℝ) : EReal) + be := by
  have hv : Ideal.rsqrt (Ideal.div q ((32768 : ℝ) : EReal) - Ideal.div s ((32768 : ℝ) : EReal) * Ideal.div s ((32768 : ℝ) : EReal) + ((fuzz : ℝ) : EReal))
      = ((1 / √(spread Y + fuzz) : ℝ) : EReal) := by
    rw [hs, hq, div_mean Y, div_count, ← EReal.coe_mul, ← EReal.coe_sub, spread_eq, ← EReal.coe_add]
    have hp : 0 < spread Y + fuzz := add_pos_of_nonneg_of_pos (spread_nonneg Y) fuzz_pos
    rw [Ideal.rsqrt_coe]
    simp [hp.ne', hp, not_le.2 hp, not_lt.2 hp.le]
  rw [hv, hy, hs, div_mean, ← EReal.coe_mul, ← EReal.coe_mul, ← EReal.coe_mul]
  have hn : normed Y g b n = Y b n * (1 / √(spread Y + fuzz) * g) - mean Y * (1 / √(spread Y + fuzz) * g) := by
    unfold normed; ring
  rw [hn, EReal.coe_sub, sub_eq_add_neg be, sub_eq_add_neg, add_assoc, add_comm (-_) be]

/-- THE QUOTIENT FORM. -/
theorem quotient (Y : Fin 8 → Fin 4096 → ℝ) (g : ℝ) (b : Fin 8) (n : Fin 4096) (y s q : EReal)
    (hy : y = ((Y b n : ℝ) : EReal)) (hs : s = ((mean Y : ℝ) : EReal)) (hq : q = ((spread Y : ℝ) : EReal)) :
    Ideal.div (y - s) (Ideal.sqrt (q + ((fuzz : ℝ) : EReal))) * (g : EReal) = ((normed Y g b n : ℝ) : EReal) := by
  have hp : 0 < spread Y + fuzz := add_pos_of_nonneg_of_pos (spread_nonneg Y) fuzz_pos
  rw [hy, hs, hq, ← EReal.coe_sub, ← EReal.coe_add, Ideal.sqrt_coe, if_neg (not_lt.2 hp.le), Ideal.div_coe (root_pos Y).ne', ← EReal.coe_mul, ← EReal.coe_mul]
  unfold normed
  congr 1
  ring

/-- A sum over sixteen blocks of columns is the sum over the batch and its points. -/
theorem sum_blocks (Y : Fin 8 → Fin 4096 → ℝ) (bt : Fin 16 → Fin 8) (cl : Fin 16 → Fin 2048 → Fin 4096)
    (hb : ∀ t, (bt t).val = t.val / 2) (hc : ∀ t r, (cl t r).val = t.val % 2 * 2048 + r.val) :
    ∑ t, ∑ r, Y (bt t) (cl t r) = ∑ b, ∑ n, Y b n := by
  rw [← Fintype.sum_prod_type', ← Fintype.sum_prod_type']
  refine Fintype.sum_bijective (fun p : Fin 16 × Fin 2048 => (bt p.1, cl p.1 p.2)) ⟨?_, ?_⟩ _ _ fun _ => rfl
  · rintro ⟨t, r⟩ ⟨t', r'⟩ h
    simp only [Prod.mk.injEq, Fin.ext_iff, hb, hc] at h ⊢
    have := r.isLt; have := r'.isLt
    omega
  · rintro ⟨b, n⟩
    have := b.isLt; have := n.isLt
    refine ⟨(⟨2 * b.val + n.val / 2048, by omega⟩, ⟨n.val % 2048, by omega⟩), ?_⟩
    simp only [Prod.mk.injEq, Fin.ext_iff, hb, hc]
    omega

end Cert.Norm

end
-- ==== Proof.Value.Model.lean ====
/-
  The maths of the layer over real numbers: the weights of the three nearest points, the two linear maps, the two batch
  normalisations.
-/
module

public import proofs.«01_k».proof.Proof.Value.Norm

@[expose] public section

noncomputable section

namespace Cert.Model

open Idealize.ShloMosaic
open Cert.Near Cert.Norm

/-- The arguments as real numbers (the last offset may be infinite), and each query point's three nearest source points. -/
structure Data where
  x1 : Fin 8 → Fin 4096 → Fin 3 → ℝ
  x2 : Fin 8 → Fin 1024 → Fin 3 → ℝ
  f1 : Fin 8 → Fin 128 → Fin 4096 → ℝ
  f2 : Fin 8 → Fin 256 → Fin 1024 → ℝ
  w1 : Fin 256 → Fin 384 → ℝ
  b1 : Fin 256 → EReal
  g1 : Fin 256 → ℝ
  e1 : Fin 256 → ℝ
  w2 : Fin 128 → Fin 256 → ℝ
  b2 : Fin 128 → ℝ
  g2 : Fin 128 → ℝ
  e2 : Fin 128 → EReal
  T : Fin 8 → Fin 4096 → Finset (Fin 1024)
  z : Fin 8 → Fin 4096 → Fin 1024
  k1 : Fin 256 → ℝ

variable (M : Data)

/-- Square of the length of a query point. -/
def la (b : Fin 8) (n : Fin 4096) : ℝ := ∑ d, M.x1 b n d * M.x1 b n d
/-- Square of the length of a source point. -/
def lb (b : Fin 8) (s : Fin 1024) : ℝ := ∑ d, M.x2 b s d * M.x2 b s d
/-- Minus twice the inner product. -/
def cr (b : Fin 8) (n : Fin 4096) (s : Fin 1024) : ℝ := ∑ d, M.x1 b n d * (-2 * M.x2 b s d)
/-- The squared distance. -/
def sq (b : Fin 8) (n : Fin 4096) (s : Fin 1024) : ℝ := la M b n + lb M b s + cr M b n s

/-- The three nearest points are that. -/
def Near : Prop := ∀ b n, Nearest (sq M b n) (M.T b n) (M.z b n)

/-- Column `k` of the first part of the first matrix. -/
def lo (k : Fin 256) : Fin 384 := ⟨k.val, by omega⟩
/-- Column `k` of its second part. -/
def hi (k : Fin 128) : Fin 384 := ⟨256 + k.val, by omega⟩

/-- The weight of a source point. -/
def wt (b : Fin 8) (n : Fin 4096) (s : Fin 1024) : ℝ := weight (sq M b n) (M.T b n) s

/-- The first linear map without its offset. -/
def lin (o : Fin 256) (b : Fin 8) (n : Fin 4096) : ℝ :=
  ∑ s, (∑ k, M.w1 o (lo k) * M.f2 b k s) * wt M b n s + ∑ k, M.w1 o (hi k) * M.f1 b k n
/-- The first layer before its normalisation, where its offset is a number. -/
def y1 (o : Fin 256) (b : Fin 8) (n : Fin 4096) : ℝ := lin M o b n + (M.b1 o).toReal
/-- The channels whose offset is infinite. -/
def Wild (o : Fin 256) : Prop := M.b1 o = ⊤ ∨ M.b1 o = ⊥
open Classical in
/-- The first layer before its normalisation. -/
def v1 (o : Fin 256) (b : Fin 8) (n : Fin 4096) : EReal := if Wild M o then M.b1 o else ((y1 M o b n : ℝ) : EReal)
open Classical in
/-- The sum of a channel of it. -/
def s1 (o : Fin 256) : EReal := if Wild M o then M.b1 o else ((∑ b, ∑ n, y1 M o b n : ℝ) : EReal)
open Classical in
/-- The sum of the squares of a channel of it. -/
def q1 (o : Fin 256) : EReal := if Wild M o then ⊤ else ((∑ b, ∑ n, y1 M o b n * y1 M o b n : ℝ) : EReal)
open Classical in
/-- The first layer; a channel with an infinite offset is constant. -/
def z1 (o : Fin 256) (b : Fin 8) (n : Fin 4096) : ℝ := if Wild M o then M.k1 o else max (normed (y1 M o) (M.g1 o) b n + M.e1 o) 0
/-- The second layer before its normalisation. -/
def y2 (p : Fin 128) (b : Fin 8) (n : Fin 4096) : ℝ := ∑ o, M.w2 p o * z1 M o b n + M.b2 p
/-- The result. -/
def out (p : Fin 128) (b : Fin 8) (n : Fin 4096) : EReal := max (((normed (y2 M p) (M.g2 p) b n : ℝ) : EReal) + M.e2 p) 0

/-- A sum of real numbers among the extended ones. -/
theorem coe_sum {ι : Type} (S : Finset ι) (f : ι → ℝ) : ∑ i ∈ S, ((f i : ℝ) : EReal) = ((∑ i ∈ S, f i : ℝ) : EReal) :=
  (map_sum (⟨⟨Real.toEReal, rfl⟩, EReal.coe_add⟩ : ℝ →+ EReal) f S).symm

/-- With its offset added the linear map is the first layer before its normalisation. -/
theorem lin_add (o : Fin 256) (b : Fin 8) (n : Fin 4096) : ((lin M o b n : ℝ) : EReal) + M.b1 o = v1 M o b n := by
  unfold v1
  split
  · next h =>
    rcases h with e | e <;> rw [e]
    · exact EReal.coe_add_top _
    · exact EReal.add_bot _
  · next h =>
    unfold y1
    rw [EReal.coe_add, EReal.coe_toReal (fun e => h (Or.inl e)) (fun e => h (Or.inr e))]

/-- Where the offset is infinite. -/
theorem v1_wild {o : Fin 256} (h : Wild M o) (b : Fin 8) (n : Fin 4096) : v1 M o b n = M.b1 o := if_pos h
/-- Where it is a number. -/
theorem v1_tame {o : Fin 256} (h : ¬ Wild M o) (b : Fin 8) (n : Fin 4096) : v1 M o b n = ((y1 M o b n : ℝ) : EReal) := if_neg h
/-- The sum of a channel whose offset is infinite. -/
theorem s1_wild {o : Fin 256} (h : Wild M o) : s1 M o = M.b1 o := if_pos h
/-- The sum of a channel whose offset is a number. -/
theorem s1_tame {o : Fin 256} (h : ¬ Wild M o) : s1 M o = ((∑ b, ∑ n, y1 M o b n : ℝ) : EReal) := if_neg h
/-- The sum of its squares where the offset is infinite. -/
theorem q1_wild {o : Fin 256} (h : Wild M o) : q1 M o = ⊤ := if_pos h
/-- The sum of its squares where the offset is a number. -/
theorem q1_tame {o : Fin 256} (h : ¬ Wild M o) : q1 M o = ((∑ b, ∑ n, y1 M o b n * y1 M o b n : ℝ) : EReal) := if_neg h
/-- A first layer's channel with an infinite offset is its constant. -/
theorem z1_wild {o : Fin 256} (h : Wild M o) (b : Fin 8) (n : Fin 4096) : z1 M o b n = M.k1 o := if_pos h
/-- A first layer's channel with a number for its offset is the normalised one. -/
theorem z1_tame {o : Fin 256} (h : ¬ Wild M o) (b : Fin 8) (n : Fin 4096) : z1 M o b n = max (normed (y1 M o) (M.g1 o) b n + M.e1 o) 0 := if_neg h

/-- An infinite offset absorbs itself. -/
theorem wild_add {o : Fin 256} (h : Wild M o) : M.b1 o + M.b1 o = M.b1 o := by
  rcases h with e | e <;> rw [e] <;> rfl
/-- Its square is plus infinity. -/
theorem wild_mul {o : Fin 256} (h : Wild M o) : M.b1 o * M.b1 o = ⊤ := by
  rcases h with e | e <;> rw [e] <;> rfl

/-- A sum of equal terms that absorb themselves. -/
theorem sum_same (x : EReal) (h : x + x = x) (m : ℕ) : ∑ _i : Fin (m + 1), x = x := by
  induction m with
  | zero => simp
  | succ m ih => rw [Fin.sum_univ_succ, ih, h]

/-- A running sum of such terms. -/
theorem running_same (S : (n : ℕ) → n < 16 → EReal) (x : EReal) (h : x + x = x) (h0 : S 0 (by norm_num) = x)
    (hs : ∀ (n : ℕ) (h : n + 1 < 16), S (n + 1) h = S n (by omega) + x) : S 15 (by norm_num) = x := by
  have : ∀ (n : ℕ) (hn : n < 16), S n hn = x := by
    intro n
    induction n with
    | zero => intro _; exact h0
    | succ n ih => intro hn; rw [hs n hn, ih (by omega), h]
  exact this 15 _

open Classical in
/-- THE CONSTANT CHANNELS DO NOT MATTER: the second normalisation takes their part away. -/
theorem out_free (k : Fin 256 → ℝ) (p : Fin 128) (b : Fin 8) (n : Fin 4096) : out { M with k1 := k } p b n = out M p b n := by
  have h : y2 { M with k1 := k } p = fun b n => y2 M p b n + ∑ o, M.w2 p o * (if Wild M o then k o - M.k1 o else 0) := by
    funext b n
    unfold y2
    rw [add_right_comm, ← Finset.sum_add_distrib]
    refine congrArg (· + M.b2 p) (Finset.sum_congr rfl fun o _ => ?_)
    rw [← mul_add]
    refine congrArg (M.w2 p o * ·) ?_
    by_cases hw : Wild M o
    · rw [z1_wild M hw, if_pos hw]
      exact (z1_wild { M with k1 := k } (o := o) hw b n).trans (by ring)
    · rw [z1_tame M hw, if_neg hw, add_zero]
      exact z1_tame { M with k1 := k } (o := o) hw b n
  unfold out
  rw [h]
  exact congrArg (fun x : ℝ => max ((x : EReal) + M.e2 p) 0) (normed_shift _ _ _ b n)

/-- Interpolating first and mapping after is the same first layer. -/
theorem lin_eq (o : Fin 256) (b : Fin 8) (n : Fin 4096) :
    lin M o b n = ∑ k, M.w1 o (lo k) * (∑ s, wt M b n s * M.f2 b k s) + ∑ k, M.w1 o (hi k) * M.f1 b k n := by
  unfold lin
  congr 1
  simp only [Finset.sum_mul, Finset.mul_sum]
  rw [Finset.sum_comm]
  exact Finset.sum_congr rfl fun _ _ => Finset.sum_congr rfl fun _ _ => by ring

/-- A running sum over sixteen points. -/
theorem running (S : (n : ℕ) → n < 16 → EReal) (f : Fin 16 → ℝ) (h0 : S 0 (by norm_num) = ((f 0 : ℝ) : EReal))
    (hs : ∀ (n : ℕ) (h : n + 1 < 16), S (n + 1) h = S n (by omega) + ((f ⟨n + 1, h⟩ : ℝ) : EReal)) :
    S 15 (by norm_num) = ((∑ t, f t : ℝ) : EReal) := by
  have h : ∀ (n : ℕ) (h : n < 16), S n h = ((∑ t ∈ Finset.range (n + 1), (if ht : t < 16 then f ⟨t, ht⟩ else 0) : ℝ) : EReal) := by
    intro n
    induction n with
    | zero => intro h; simpa using h0
    | succ n ih =>
      intro h
      rw [hs n h, ih (by omega), Finset.sum_range_succ _ (n + 1), EReal.coe_add, dif_pos h]
  rw [h 15 (by norm_num), Finset.sum_range]
  congr 1

end Cert.Model

end
-- ==== Proof.Value.Top.lean ====
/-
  The greatest entries of a row of negated distances are the nearest points.
-/
module

public import proofs.«01_k».proof.Proof.Near
public import Idealize.ShloMosaic.Lib.SortFacts
public import Idealize.ShloMosaic.Lib.Pointwise

@[expose] public section

set_option maxRecDepth 16384

noncomputable section

namespace Cert.Top

open Idealize.ShloMosaic
open Cert.Near

/-- Batches, query points, source points. -/
abbrev Cube : Shape := ⟨3, ![8, 4096, 1024]⟩
/-- Batches, query points, `m` places. -/
abbrev Cut (m : ℕ) : Shape := ⟨3, ![8, 4096, m]⟩

/-- Which source point stands at place `k` when the row of `(b, n)` is sorted, greatest first. -/
def place (x : Cube.Idx → EReal) (b : Fin 8) (n : Fin 4096) (k : Fin 1024) : Fin 1024 :=
  sortedFrom (fun i j => FloatOps.cmpfTotal (F := Ideal) (φ := .f32) .gt (x (ix3 b n i)) (x (ix3 b n j)) == 1#1) k

/-- Moving along the last axis. -/
theorem along_ix3 (b : Fin 8) (n : Fin 4096) (k l : Fin 1024) : Shape.Idx.along (s := Cube) (ix3 b n k) (2 : Fin 3) l = ix3 b n l := by
  funext a
  match a with
  | ⟨0, _⟩ => rfl
  | ⟨1, _⟩ => rfl
  | ⟨2, _⟩ => rfl

/-- A sort along the last axis at a place, its values. -/
theorem sort_values {β : Type} (x : Cube.Idx → EReal) (y : Cube.Idx → β) (b : Fin 8) (n : Fin 4096) (k : Fin 1024) :
    (Host.sort2 Cube 2 (fun l r => FloatOps.cmpfTotal (F := Ideal) (φ := .f32) .gt l.1 r.1) x y).1 (ix3 b n k)
      = x (ix3 b n (place x b n k)) := by
  unfold Host.sort2
  rw [dif_pos (show (2 : ℕ) < Cube.rank from by decide)]
  refine (congrArg x (along_ix3 b n k _)).trans ?_
  unfold place
  refine congrArg (fun B => x (ix3 b n (sortedFrom B k))) ?_
  funext i j
  exact congrArg₂ (fun p q => FloatOps.cmpfTotal (F := Ideal) (φ := .f32) .gt (x p) (x q) == 1#1) (along_ix3 b n k i) (along_ix3 b n k j)

/-- A sort along the last axis at a place, what it carries. -/
theorem sort_carried {β : Type} (x : Cube.Idx → EReal) (y : Cube.Idx → β) (b : Fin 8) (n : Fin 4096) (k : Fin 1024) :
    (Host.sort2 Cube 2 (fun l r => FloatOps.cmpfTotal (F := Ideal) (φ := .f32) .gt l.1 r.1) x y).2 (ix3 b n k)
      = y (ix3 b n (place x b n k)) := by
  unfold Host.sort2
  rw [dif_pos (show (2 : ℕ) < Cube.rank from by decide)]
  refine (congrArg y (along_ix3 b n k _)).trans ?_
  unfold place
  refine congrArg (fun B => y (ix3 b n (sortedFrom B k))) ?_
  funext i j
  exact congrArg₂ (fun p q => FloatOps.cmpfTotal (F := Ideal) (φ := .f32) .gt (x p) (x q) == 1#1) (along_ix3 b n k i) (along_ix3 b n k j)

/-- A cut at a place. -/
theorem cut_at {β : Type} {m : ℕ} (y : Cube.Idx → β) (h : Cube.Slices (fun _ => 0) (Cut m)) (b : Fin 8) (n : Fin 4096)
    (j : Fin m) (hj : j.val < 1024) : extractStridedSlice (Cut m) (fun _ => 0) y h (ix3 b n j) = y (ix3 b n ⟨j.val, hj⟩) := by
  unfold extractStridedSlice
  refine congrArg y ?_
  funext a
  match a with
  | ⟨0, _⟩ => exact Fin.ext (Nat.zero_add _)
  | ⟨1, _⟩ => exact Fin.ext (Nat.zero_add _)
  | ⟨2, _⟩ => exact Fin.ext (Nat.zero_add _)

/-- The values kept are the entries at the first places. -/
theorem top_values {m : ℕ} (x : Cube.Idx → EReal) (h : Cube.Slices (fun _ => 0) (Cut m)) (b : Fin 8) (n : Fin 4096)
    (j : Fin m) (hj : j.val < 1024) :
    (Host.topK (Cut m) 2 (FloatOps.cmpfTotal (F := Ideal) (φ := .f32) .gt) x h).1 (ix3 b n j) = x (ix3 b n (place x b n ⟨j.val, hj⟩)) := by
  unfold Host.topK
  dsimp only
  refine (cut_at _ h b n j hj).trans ?_
  exact sort_values x _ b n _

/-- The positions kept are the first places, as words. -/
theorem top_places {m : ℕ} (x : Cube.Idx → EReal) (h : Cube.Slices (fun _ => 0) (Cut m)) (b : Fin 8) (n : Fin 4096)
    (j : Fin m) (hj : j.val < 1024) :
    (Host.topK (Cut m) 2 (FloatOps.cmpfTotal (F := Ideal) (φ := .f32) .gt) x h).2 (ix3 b n j) = BitVec.ofNat 32 (place x b n ⟨j.val, hj⟩).val := by
  unfold Host.topK
  dsimp only
  refine (cut_at _ h b n j hj).trans ?_
  refine (sort_carried x _ b n _).trans ?_
  rw [dif_pos (show (2 : ℕ) < Cube.rank from by decide)]
  rfl

/-- A sorted row never goes up. -/
theorem place_le (x : Cube.Idx → EReal) (b : Fin 8) (n : Fin 4096) (i j : Fin 1024) (h : i < j) :
    x (ix3 b n (place x b n j)) ≤ x (ix3 b n (place x b n i)) := by
  have hg : ∀ p q : EReal, (FloatOps.cmpfTotal (F := Ideal) (φ := .f32) .gt p q == 1#1) = decide (q < p) := by
    intro p q
    change (BitVec.ofBool (decide (q < p)) == 1#1) = decide (q < p)
    by_cases hc : q < p <;> simp [hc]
  have := sortedFrom_noInversion
    (fun i j => FloatOps.cmpfTotal (F := Ideal) (φ := .f32) .gt (x (ix3 b n i)) (x (ix3 b n j)) == 1#1)
    (fun i j => FloatOps.cmpfTotal (F := Ideal) (φ := .f32) .gt (x (ix3 b n i)) (x (ix3 b n j)) == 1#1)
    (fun p q => by simp only [hg, decide_eq_true_eq, decide_eq_false_iff_not]; intro h1 h2; exact absurd (lt_trans h1 h2) (lt_irrefl _))
    (fun p q hb => hb)
    (fun p q r => by simp only [hg, decide_eq_false_iff_not, not_lt]; intro h1 h2; first | exact le_trans h1 h2 | exact le_trans h2 h1)
    i j h
  rw [hg] at this
  exact not_lt.1 (of_decide_eq_false this)

/-- Different places hold different points. -/
theorem place_ne (x : Cube.Idx → EReal) (b : Fin 8) (n : Fin 4096) {i j : Fin 1024} (h : i ≠ j) : place x b n i ≠ place x b n j :=
  fun e => h (sortedFrom_injective _ e)

/-- Every point has a place. -/
theorem place_onto (x : Cube.Idx → EReal) (b : Fin 8) (n : Fin 4096) (s : Fin 1024) : ∃ k, place x b n k = s :=
  sortedFrom_surjective _ s

/-- The negated distances of an array of squared distances. -/
def far (D : Fin 8 → Fin 4096 → Fin 1024 → ℝ) : Cube.Idx → EReal := fun i => ((-(Near.dist (D (i 0) (i 1) (i 2))) : ℝ) : EReal)

/-- An array that reads so is that. -/
theorem eq_far (D : Fin 8 → Fin 4096 → Fin 1024 → ℝ) (x : Cube.Idx → EReal)
    (h : ∀ b n s, x (ix3 b n s) = ((-(Near.dist (D b n s)) : ℝ) : EReal)) : x = far D := by
  funext i
  have e : i = ix3 (i 0) (i 1) (i 2) := by
    funext a
    match a with
    | ⟨0, _⟩ => rfl
    | ⟨1, _⟩ => rfl
    | ⟨2, _⟩ => rfl
  exact (congrArg x e).trans (h (i 0) (i 1) (i 2))

/-- The point at a place of the sorted row. -/
@[irreducible] def near (D : Fin 8 → Fin 4096 → Fin 1024 → ℝ) (b : Fin 8) (n : Fin 4096) (j : Fin 1024) : Fin 1024 := place (far D) b n j
/-- It is that place. -/
theorem near_def (D : Fin 8 → Fin 4096 → Fin 1024 → ℝ) (b : Fin 8) (n : Fin 4096) (j : Fin 1024) : near D b n j = place (far D) b n j := by
  unfold near; rfl
/-- The first three. -/
def three (D : Fin 8 → Fin 4096 → Fin 1024 → ℝ) (b : Fin 8) (n : Fin 4096) : Finset (Fin 1024) := {near D b n 0, near D b n 1, near D b n 2}

/-- With the second strictly before the third and the third strictly before the fourth, the first three are the nearest. -/
theorem nearest_three (D : Fin 8 → Fin 4096 → Fin 1024 → ℝ) (b : Fin 8) (n : Fin 4096)
    (h12 : far D (ix3 b n (near D b n 2)) < far D (ix3 b n (near D b n 1)))
    (h23 : far D (ix3 b n (near D b n 3)) < far D (ix3 b n (near D b n 2))) :
    Nearest (D b n) (three D b n) (near D b n 2) := by
  have hf : ∀ s t : Fin 1024, far D (ix3 b n s) < far D (ix3 b n t) → Near.dist (D b n t) < Near.dist (D b n s) := by
    intro s t h
    have h' : ((-(Near.dist (D b n s)) : ℝ) : EReal) < ((-(Near.dist (D b n t)) : ℝ) : EReal) := h
    have := EReal.coe_lt_coe_iff.1 h'
    linarith
  have h01 : far D (ix3 b n (near D b n 1)) ≤ far D (ix3 b n (near D b n 0)) := by
    rw [near_def, near_def]; exact place_le (far D) b n 0 1 (by decide)
  have n01 : near D b n 0 ≠ near D b n 1 := by rw [near_def, near_def]; exact place_ne _ b n (by decide)
  have n02 : near D b n 0 ≠ near D b n 2 := by rw [near_def, near_def]; exact place_ne _ b n (by decide)
  have n12 : near D b n 1 ≠ near D b n 2 := by rw [near_def, near_def]; exact place_ne _ b n (by decide)
  refine ⟨?_, ?_, ?_, ?_⟩
  · unfold three; rw [Finset.card_insert_of_notMem (by simp [n01, n02]), Finset.card_insert_of_notMem (by simp [n12]), Finset.card_singleton]
  · simp [three]
  · intro s hs hz
    simp only [three, Finset.mem_insert, Finset.mem_singleton] at hs
    rcases hs with rfl | rfl | rfl
    · exact hf _ _ (lt_of_lt_of_le h12 h01)
    · exact hf _ _ h12
    · exact absurd rfl hz
  · intro s hs
    obtain ⟨k, hk0⟩ := place_onto (far D) b n s
    rw [← near_def] at hk0
    subst hk0
    have hk : (3 : Fin 1024) ≤ k := by
      by_contra hc
      have hc' : k.val < 3 := not_le.1 hc
      apply hs
      simp only [three, Finset.mem_insert, Finset.mem_singleton]
      have : k = 0 ∨ k = 1 ∨ k = 2 := by
        have h3 : k.val = 0 ∨ k.val = 1 ∨ k.val = 2 := by omega
        rcases h3 with h | h | h
        · exact Or.inl (Fin.ext h)
        · exact Or.inr (Or.inl (Fin.ext h))
        · exact Or.inr (Or.inr (Fin.ext h))
      rcases this with rfl | rfl | rfl <;> simp
    refine hf _ _ (lt_of_le_of_lt ?_ h23)
    rcases eq_or_lt_of_le hk with e | hlt
    · rw [← e]
    · rw [near_def, near_def]; exact place_le (far D) b n 3 k hlt

end Cert.Top

end
-- ==== Proof.Value.Pre.lean ====
/-
  What the precondition says: finite arrays, and three nearest points told apart from the rest.
-/
module

public import proofs.«01_k».proof.Pre_three_nearest
public import proofs.«01_k».proof.Proof.Value.Model
public import proofs.«01_k».proof.Proof.Value.Top
public import Idealize.ShloMosaic.Lib.Pointwise

@[expose] public section

set_option maxRecDepth 16384

noncomputable section

namespace Cert.Pre_three_nearest

open Idealize.ShloMosaic
open Cert.Near Cert.Norm Cert.Model Cert.Top

/-- The shape relations of the precondition hold. -/
theorem facts : Facts where
  reducesTo_S8x4096x3_S8x4096_d2 := by decide
  h_S_ := by decide
  bcast_S8x4096_S8x4096x1_0_1 := by decide
  reducesTo_S8x1024x3_S8x1024_d2 := by decide
  bcast_S8x1024_S8x1024x1_0_1 := by decide
  transposes_S8x1024x1_S8x1x1024_0_2_1 := by decide
  bcast_S8x4096x1_S8x4096x1024_0_1_2 := by decide
  bcast_S8x1x1024_S8x4096x1024_0_1_2 := by decide
  bcast_S_S8x4096x1024 := by decide
  sliceFits_S8x4096x1024_S8x4096x4 := by decide
  bcast_S_S8x1024x3 := by decide
  reducesTo_S8x1024x3_S_d0_1_2 := by decide
  bcast_S_S8x128x4096 := by decide
  reducesTo_S8x128x4096_S_d0_1_2 := by decide
  bcast_S_S8x256x1024 := by decide
  reducesTo_S8x256x1024_S_d0_1_2 := by decide
  bcast_S_S256x384 := by decide
  reducesTo_S256x384_S_d0_1 := by decide
  bcast_S_S256 := by decide
  reducesTo_S256_S_d0 := by decide
  bcast_S_S128x256 := by decide
  reducesTo_S128x256_S_d0_1 := by decide
  bcast_S_S128 := by decide
  reducesTo_S128_S_d0 := by decide
  slices_S8x4096x4_S8x4096x1_0_0_1 := by decide
  shapeCasts_S8x4096x1_S8x4096 := by decide
  slices_S8x4096x4_S8x4096x1_0_0_2 := by decide
  reducesTo_S8x4096_S_d0_1 := by decide
  slices_S8x4096x4_S8x4096x1_0_0_3 := by decide
  dot_S8x4096x3_S8x1024x3_S8x4096x1024_2_2_1_1_0_0_wf := by decide

namespace Side
variable [Facts]
open Facts

/-- A conjunction of two words that is true has both parts true. -/
theorem both (u v : IVec S_ 1) (i : S_.Idx) (h : andi u v i = 1#1) : u i = 1#1 ∧ v i = 1#1 := by
  have key : ∀ a b : BitVec 1, a &&& b = 1#1 → a = 1#1 ∧ b = 1#1 := by decide
  exact key _ _ h

/-- A left fold of conjunctions that is true had every part true. -/
theorem fold_one {α : Type} (f : α → BitVec 1) (l : List α) (a : BitVec 1)
    (h : l.foldl (fun r n => IntOp.andi r (f n)) a = 1#1) : a = 1#1 ∧ ∀ n ∈ l, f n = 1#1 := by
  have key : ∀ a b : BitVec 1, IntOp.andi a b = 1#1 → a = 1#1 ∧ b = 1#1 := by
    intro a b; revert a b; unfold IntOp.andi; decide
  induction l generalizing a with
  | nil => exact ⟨h, fun n hn => absurd hn (List.not_mem_nil)⟩
  | cons x l ih =>
    obtain ⟨h1, h2⟩ := ih _ h
    obtain ⟨h3, h4⟩ := key _ _ h1
    refine ⟨h3, fun n hn => ?_⟩
    rcases List.mem_cons.1 hn with e | e
    · rw [e]; exact h4
    · exact h2 n e

/-- A conjunction over a whole array that is true has every entry true. -/
theorem all_one {s : Shape} {axes : List (Fin s.rank)} (x : IVec s 1) (h : s.ReducesTo axes S_) (hu : 0 < S_.numel) (j : S_.Idx)
    (e : Host.reduce IntOp.andi x (constantI S_ 1 1#1) h hu j = 1#1) (i : s.Idx) : x i = 1#1 := by
  unfold Host.reduce at e
  have := (fold_one (fun n => x (s.rowMajor.symm n)) _ _ e).2 (s.rowMajor i) (by
    rw [List.mem_filter]
    refine ⟨List.mem_finRange _, ?_⟩
    rw [decide_eq_true_iff]
    funext a
    exact a.elim0)
  simpa using this

/-- An array whose every magnitude is below infinity holds numbers. -/
theorem finite_of {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf (F := Ideal) .olt (Host.absf (F := Ideal) x) (broadcastInDim s ![] hb (constant S_ .f32 0x7F800000#32)))
      (constantI S_ 1 1#1) h hu j = 1#1) (i : s.Idx) : x i = (((x i : EReal).toReal : ℝ) : EReal) := by
  have h1 := all_one _ h hu j e i
  have h2 : BitVec.ofBool (decide (max (x i : EReal) (-(x i : EReal)) < Ideal.ofBits .f32 0x7F800000#32)) = 1#1 := h1
  rw [word_top] at h2
  have h3 : max (x i : EReal) (-(x i : EReal)) < ⊤ := by
    by_contra hc
    rw [decide_eq_false hc] at h2
    exact absurd h2 (by decide)
  refine (EReal.coe_toReal ?_ ?_).symm
  · intro hc
    rw [hc] at h3
    simp at h3
  · intro hc
    rw [hc] at h3
    simp at h3

/-- One of the four kept columns, at a point. -/
theorem column_at (v : FVec Ideal S8x4096x4 .f32) (b : Fin 8) (n : Fin 4096) :
    shapeCast S8x4096 (extractStridedSlice S8x4096x1 ![0, 0, 1] v slices_S8x4096x4_S8x4096x1_0_0_1) shapeCasts_S8x4096x1_S8x4096 (ix2 b n) = v (ix3 b n 1)
    ∧ shapeCast S8x4096 (extractStridedSlice S8x4096x1 ![0, 0, 2] v slices_S8x4096x4_S8x4096x1_0_0_2) shapeCasts_S8x4096x1_S8x4096 (ix2 b n) = v (ix3 b n 2)
    ∧ shapeCast S8x4096 (extractStridedSlice S8x4096x1 ![0, 0, 3] v slices_S8x4096x4_S8x4096x1_0_0_3) shapeCasts_S8x4096x1_S8x4096 (ix2 b n) = v (ix3 b n 3) := by
  refine ⟨?_, ?_, ?_⟩ <;> pointwise

/-- A comparison that is true everywhere is an inequality everywhere. -/
theorem less_of (u v : FVec Ideal S8x4096 .f32) (j : S_.Idx)
    (e : Host.reduce IntOp.andi (cmpf (F := Ideal) .ogt u v) (constantI S_ 1 1#1) reducesTo_S8x4096_S_d0_1 h_S_ j = 1#1)
    (i : S8x4096.Idx) : (v i : EReal) < (u i : EReal) := by
  have h2 : BitVec.ofBool (decide ((v i : EReal) < (u i : EReal))) = 1#1 := all_one _ _ h_S_ j e i
  by_contra hc
  rw [decide_eq_false hc] at h2
  exact absurd h2 (by decide)

/-- The squared distance before the root: the two squared lengths less twice the inner product. -/
theorem square_at (a0 : FVec Ideal S8x4096x3 .f32) (a1 : FVec Ideal S8x1024x3 .f32) (b : Fin 8) (n : Fin 4096) (s : Fin 1024)
    (M : Data) (h0 : ∀ d, a0 (ix3 b n d) = ((M.x1 b n d : ℝ) : EReal)) (h1 : ∀ d, a1 (ix3 b s d) = ((M.x2 b s d : ℝ) : EReal)) :
    subf (F := Ideal) (addf (F := Ideal) (broadcastInDim S8x4096x1024 ![0, 1, 2] bcast_S8x4096x1_S8x4096x1024_0_1_2 (broadcastInDim S8x4096x1 ![0, 1] bcast_S8x4096_S8x4096x1_0_1 (Host.reduceAdd (F := Ideal) (mulf (F := Ideal) a0 a0) (constant S_ .f32 0x00000000#32) reducesTo_S8x4096x3_S8x4096_d2 h_S_))) (broadcastInDim S8x4096x1024 ![0, 1, 2] bcast_S8x1x1024_S8x4096x1024_0_1_2 (transpose S8x1x1024 [0, 2, 1] (broadcastInDim S8x1024x1 ![0, 1] bcast_S8x1024_S8x1024x1_0_1 (Host.reduceAdd (F := Ideal) (mulf (F := Ideal) a1 a1) (constant S_ .f32 0x00000000#32) reducesTo_S8x1024x3_S8x1024_d2 h_S_)) transposes_S8x1024x1_S8x1x1024_0_2_1))) (mulf (F := Ideal) (broadcastInDim S8x4096x1024 ![] bcast_S_S8x4096x1024 (constant S_ .f32 0x40000000#32)) (Host.dotGeneral (F := Ideal) dot_S8x4096x3_S8x1024x3_S8x4096x1024_2_2_1_1_0_0 none a0 a1)) (ix3 b n s)
      = ((Model.sq M b n s : ℝ) : EReal) := by
  pointwise
  simp only [h0, h1, ← EReal.coe_mul, coe_sum, word_two, ← EReal.coe_add, ← EReal.coe_sub]
  refine congrArg _ ?_
  unfold Model.sq la lb cr
  have e : ∑ d, M.x1 b n d * (-2 * M.x2 b s d) = -(2 * ∑ d, M.x1 b n d * M.x2 b s d) := by
    rw [Finset.mul_sum, ← Finset.sum_neg_distrib]
    exact Finset.sum_congr rfl fun d _ => by ring
  rw [e, sub_eq_add_neg]

/-- From the squared distance to the negated distance. -/
theorem far_at (v : FVec Ideal S8x4096x1024 .f32) (b : Fin 8) (n : Fin 4096) (s : Fin 1024) (d : ℝ) (hv : v (ix3 b n s) = ((d : ℝ) : EReal)) :
    Host.negf (F := Ideal) (maximumf (F := Ideal) (Host.sqrt (F := Ideal) (maximumf (F := Ideal) v (broadcastInDim S8x4096x1024 ![] bcast_S_S8x4096x1024 (constant S_ .f32 0x00000000#32)))) (broadcastInDim S8x4096x1024 ![] bcast_S_S8x4096x1024 (constant S_ .f32 0x322BCC77#32))) (ix3 b n s)
      = ((-(Near.dist d) : ℝ) : EReal) := by
  pointwise
  rw [hv, ← EReal.coe_zero, max_coe, Ideal.sqrt_coe, if_neg (not_lt.2 (le_max_right _ _)), word_eps, max_coe, ← EReal.coe_neg]
  rfl

/-- Every entry of an array is a number. -/
def Numbers {s : Shape} (x : FVec Ideal s .f32) : Prop := ∀ i, x i = (((x i : EReal).toReal : ℝ) : EReal)

/-- A column of the kept values lies strictly before another, at every point. -/
def Before (v : FVec Ideal S8x4096x4 .f32) (p q : Fin 4) : Prop := ∀ b n, (v (ix3 b n q) : EReal) < (v (ix3 b n p) : EReal)

/-- The last part of the precondition: the order of the last two kept columns. -/
theorem part4 (v : FVec Ideal S8x4096x4 .f32) (w r : IVec S_ 1) (h : fn_part4 (F := Ideal) v w r ix0 = 1#1) :
    w ix0 = 1#1 ∧ r ix0 = 1#1 ∧ Before v 2 3 := by
  unfold fn_part4 at h
  dsimp only at h
  obtain ⟨h, h3⟩ := both _ _ _ h
  obtain ⟨h, h2⟩ := both _ _ _ h
  refine ⟨h, h2, fun b n => ?_⟩
  have := less_of _ _ _ h3 (ix2 b n)
  rwa [(column_at v b n).2.1, (column_at v b n).2.2] at this

/-- The third part. -/
theorem part3 (a9 : FVec Ideal S128 .f32) (a10 : FVec Ideal S128 .f32)
    (v : FVec Ideal S8x4096x4 .f32) (w : IVec S_ 1) (u : IVec S128x256 1) (h : fn_part3 (F := Ideal) a9 a10 v w u ix0 = 1#1) :
    (w ix0 = 1#1 ∧ Host.reduce IntOp.andi u (constantI S_ 1 1#1) reducesTo_S128x256_S_d0_1 h_S_ ix0 = 1#1) ∧ Numbers a9
      ∧ Numbers a10 ∧ Before v 1 2 ∧ Before v 2 3 := by
  unfold fn_part3 at h
  dsimp only at h
  obtain ⟨h, h3, h4⟩ := part4 _ _ _ h
  obtain ⟨h, h2⟩ := both _ _ _ h
  obtain ⟨h, h1⟩ := both _ _ _ h
  refine ⟨both _ _ _ h, finite_of _ _ _ h_S_ _ h1, finite_of _ _ _ h_S_ _ h2, fun b n => ?_, h4⟩
  have := less_of _ _ _ h3 (ix2 b n)
  rwa [(column_at v b n).1, (column_at v b n).2.1] at this

/-- The second part. -/
theorem part2 (a6 a7 : FVec Ideal S256 .f32) (a8 : FVec Ideal S128x256 .f32) (a9 : FVec Ideal S128 .f32)
    (a10 : FVec Ideal S128 .f32) (v : FVec Ideal S8x4096x4 .f32) (w : IVec S_ 1) (a4 : FVec Ideal S256x384 .f32)
    (h : fn_part2 (F := Ideal) a6 a7 a8 a9 a10 v w (Host.absf (F := Ideal) a4) ix0 = 1#1) :
    w ix0 = 1#1 ∧ Numbers a4 ∧ Numbers a6 ∧ Numbers a7 ∧ Numbers a8 ∧ Numbers a9
      ∧ Numbers a10 ∧ Before v 1 2 ∧ Before v 2 3 := by
  unfold fn_part2 at h
  dsimp only at h
  obtain ⟨⟨h, h5⟩, h6⟩ := part3 _ _ _ _ _ h
  obtain ⟨h, h4⟩ := both _ _ _ h
  obtain ⟨h, h3⟩ := both _ _ _ h
  obtain ⟨h, h2⟩ := both _ _ _ h
  exact ⟨h, finite_of _ _ _ h_S_ _ h2, finite_of _ _ _ h_S_ _ h3, finite_of _ _ _ h_S_ _ h4, finite_of _ _ _ h_S_ _ h5, h6⟩

/-- The first part, over the array of distances. -/
theorem part1 (a1 : FVec Ideal S8x1024x3 .f32) (a2 : FVec Ideal S8x128x4096 .f32) (a3 : FVec Ideal S8x256x1024 .f32)
    (a4 : FVec Ideal S256x384 .f32) (a6 a7 : FVec Ideal S256 .f32) (a8 : FVec Ideal S128x256 .f32) (a9 : FVec Ideal S128 .f32)
    (a10 : FVec Ideal S128 .f32) (x : FVec Ideal S8x4096x1024 .f32) (h : fn_part1 (F := Ideal) a1 a2 a3 a4 a6 a7 a8 a9 a10 x ix0 = 1#1) :
    Numbers a1 ∧ Numbers a2 ∧ Numbers a3 ∧ Numbers a4 ∧ Numbers a6 ∧ Numbers a7 ∧ Numbers a8 ∧ Numbers a9 ∧ Numbers a10
      ∧ (∀ b n, (Host.negf (F := Ideal) x (ix3 b n (place (Host.negf (F := Ideal) x) b n 2)) : EReal) < Host.negf (F := Ideal) x (ix3 b n (place (Host.negf (F := Ideal) x) b n 1)))
      ∧ (∀ b n, (Host.negf (F := Ideal) x (ix3 b n (place (Host.negf (F := Ideal) x) b n 3)) : EReal) < Host.negf (F := Ideal) x (ix3 b n (place (Host.negf (F := Ideal) x) b n 2))) := by
  unfold fn_part1 at h
  dsimp only at h
  obtain ⟨h, h4, h6, h7, h8, h9, h10, hb, hc⟩ := part2 _ _ _ _ _ _ _ _ h
  obtain ⟨h, h3⟩ := both _ _ _ h
  obtain ⟨h1, h2⟩ := both _ _ _ h
  refine ⟨finite_of _ _ _ h_S_ _ h1, finite_of _ _ _ h_S_ _ h2, finite_of _ _ _ h_S_ _ h3, h4, h6, h7, h8, h9, h10, fun b n => ?_, fun b n => ?_⟩
  · have e1 := top_values (m := 4) (Host.negf (F := Ideal) x) sliceFits_S8x4096x1024_S8x4096x4 b n 1 (by decide)
    have e2 := top_values (m := 4) (Host.negf (F := Ideal) x) sliceFits_S8x4096x1024_S8x4096x4 b n 2 (by decide)
    exact (e2.symm.trans_lt (hb b n)).trans_eq e1
  · have e1 := top_values (m := 4) (Host.negf (F := Ideal) x) sliceFits_S8x4096x1024_S8x4096x4 b n 2 (by decide)
    have e2 := top_values (m := 4) (Host.negf (F := Ideal) x) sliceFits_S8x4096x1024_S8x4096x4 b n 3 (by decide)
    exact (e2.symm.trans_lt (hc b n)).trans_eq e1

/-- A square is not negative. -/
theorem self_nonneg (x : EReal) : 0 ≤ x * x := by
  induction x with
  | bot => simp
  | top => simp
  | coe r => exact_mod_cast mul_self_nonneg r

/-- With one infinite coordinate the square of the length is infinite. -/
theorem length_top (f : Fin 3 → EReal) (k : Fin 3) (h : f k ≠ (((f k).toReal : ℝ) : EReal)) : ∑ d, f d * f d = ⊤ := by
  have hk : f k * f k = ⊤ := by
    rcases eq_or_ne (f k) ⊤ with e | e
    · rw [e]; rfl
    · rcases eq_or_ne (f k) ⊥ with e' | e'
      · rw [e']; rfl
      · exact absurd (EReal.coe_toReal e e').symm h
  exact top_le_iff.1 (hk ▸ Finset.single_le_sum (f := fun d => f d * f d) (fun i _ => self_nonneg _) (Finset.mem_univ k))

/-- Infinity less anything is one of the infinities. -/
theorem top_less (y : EReal) : (⊤ : EReal) - y = ⊤ ∨ (⊤ : EReal) - y = ⊥ := by
  induction y with
  | bot => exact Or.inl rfl
  | top => exact Or.inr rfl
  | coe r => exact Or.inl (by rw [sub_eq_add_neg, ← EReal.coe_neg]; exact EReal.top_add_coe _)

/-- From a query with an infinite coordinate every squared distance is infinite. -/
theorem square_top (a0 : FVec Ideal S8x4096x3 .f32) (a1 : FVec Ideal S8x1024x3 .f32) (b : Fin 8) (n : Fin 4096) (s : Fin 1024) (k : Fin 3)
    (h0 : a0 (ix3 b n k) ≠ (((a0 (ix3 b n k) : EReal).toReal : ℝ) : EReal)) (h1 : Numbers a1) :
    (subf (F := Ideal) (addf (F := Ideal) (broadcastInDim S8x4096x1024 ![0, 1, 2] bcast_S8x4096x1_S8x4096x1024_0_1_2 (broadcastInDim S8x4096x1 ![0, 1] bcast_S8x4096_S8x4096x1_0_1 (Host.reduceAdd (F := Ideal) (mulf (F := Ideal) a0 a0) (constant S_ .f32 0x00000000#32) reducesTo_S8x4096x3_S8x4096_d2 h_S_))) (broadcastInDim S8x4096x1024 ![0, 1, 2] bcast_S8x1x1024_S8x4096x1024_0_1_2 (transpose S8x1x1024 [0, 2, 1] (broadcastInDim S8x1024x1 ![0, 1] bcast_S8x1024_S8x1024x1_0_1 (Host.reduceAdd (F := Ideal) (mulf (F := Ideal) a1 a1) (constant S_ .f32 0x00000000#32) reducesTo_S8x1024x3_S8x1024_d2 h_S_)) transposes_S8x1024x1_S8x1x1024_0_2_1))) (mulf (F := Ideal) (broadcastInDim S8x4096x1024 ![] bcast_S_S8x4096x1024 (constant S_ .f32 0x40000000#32)) (Host.dotGeneral (F := Ideal) dot_S8x4096x3_S8x1024x3_S8x4096x1024_2_2_1_1_0_0 none a0 a1)) (ix3 b n s) : EReal) = ⊤
    ∨ (subf (F := Ideal) (addf (F := Ideal) (broadcastInDim S8x4096x1024 ![0, 1, 2] bcast_S8x4096x1_S8x4096x1024_0_1_2 (broadcastInDim S8x4096x1 ![0, 1] bcast_S8x4096_S8x4096x1_0_1 (Host.reduceAdd (F := Ideal) (mulf (F := Ideal) a0 a0) (constant S_ .f32 0x00000000#32) reducesTo_S8x4096x3_S8x4096_d2 h_S_))) (broadcastInDim S8x4096x1024 ![0, 1, 2] bcast_S8x1x1024_S8x4096x1024_0_1_2 (transpose S8x1x1024 [0, 2, 1] (broadcastInDim S8x1024x1 ![0, 1] bcast_S8x1024_S8x1024x1_0_1 (Host.reduceAdd (F := Ideal) (mulf (F := Ideal) a1 a1) (constant S_ .f32 0x00000000#32) reducesTo_S8x1024x3_S8x1024_d2 h_S_)) transposes_S8x1024x1_S8x1x1024_0_2_1))) (mulf (F := Ideal) (broadcastInDim S8x4096x1024 ![] bcast_S_S8x4096x1024 (constant S_ .f32 0x40000000#32)) (Host.dotGeneral (F := Ideal) dot_S8x4096x3_S8x1024x3_S8x4096x1024_2_2_1_1_0_0 none a0 a1)) (ix3 b n s) : EReal) = ⊥ := by
  have e : ∃ y : EReal, (subf (F := Ideal) (addf (F := Ideal) (broadcastInDim S8x4096x1024 ![0, 1, 2] bcast_S8x4096x1_S8x4096x1024_0_1_2 (broadcastInDim S8x4096x1 ![0, 1] bcast_S8x4096_S8x4096x1_0_1 (Host.reduceAdd (F := Ideal) (mulf (F := Ideal) a0 a0) (constant S_ .f32 0x00000000#32) reducesTo_S8x4096x3_S8x4096_d2 h_S_))) (broadcastInDim S8x4096x1024 ![0, 1, 2] bcast_S8x1x1024_S8x4096x1024_0_1_2 (transpose S8x1x1024 [0, 2, 1] (broadcastInDim S8x1024x1 ![0, 1] bcast_S8x1024_S8x1024x1_0_1 (Host.reduceAdd (F := Ideal) (mulf (F := Ideal) a1 a1) (constant S_ .f32 0x00000000#32) reducesTo_S8x1024x3_S8x1024_d2 h_S_)) transposes_S8x1024x1_S8x1x1024_0_2_1))) (mulf (F := Ideal) (broadcastInDim S8x4096x1024 ![] bcast_S_S8x4096x1024 (constant S_ .f32 0x40000000#32)) (Host.dotGeneral (F := Ideal) dot_S8x4096x3_S8x1024x3_S8x4096x1024_2_2_1_1_0_0 none a0 a1)) (ix3 b n s) : EReal) = ⊤ - y := by
    refine ⟨Ideal.ofBits .f32 0x40000000#32 * ∑ d, (a0 (ix3 b n d) : EReal) * a1 (ix3 b s d), ?_⟩
    pointwise
    have h2 : ∀ d, (a1 (ix3 b s d) : EReal) = (((a1 (ix3 b s d) : EReal).toReal : ℝ) : EReal) := fun d => h1 _
    have h3 : ∑ d, (a1 (ix3 b s d) : EReal) * a1 (ix3 b s d) = ((∑ d, (a1 (ix3 b s d) : EReal).toReal * (a1 (ix3 b s d) : EReal).toReal : ℝ) : EReal) := by
      rw [← coe_sum]
      refine Finset.sum_congr rfl fun d _ => ?_
      rw [EReal.coe_mul, ← h2 d]
    rw [length_top (fun d => (a0 (ix3 b n d) : EReal)) k h0, h3, EReal.top_add_coe]
  obtain ⟨y, e⟩ := e
  rw [e]
  exact top_less y

/-- The negated distance from an infinite squared distance is one of two values. -/
theorem far_two (v : FVec Ideal S8x4096x1024 .f32) (b : Fin 8) (n : Fin 4096) (s : Fin 1024) (hv : (v (ix3 b n s) : EReal) = ⊤ ∨ (v (ix3 b n s) : EReal) = ⊥) :
    (Host.negf (F := Ideal) (maximumf (F := Ideal) (Host.sqrt (F := Ideal) (maximumf (F := Ideal) v (broadcastInDim S8x4096x1024 ![] bcast_S_S8x4096x1024 (constant S_ .f32 0x00000000#32)))) (broadcastInDim S8x4096x1024 ![] bcast_S_S8x4096x1024 (constant S_ .f32 0x322BCC77#32))) (ix3 b n s) : EReal)
      = -(max (Ideal.sqrt (max ⊤ 0)) (Ideal.ofBits .f32 0x322BCC77#32))
    ∨ (Host.negf (F := Ideal) (maximumf (F := Ideal) (Host.sqrt (F := Ideal) (maximumf (F := Ideal) v (broadcastInDim S8x4096x1024 ![] bcast_S_S8x4096x1024 (constant S_ .f32 0x00000000#32)))) (broadcastInDim S8x4096x1024 ![] bcast_S_S8x4096x1024 (constant S_ .f32 0x322BCC77#32))) (ix3 b n s) : EReal)
      = -(max (Ideal.sqrt (max ⊥ 0)) (Ideal.ofBits .f32 0x322BCC77#32)) := by
  pointwise
  rcases hv with e | e
  · exact Or.inl (by rw [e])
  · exact Or.inr (by rw [e])

/-- Three strictly falling values are more than two. -/
theorem three_values (x y z p q : EReal) (h1 : y < x) (h2 : z < y) (hx : x = p ∨ x = q) (hy : y = p ∨ y = q) (hz : z = p ∨ z = q) : False := by
  rcases hx with rfl | rfl <;> rcases hy with rfl | rfl <;> rcases hz with rfl | rfl <;>
    first
    | exact lt_irrefl _ h1
    | exact lt_irrefl _ h2
    | exact lt_irrefl _ (h2.trans h1)

/-- What the precondition gives: every array but the two offsets `b1` and `be2` is of numbers, and for any data with these
    coordinates the third nearest point lies strictly between the second and the fourth. -/
theorem meaning (a0 : FVec Ideal S8x4096x3 .f32) (a1 : FVec Ideal S8x1024x3 .f32) (a2 : FVec Ideal S8x128x4096 .f32) (a3 : FVec Ideal S8x256x1024 .f32)
    (a4 : FVec Ideal S256x384 .f32) (a5 a6 a7 : FVec Ideal S256 .f32) (a8 : FVec Ideal S128x256 .f32) (a9 : FVec Ideal S128 .f32)
    (a10 a11 : FVec Ideal S128 .f32) (h : fn (F := Ideal) a0 a1 a2 a3 a4 a5 a6 a7 a8 a9 a10 a11 ix0 = 1#1) :
    (Numbers a0 ∧ Numbers a1 ∧ Numbers a2 ∧ Numbers a3 ∧ Numbers a4 ∧ Numbers a6 ∧ Numbers a7 ∧ Numbers a8 ∧ Numbers a9 ∧ Numbers a10)
    ∧ ∀ M : Data, (∀ b n d, a0 (ix3 b n d) = ((M.x1 b n d : ℝ) : EReal)) → (∀ b s d, a1 (ix3 b s d) = ((M.x2 b s d : ℝ) : EReal)) →
      ∀ b n, far (Model.sq M) (ix3 b n (Top.near (Model.sq M) b n 2)) < far (Model.sq M) (ix3 b n (Top.near (Model.sq M) b n 1))
        ∧ far (Model.sq M) (ix3 b n (Top.near (Model.sq M) b n 3)) < far (Model.sq M) (ix3 b n (Top.near (Model.sq M) b n 2)) := by
  unfold fn at h
  dsimp only at h
  obtain ⟨h1, h2, h3, h4, h6, h7, h8, h9, h10, hb, hc⟩ := part1 _ _ _ _ _ _ _ _ _ _ h
  have h0 : Numbers a0 := by
    intro i
    by_contra hi
    have ei : i = ix3 (i 0) (i 1) (i 2) := by
      funext a
      match a with
      | ⟨0, _⟩ => rfl
      | ⟨1, _⟩ => rfl
      | ⟨2, _⟩ => rfl
    rw [ei] at hi
    have two := fun s => far_two _ (i 0) (i 1) s (square_top a0 a1 (i 0) (i 1) s (i 2) hi h1)
    exact three_values _ _ _ _ _ (hb (i 0) (i 1)) (hc (i 0) (i 1)) (two _) (two _) (two _)
  refine ⟨⟨h0, h1, h2, h3, h4, h6, h7, h8, h9, h10⟩, fun M g0 g1 b n => ?_⟩
  have e := eq_far (Model.sq M) _ fun b n s => far_at _ b n s _ (square_at a0 a1 b n s M (g0 b n) (g1 b s))
  have hb' := hb b n
  have hc' := hc b n
  rw [near_def, near_def, near_def]
  rw [e] at hb' hc'
  exact ⟨hb', hc'⟩

end Side
end Cert.Pre_three_nearest

end
-- ==== Proof.Value.Blocks.lean ====
/-
  The blocks of the three calls, read off their arrays entry by entry: point `t` works on batch `t / 2` and on the half
  `t % 2` of its columns.
-/
module

public import proofs.«01_k».proof.Proof.Ideal.Chain
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Run

/-- The batch of a point. -/
def bt (t : Fin 16) : Fin 8 := ⟨t.val / 2, by omega⟩
/-- The column of entry `r` of the block of a point. -/
def cl (t : Fin 16) (r : Fin 2048) : Fin 4096 := ⟨t.val % 2 * 2048 + r.val, by omega⟩

/-- The index maps of the first call. -/
theorem idxA : ∀ t : Fin cfg0.N, win0_0.index t = ![t.val / 2, t.val % 2, 0] ∧ win0_1.index t = ![t.val / 2, 0, 0]
    ∧ win0_2.index t = ![t.val / 2, 0, 0] ∧ win0_3.index t = ![t.val / 2, 0, t.val % 2] ∧ win0_4.index t = ![0, 0]
    ∧ win0_5.index t = ![0, 0] ∧ win0_6.index t = ![0, 0] ∧ win0_7.index t = ![t.val / 2, 0, t.val % 2]
    ∧ win0_8.index t = ![0, 0] ∧ win0_9.index t = ![0, 0] :=
  (by decide +kernel : ∀ t : Fin grid0.N, _)

/-- The index maps of the second. -/
theorem idxB : ∀ t : Fin cfg1.N, win1_0.index t = ![t.val / 2, 0, t.val % 2] ∧ win1_1.index t = ![0, 0]
    ∧ win1_2.index t = ![0, 0] ∧ win1_3.index t = ![0, 0] ∧ win1_4.index t = ![0, 0]
    ∧ win1_5.index t = ![0, 0] ∧ win1_6.index t = ![0, 0] ∧ win1_7.index t = ![t.val / 2, 0, t.val % 2]
    ∧ win1_8.index t = ![0, 0] ∧ win1_9.index t = ![0, 0] :=
  (by decide +kernel : ∀ t : Fin grid1.N, _)

/-- The index maps of the third. -/
theorem idxC : ∀ t : Fin cfg2.N, win2_0.index t = ![t.val / 2, 0, t.val % 2] ∧ win2_1.index t = ![0, 0]
    ∧ win2_2.index t = ![0, 0] ∧ win2_3.index t = ![0, 0] ∧ win2_4.index t = ![0, 0]
    ∧ win2_5.index t = ![t.val / 2, 0, t.val % 2] :=
  (by decide +kernel : ∀ t : Fin grid2.N, _)

variable (W : Dev nD → Valuation τ sig (Elt Ideal)) (c : Dev nD)

/-- The query points of a block. -/
theorem blkA_0 (t : Fin cfg0.N) (r : Fin 2048) (d : Fin 3) : (blkA W c 0 t : FVec Ideal S1x2048x3 .f32) (ix3 0 r d)
    = (W c (Proc.devRef .tc main_arg0) : FVec Ideal S8x4096x3 .f32) (ix3 (bt t) (cl t r) d) := by
  blk_ext [blkA, idxA t, bt, cl]

/-- The source points. -/
theorem blkA_1 (t : Fin cfg0.N) (d : Fin 3) (s : Fin 1024) : (blkA W c 1 t : FVec Ideal S1x3x1024 .f32) (ix3 0 d s)
    = (W c (Proc.devRef .tc main_v0) : FVec Ideal S8x3x1024 .f32) (ix3 (bt t) d s) := by
  blk_ext [blkA, idxA t, bt, cl]

/-- Their features. -/
theorem blkA_2 (t : Fin cfg0.N) (k : Fin 256) (s : Fin 1024) : (blkA W c 2 t : FVec Ideal S1x256x1024 .f32) (ix3 0 k s)
    = (W c (Proc.devRef .tc main_arg3) : FVec Ideal S8x256x1024 .f32) (ix3 (bt t) k s) := by
  blk_ext [blkA, idxA t, bt, cl]

/-- The features of the query points. -/
theorem blkA_3 (t : Fin cfg0.N) (k : Fin 128) (r : Fin 2048) : (blkA W c 3 t : FVec Ideal S1x128x2048 .f32) (ix3 0 k r)
    = (W c (Proc.devRef .tc main_arg2) : FVec Ideal S8x128x4096 .f32) (ix3 (bt t) k (cl t r)) := by
  blk_ext [blkA, idxA t, bt, cl]

/-- The first part of the first matrix. -/
theorem blkA_4 (t : Fin cfg0.N) (o k : Fin 256) : (blkA W c 4 t : FVec Ideal S256x256 .f32) (ix2 o k)
    = (W c (Proc.devRef .tc main_v1) : FVec Ideal S256x256 .f32) (ix2 o k) := by
  blk_ext [blkA, idxA t, bt, cl]

/-- Its second part. -/
theorem blkA_5 (t : Fin cfg0.N) (o : Fin 256) (k : Fin 128) : (blkA W c 5 t : FVec Ideal S256x128 .f32) (ix2 o k)
    = (W c (Proc.devRef .tc main_v2) : FVec Ideal S256x128 .f32) (ix2 o k) := by
  blk_ext [blkA, idxA t, bt, cl]

/-- The first offset. -/
theorem blkA_6 (t : Fin cfg0.N) (o : Fin 256) : (blkA W c 6 t : FVec Ideal S1x256 .f32) (ix2 0 o)
    = (W c (Proc.devRef .tc main_v3) : FVec Ideal S1x256 .f32) (ix2 0 o) := by
  blk_ext [blkA, idxA t, bt, cl]

/-- The first layer's block. -/
theorem blkB_0 (t : Fin cfg1.N) (o : Fin 256) (r : Fin 2048) : (blkB W c 0 t : FVec Ideal S1x256x2048 .f32) (ix3 0 o r)
    = (W c (Proc.devRef .tc main_v9_0) : FVec Ideal S8x256x4096 .f32) (ix3 (bt t) o (cl t r)) := by
  blk_ext [blkB, idxB t, bt, cl]

/-- Its channel sums. -/
theorem blkB_1 (t : Fin cfg1.N) (o : Fin 256) : (blkB W c 1 t : FVec Ideal S1x256 .f32) (ix2 0 o)
    = (W c (Proc.devRef .tc main_v9_1) : FVec Ideal S1x256 .f32) (ix2 0 o) := by
  blk_ext [blkB, idxB t, bt, cl]

/-- Its channel sums of squares. -/
theorem blkB_2 (t : Fin cfg1.N) (o : Fin 256) : (blkB W c 2 t : FVec Ideal S1x256 .f32) (ix2 0 o)
    = (W c (Proc.devRef .tc main_v9_2) : FVec Ideal S1x256 .f32) (ix2 0 o) := by
  blk_ext [blkB, idxB t, bt, cl]

/-- The first scale. -/
theorem blkB_3 (t : Fin cfg1.N) (o : Fin 256) : (blkB W c 3 t : FVec Ideal S1x256 .f32) (ix2 0 o)
    = (W c (Proc.devRef .tc main_v4) : FVec Ideal S1x256 .f32) (ix2 0 o) := by
  blk_ext [blkB, idxB t, bt, cl]

/-- The first shift. -/
theorem blkB_4 (t : Fin cfg1.N) (o : Fin 256) : (blkB W c 4 t : FVec Ideal S1x256 .f32) (ix2 0 o)
    = (W c (Proc.devRef .tc main_v5) : FVec Ideal S1x256 .f32) (ix2 0 o) := by
  blk_ext [blkB, idxB t, bt, cl]

/-- The second matrix. -/
theorem blkB_5 (t : Fin cfg1.N) (p : Fin 128) (o : Fin 256) : (blkB W c 5 t : FVec Ideal S128x256 .f32) (ix2 p o)
    = (W c (Proc.devRef .tc main_arg8) : FVec Ideal S128x256 .f32) (ix2 p o) := by
  blk_ext [blkB, idxB t, bt, cl]

/-- The second offset. -/
theorem blkB_6 (t : Fin cfg1.N) (p : Fin 128) : (blkB W c 6 t : FVec Ideal S1x128 .f32) (ix2 0 p)
    = (W c (Proc.devRef .tc main_v6) : FVec Ideal S1x128 .f32) (ix2 0 p) := by
  blk_ext [blkB, idxB t, bt, cl]

/-- The second layer's block. -/
theorem blkC_0 (t : Fin cfg2.N) (p : Fin 128) (r : Fin 2048) : (blkC W c 0 t : FVec Ideal S1x128x2048 .f32) (ix3 0 p r)
    = (W c (Proc.devRef .tc main_v10_0) : FVec Ideal S8x128x4096 .f32) (ix3 (bt t) p (cl t r)) := by
  blk_ext [blkC, idxC t, bt, cl]

/-- Its channel sums. -/
theorem blkC_1 (t : Fin cfg2.N) (p : Fin 128) : (blkC W c 1 t : FVec Ideal S1x128 .f32) (ix2 0 p)
    = (W c (Proc.devRef .tc main_v10_1) : FVec Ideal S1x128 .f32) (ix2 0 p) := by
  blk_ext [blkC, idxC t, bt, cl]

/-- Its channel sums of squares. -/
theorem blkC_2 (t : Fin cfg2.N) (p : Fin 128) : (blkC W c 2 t : FVec Ideal S1x128 .f32) (ix2 0 p)
    = (W c (Proc.devRef .tc main_v10_2) : FVec Ideal S1x128 .f32) (ix2 0 p) := by
  blk_ext [blkC, idxC t, bt, cl]

/-- The second scale. -/
theorem blkC_3 (t : Fin cfg2.N) (p : Fin 128) : (blkC W c 3 t : FVec Ideal S1x128 .f32) (ix2 0 p)
    = (W c (Proc.devRef .tc main_v7) : FVec Ideal S1x128 .f32) (ix2 0 p) := by
  blk_ext [blkC, idxC t, bt, cl]

/-- The second shift. -/
theorem blkC_4 (t : Fin cfg2.N) (p : Fin 128) : (blkC W c 4 t : FVec Ideal S1x128 .f32) (ix2 0 p)
    = (W c (Proc.devRef .tc main_v8) : FVec Ideal S1x128 .f32) (ix2 0 p) := by
  blk_ext [blkC, idxC t, bt, cl]

end Cert.KernelIdeal.Value

end
-- ==== Proof.Value.Calls.lean ====
/-
  What each call leaves in its result arrays, from what its body leaves in a block.
-/
module

public import proofs.«01_k».proof.Proof.Value.Blocks
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Run

variable (W : Dev nD → Valuation τ sig (Elt Ideal)) (c : Dev nD)

/-- An index of a one-high block. -/
theorem at_one {p q : ℕ} (y : Shape.Idx ⟨3, ![1, p, q]⟩) : y = ix3 0 (y 1) (y 2) := by
  blk_ext

/-- The first layer. -/
theorem arrA_7 (G : FVec Ideal S8x256x4096 .f32)
    (h : ∀ (t : Fin cfg0.N) (o : Fin 256) (r : Fin 2048), convA W c t (ix3 0 o r) = G (ix3 (bt t) o (cl t r))) :
    (datA W c).arrAt 7 cfg0.N = G := by
  refine (datA W c).arrAt_eq_of_covers 7 _ (by decide +kernel) fun t _ y => ?_
  blk_simp
  rw [afterA_7]
  have hy : (y : Shape.Idx ⟨3, ![1, 256, 2048]⟩) = ix3 0 (y 1) (y 2) := at_one y
  refine (congrArg _ hy).trans ((h t _ _).trans ?_)
  blk_ext [idxA t, bt, cl]

/-- Its channel sums. -/
theorem arrA_8 : (datA W c).arrAt 8 cfg0.N = sumA W c 15 (by decide) := by
  refine (datA W c).arrAt_eq_of_after_last 8 t0_15 (by decide +kernel) _ fun j => ?_
  blk_simp
  rw [afterA_8]
  have e : ∀ (n : ℕ) (hn : n < cfg0.N), n = 15 → sumA W c n hn = sumA W c 15 (by decide) := by rintro _ hn rfl; rfl
  rw [e _ _ (by decide +kernel)]

/-- Its channel sums of squares. -/
theorem arrA_9 : (datA W c).arrAt 9 cfg0.N = sqA W c 15 (by decide) := by
  refine (datA W c).arrAt_eq_of_after_last 9 t0_15 (by decide +kernel) _ fun j => ?_
  blk_simp
  rw [afterA_9]
  have e : ∀ (n : ℕ) (hn : n < cfg0.N), n = 15 → sqA W c n hn = sqA W c 15 (by decide) := by rintro _ hn rfl; rfl
  rw [e _ _ (by decide +kernel)]

/-- The second layer. -/
theorem arrB_7 (G : FVec Ideal S8x128x4096 .f32)
    (h : ∀ (t : Fin cfg1.N) (o : Fin 128) (r : Fin 2048), k1_pay1 (convB W c t) (ix3 0 o r) = G (ix3 (bt t) o (cl t r))) :
    (datB W c).arrAt 7 cfg1.N = G := by
  refine (datB W c).arrAt_eq_of_covers 7 _ (by decide +kernel) fun t _ y => ?_
  blk_simp
  rw [afterB_7]
  have hy : (y : Shape.Idx ⟨3, ![1, 128, 2048]⟩) = ix3 0 (y 1) (y 2) := at_one y
  refine (congrArg _ hy).trans ((h t _ _).trans ?_)
  blk_ext [idxB t, bt, cl]

/-- Its channel sums. -/
theorem arrB_8 : (datB W c).arrAt 8 cfg1.N = sumB W c 15 (by decide) := by
  refine (datB W c).arrAt_eq_of_after_last 8 t1_15 (by decide +kernel) _ fun j => ?_
  blk_simp
  rw [afterB_8]
  have e : ∀ (n : ℕ) (hn : n < cfg1.N), n = 15 → sumB W c n hn = sumB W c 15 (by decide) := by rintro _ hn rfl; rfl
  rw [e _ _ (by decide +kernel)]

/-- Its channel sums of squares. -/
theorem arrB_9 : (datB W c).arrAt 9 cfg1.N = sqB W c 15 (by decide) := by
  refine (datB W c).arrAt_eq_of_after_last 9 t1_15 (by decide +kernel) _ fun j => ?_
  blk_simp
  rw [afterB_9]
  have e : ∀ (n : ℕ) (hn : n < cfg1.N), n = 15 → sqB W c n hn = sqB W c 15 (by decide) := by rintro _ hn rfl; rfl
  rw [e _ _ (by decide +kernel)]

/-- The result. -/
theorem arrC_5 (G : FVec Ideal S8x128x4096 .f32)
    (h : ∀ (t : Fin cfg2.N) (o : Fin 128) (r : Fin 2048), outC W c t (ix3 0 o r) = G (ix3 (bt t) o (cl t r))) :
    (datC W c).arrAt 5 cfg2.N = G := by
  refine (datC W c).arrAt_eq_of_covers 5 _ (by decide +kernel) fun t _ y => ?_
  blk_simp
  rw [afterC_5]
  have hy : (y : Shape.Idx ⟨3, ![1, 128, 2048]⟩) = ix3 0 (y 1) (y 2) := at_one y
  refine (congrArg _ hy).trans ((h t _ _).trans ?_)
  blk_ext [idxC t, bt, cl]

end Cert.KernelIdeal.Value

end
-- ==== Proof.Value.Rows.lean ====
/-
  The distances of the first call and its first two rounds of the fast way, read entry by entry.
-/
module

public import proofs.«01_k».proof.Proof.Ideal.PassA
public import proofs.«01_k».proof.Proof.Near
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Run
open Cert.Near

/-- The square of the length of query point `r` of a block. -/
def lenA (x : FVec Ideal S1x2048x3 .f32) (r : Fin 2048) : EReal := ∑ d : Fin 3, x (ix3 0 r d) * x (ix3 0 r d)

/-- The square of the length of source point `s`. -/
def lenB (y : FVec Ideal S1x3x1024 .f32) (s : Fin 1024) : EReal := ∑ d : Fin 3, y (ix3 0 d s) * y (ix3 0 d s)

/-- Minus twice their inner product. -/
def cross (x : FVec Ideal S1x2048x3 .f32) (y : FVec Ideal S1x3x1024 .f32) (r : Fin 2048) (s : Fin 1024) : EReal :=
  ∑ d : Fin 3, x (ix3 0 r d) * (((-2 : ℝ) : EReal) * y (ix3 0 d s))

/-- What the fast way compares. -/
def part (x : FVec Ideal S1x2048x3 .f32) (y : FVec Ideal S1x3x1024 .f32) (r : Fin 2048) (s : Fin 1024) : EReal :=
  lenB y s + cross x y r s

/-- The bound on a weight. -/
theorem named_most : (Named.named Cert.KernelIdeal.κ "most" 0x4CBEBC20#32 : Ideal .f32) = most := rfl

/-- A choice on a decided bit. -/
theorem select_bool (P : Prop) [Decidable P] (a b : EReal) : Scalar.select (BitVec.ofBool (decide P)) a b = if P then a else b := by
  by_cases h : P <;> simp [h, Scalar.select]

/-- A choice between words on a decided bit. -/
theorem select_word (P : Prop) [Decidable P] (a b : BitVec 32) : Scalar.select (BitVec.ofBool (decide P)) a b = if P then a else b := by
  by_cases h : P <;> simp [h, Scalar.select]

/-- Lengths of the query points. -/
theorem pay15_at (x : FVec Ideal S1x2048x3 .f32) (r : Fin 2048) : k0_pay15 (F := Ideal) x (ix1 r) = lenA x r := by
  pointwise [k0_pay15, k0_pay13]; rfl

/-- Lengths of the source points. -/
theorem pay16_at (y : FVec Ideal S1x3x1024 .f32) (s : Fin 1024) : k0_pay16 (F := Ideal) y (ix1 s) = lenB y s := by
  pointwise [k0_pay16, k0_pay14]; rfl

/-- The products. -/
theorem pay17_at (x : FVec Ideal S1x2048x3 .f32) (y : FVec Ideal S1x3x1024 .f32) (r : Fin 2048) (s : Fin 1024) :
    k0_pay17 (F := Ideal) x y (ix2 r s) = cross x y r s := by
  pointwise [k0_pay17, k0_pay14, k0_pay13, word_neg_two]; rfl

/-- What the fast way compares. -/
theorem pay18_at (x : FVec Ideal S1x2048x3 .f32) (y : FVec Ideal S1x3x1024 .f32) (r : Fin 2048) (s : Fin 1024) :
    k0_pay18 (F := Ideal) x y (ix2 r s) = part x y r s := by
  pointwise [k0_pay18, pay16_at, pay17_at]; rfl

/-- The smallest. -/
theorem pay19_at (x : FVec Ideal S1x2048x3 .f32) (y : FVec Ideal S1x3x1024 .f32) (r : Fin 2048) :
    k0_pay19 (F := Ideal) x y (ix1 r) = low (part x y r) := by
  pointwise [k0_pay19, pay18_at, word_top]; rfl

/-- Where it is. -/
theorem pay20_at (x : FVec Ideal S1x2048x3 .f32) (y : FVec Ideal S1x3x1024 .f32) (r : Fin 2048) (s : Fin 1024) :
    k0_pay20 (F := Ideal) x y (ix2 r s) = BitVec.ofBool (decide (part x y r s = low (part x y r))) := by
  pointwise [k0_pay20, pay18_at, pay19_at]

/-- The first weight. -/
theorem pay21_at (x : FVec Ideal S1x2048x3 .f32) (y : FVec Ideal S1x3x1024 .f32) (r : Fin 2048) :
    k0_pay21 (F := Ideal) x y (ix1 r) = near (lenA x r) (part x y r) := by
  pointwise [k0_pay21, pay15_at, pay19_at, named_most]; rfl

/-- What is left after one round. -/
theorem pay22_at (x : FVec Ideal S1x2048x3 .f32) (y : FVec Ideal S1x3x1024 .f32) (r : Fin 2048) (s : Fin 1024) :
    k0_pay22 (F := Ideal) x y (ix2 r s) = drop (part x y r) s := by
  pointwise [k0_pay22, pay18_at, pay20_at, word_top, select_bool]; rfl

/-- The second smallest. -/
theorem pay23_at (x : FVec Ideal S1x2048x3 .f32) (y : FVec Ideal S1x3x1024 .f32) (r : Fin 2048) :
    k0_pay23 (F := Ideal) x y (ix1 r) = low (drop (part x y r)) := by
  pointwise [k0_pay23, pay22_at, word_top]; rfl

/-- Where it is. -/
theorem pay24_at (x : FVec Ideal S1x2048x3 .f32) (y : FVec Ideal S1x3x1024 .f32) (r : Fin 2048) (s : Fin 1024) :
    k0_pay24 (F := Ideal) x y (ix2 r s) = BitVec.ofBool (decide (drop (part x y r) s = low (drop (part x y r)))) := by
  pointwise [k0_pay24, pay22_at, pay23_at]

/-- The second weight before its bound. -/
theorem pay25_at (x : FVec Ideal S1x2048x3 .f32) (y : FVec Ideal S1x3x1024 .f32) (r : Fin 2048) :
    k0_pay25 (F := Ideal) x y (ix1 r) = Ideal.rsqrt (max (lenA x r + low (drop (part x y r))) 0) := by
  pointwise [k0_pay25, pay15_at, pay23_at]

end Cert.KernelIdeal.Value

end
-- ==== Proof.Value.Fast.lean ====
/-
  The fast block of weights is the fast row at every row, and when the body keeps it every row adds up to one within the
  slack.
-/
module

public import proofs.«01_k».proof.Proof.Value.Rows

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Run
open Cert.Near

/-- The fast block, from what it is made of. -/
theorem pay26_at (a2 w0 r1 : FVec Ideal S2048 .f32) (m0 m1 : IVec S2048x1024 1) (t : FVec Ideal S2048x1024 .f32)
    (a : EReal) (T : Fin 1024 → EReal) (r : Fin 2048) (s : Fin 1024) (ha : a2 (ix1 r) = a) (h0 : w0 (ix1 r) = near a T)
    (h1 : r1 (ix1 r) = Ideal.rsqrt (max (a + low (drop T)) 0))
    (hm0 : ∀ s : Fin 1024, m0 (ix2 r s) = BitVec.ofBool (decide (T s = low T)))
    (hm1 : ∀ s : Fin 1024, m1 (ix2 r s) = BitVec.ofBool (decide (drop T s = low (drop T))))
    (ht : ∀ s : Fin 1024, t (ix2 r s) = drop T s) :
    k0_pay26 (F := Ideal) a2 m0 w0 t m1 r1 (ix2 r s) = fast a T s := by
  have hd : ∀ s : Fin 1024, (if drop T s = low (drop T) then (⊤ : EReal) else drop T s) = drop (drop T) s := fun _ => rfl
  have hl : Finset.fold min ⊤ (fun s : Fin 1024 => drop (drop T) s) Finset.univ = low (drop (drop T)) := rfl
  pointwise [k0_pay26, ha, h0, h1, hm0, hm1, ht, word_top, select_bool, named_most, hd, hl]
  rfl

/-- THE FAST BLOCK is the fast row at every row. -/
theorem fastA_at (x : FVec Ideal S1x2048x3 .f32) (y : FVec Ideal S1x3x1024 .f32) (r : Fin 2048) (s : Fin 1024) :
    fastA (F := Ideal) x y (ix2 r s) = fast (lenA x r) (part x y r) s := by
  pointwise [fastA, k0_pay27]
  exact pay26_at _ _ _ _ _ _ _ _ r s (pay15_at x r) (pay21_at x y r) (pay25_at x y r) (pay20_at x y r) (pay24_at x y r) (pay22_at x y r)

/-- How far each row of the fast block is from one. -/
theorem pay28_at (x : FVec Ideal S1x2048x3 .f32) (y : FVec Ideal S1x3x1024 .f32) (r : Fin 2048) :
    k0_pay28 (F := Ideal) (k0_pay15 x) (k0_pay20 (F := Ideal) x y) (k0_pay21 x y) (k0_pay22 (F := Ideal) x y) (k0_pay24 (F := Ideal) x y) (k0_pay25 x y) (ix2 0 r)
      = max (∑ s, fast (lenA x r) (part x y r) s - 1) (-(∑ s, fast (lenA x r) (part x y r) s - 1)) := by
  have h : ∀ s : Fin 1024, k0_pay26 (F := Ideal) (k0_pay15 x) (k0_pay20 (F := Ideal) x y) (k0_pay21 x y) (k0_pay22 (F := Ideal) x y) (k0_pay24 (F := Ideal) x y) (k0_pay25 x y) (ix2 r s)
      = fast (lenA x r) (part x y r) s := fun s =>
    pay26_at _ _ _ _ _ _ _ _ r s (pay15_at x r) (pay21_at x y r) (pay25_at x y r) (pay20_at x y r) (pay24_at x y r) (pay22_at x y r)
  pointwise [k0_pay28, h]
  rfl

/-- The test of a bit widened to a word is the bit. -/
theorem bit_test (b : BitVec 1) : Scalar.cmpi .ne (Scalar.extui b : BitVec 32) 0#32 = b := by revert b; decide

/-- A value the test does not find above the slack. -/
theorem le_of_kept (v : Ideal .f32) (h : ¬ Scalar.cmpf (F := Ideal) .ogt v (Scalar.ofBits .f32 0x38D1B717#32) = 1#1) :
    (v : EReal) ≤ ((slack : ℝ) : EReal) := by
  by_contra hn
  rw [not_le, ← word_slack] at hn
  exact h (by
    change BitVec.ofBool (decide (Ideal.ofBits .f32 0x38D1B717#32 < v)) = 1#1
    rw [decide_eq_true hn]; rfl)

/-- When the body keeps the fast block, every row adds up to one within the slack. -/
theorem kept_rows (x : FVec Ideal S1x2048x3 .f32) (y : FVec Ideal S1x3x1024 .f32) (h : ¬offA (F := Ideal) x y = 1#1) (r : Fin 2048) :
    max (∑ s, fast (lenA x r) (part x y r) s - 1) (-(∑ s, fast (lenA x r) (part x y r) s - 1)) ≤ ((slack : ℝ) : EReal) := by
  unfold offA at h
  rw [bit_test] at h
  have h2 := le_of_kept _ h
  refine le_trans ?_ h2
  rw [← pay28_at]
  have h3 : ∀ v : FVec Ideal S1x2048 .f32, v (ix2 0 r) ≤ k0_pay29 (F := Ideal) v := by
    intro v
    pointwise [k0_pay29, word_bot]
    exact (Finset.le_fold_max _).2 (Or.inr ⟨r, Finset.mem_univ _, le_rfl⟩)
  exact h3 _

end Cert.KernelIdeal.Value

end
-- ==== Proof.Value.Exact.lean ====
/-
  The exact block of weights is the exact row at every row.
-/
module

public import proofs.«01_k».proof.Proof.Value.Rows

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Run
open Cert.Near

/-! ## The exact block -/

/-- What the exact way compares. -/
def full (x : FVec Ideal S1x2048x3 .f32) (y : FVec Ideal S1x3x1024 .f32) (r : Fin 2048) (s : Fin 1024) : EReal :=
  lenA x r + lenB y s + cross x y r s

/-- What a kept value is divided into, from the value. -/
theorem floor_at (v : FVec Ideal S2048 .f32) (r : Fin 2048) :
    maximumf (sqrt (maximumf v (broadcast S2048 (Scalar.ofBits .f32 0x00000000#32 : Ideal .f32))))
      (broadcast S2048 (Scalar.ofBits .f32 0x322BCC77#32 : Ideal .f32)) (ix1 r) = max (Ideal.sqrt (max (v (ix1 r)) 0)) (eps : EReal) := by
  pointwise [word_eps]

/-- One over a vector, at one index. -/
theorem over_at (w : FVec Ideal S2048 .f32) (r : Fin 2048) (X : EReal) (h : w (ix1 r) = X) :
    divf (broadcast S2048 (Scalar.ofBits .f32 0x3F800000#32 : Ideal .f32)) w (ix1 r) = Ideal.div 1 X := by
  pointwise [h]

/-- The weight of the smallest of a row. -/
theorem inv_at (v : FVec Ideal S2048 .f32) (r : Fin 2048) (E : Fin 1024 → EReal) (h : v (ix1 r) = low E) :
    divf (broadcast S2048 (Scalar.ofBits .f32 0x3F800000#32 : Ideal .f32))
      (maximumf (sqrt (maximumf v (broadcast S2048 (Scalar.ofBits .f32 0x00000000#32 : Ideal .f32))))
        (broadcast S2048 (Scalar.ofBits .f32 0x322BCC77#32 : Ideal .f32))) (ix1 r) = invLow E := by
  rw [← invLow_def, ← h]
  exact over_at _ r _ (floor_at v r)

/-- The smallest of a row. -/
theorem least_at (t : FVec Ideal S2048x1024 .f32) (r : Fin 2048) (E : Fin 1024 → EReal) (h : ∀ s : Fin 1024, t (ix2 r s) = E s) :
    multiReduction .minimumf [1] S2048 t 0x7F800000#32 reduces_S2048x1024_S2048 (.inl rfl) rfl (ix1 r) = low E := by
  pointwise [h, word_top, low_def]

/-- Where the smallest of a row is, lowest position first. -/
theorem place_at (v : FVec Ideal S2048 .f32) (t : FVec Ideal S2048x1024 .f32) (r : Fin 2048) (s : Fin 1024) (E : Fin 1024 → EReal)
    (hv : v (ix1 r) = low E) (h : ∀ s : Fin 1024, t (ix2 r s) = E s) :
    cmpi .eq (iota .tc S2048x1024 32 [1] iota_S2048x1024_d1_w32)
      (broadcastTo S2048x1024 (shapeCast S2048x1 (multiReductionI .minsi [1] S2048
        (select (cmpf .oeq t (broadcastTo S2048x1024 (shapeCast S2048x1 v shapeCasts_S2048_S2048x1) broadcasts_S2048x1_S2048x1024))
          (iota .tc S2048x1024 32 [1] iota_S2048x1024_d1_w32) (broadcast S2048x1024 1024#32))
        2147483647#32 reduces_S2048x1024_S2048 rfl) shapeCasts_S2048_S2048x1) broadcasts_S2048x1_S2048x1024) (ix2 r s) = pick E s := by
  pointwise [hv, h, pick_def]

/-- One weight over the sum of three, where a bit says. -/
theorem share_at (m : IVec S2048x1024 1) (w d : FVec Ideal S2048 .f32) (r : Fin 2048) (s : Fin 1024) (b : BitVec 1) (W D : EReal)
    (hm : m (ix2 r s) = b) (hw : w (ix1 r) = W) (hd : d (ix1 r) = D) :
    select m (broadcastTo S2048x1024 (shapeCast S2048x1 (shapeCast S2048x1 (divf w d) shapeCasts_S2048_S2048x1) shapeCasts_S2048x1_S2048x1)
      broadcasts_S2048x1_S2048x1024) (broadcast S2048x1024 (Scalar.ofBits .f32 0x00000000#32 : Ideal .f32)) (ix2 r s) = Scalar.select b (Ideal.div W D) 0 := by
  pointwise [hm, hw, hd]

/-- Three vectors added, at one index. -/
theorem three_at (u v w : FVec Ideal S2048 .f32) (r : Fin 2048) (U V W : EReal) (hu : u (ix1 r) = U) (hv : v (ix1 r) = V) (hw : w (ix1 r) = W) :
    addf (addf u v) w (ix1 r) = U + V + W := by
  pointwise [hu, hv, hw]

/-- Three blocks added, at one index. -/
theorem blocks_at (u v w : FVec Ideal S2048x1024 .f32) (r : Fin 2048) (s : Fin 1024) (U V W : EReal) (hu : u (ix2 r s) = U) (hv : v (ix2 r s) = V)
    (hw : w (ix2 r s) = W) : shapeCast S2048x1024 (addf (addf u v) w) shapeCasts_S2048x1024_S2048x1024 (ix2 r s) = U + V + W := by
  pointwise [hu, hv, hw]

section
variable (a2 : FVec Ideal S2048 .f32) (b2 : FVec Ideal S1024 .f32) (ab : FVec Ideal S2048x1024 .f32) (E : Fin 1024 → EReal) (r : Fin 2048)

/-- The smallest. -/
theorem pay4_at (hE : ∀ s : Fin 1024, k0_pay3 (F := Ideal) a2 b2 ab (ix2 r s) = E s) : k0_pay4 (F := Ideal) a2 b2 ab (ix1 r) = low E := by
  pointwise [k0_pay4, hE, word_top, low_def]

/-- The first weight. -/
theorem pay5_at (hE : ∀ s : Fin 1024, k0_pay3 (F := Ideal) a2 b2 ab (ix2 r s) = E s) : k0_pay5 (F := Ideal) a2 b2 ab (ix1 r) = invLow E := by
  have h := pay4_at a2 b2 ab E r hE
  unfold k0_pay5
  exact inv_at _ r E h

/-- Where it is, lowest position first. -/
theorem pay6_at (hE : ∀ s : Fin 1024, k0_pay3 (F := Ideal) a2 b2 ab (ix2 r s) = E s) (s : Fin 1024) :
    k0_pay6 (F := Ideal) a2 b2 ab (ix2 r s) = pick E s := by
  have h := pay4_at a2 b2 ab E r hE
  pointwise [k0_pay6, h, hE, pick_def]

/-- What is left after one round. -/
theorem pay7_at (hE : ∀ s : Fin 1024, k0_pay3 (F := Ideal) a2 b2 ab (ix2 r s) = E s) (s : Fin 1024) :
    k0_pay7 (F := Ideal) a2 b2 ab (ix2 r s) = cut E s := by
  have h := pay6_at a2 b2 ab E r hE
  pointwise [k0_pay7, h, hE, word_top, cut_def]

/-- The second smallest. -/
theorem pay8_at (hE : ∀ s : Fin 1024, k0_pay3 (F := Ideal) a2 b2 ab (ix2 r s) = E s) : k0_pay8 (F := Ideal) a2 b2 ab (ix1 r) = low (cut E) := by
  have h := pay7_at a2 b2 ab E r hE
  pointwise [k0_pay8, h, word_top, low_def]

/-- The second weight. -/
theorem pay9_at (hE : ∀ s : Fin 1024, k0_pay3 (F := Ideal) a2 b2 ab (ix2 r s) = E s) : k0_pay9 (F := Ideal) a2 b2 ab (ix1 r) = invLow (cut E) := by
  have h := pay8_at a2 b2 ab E r hE
  unfold k0_pay9
  exact inv_at _ r (cut E) h

/-- Where it is. -/
theorem pay10_at (hE : ∀ s : Fin 1024, k0_pay3 (F := Ideal) a2 b2 ab (ix2 r s) = E s) (s : Fin 1024) :
    k0_pay10 (F := Ideal) a2 b2 ab (ix2 r s) = pick (cut E) s := by
  have h := pay8_at a2 b2 ab E r hE
  have h' := pay7_at a2 b2 ab E r hE
  unfold k0_pay10
  exact place_at _ _ r s (cut E) h h'

/-- What is left after two rounds. -/
theorem pay11_at (hE : ∀ s : Fin 1024, k0_pay3 (F := Ideal) a2 b2 ab (ix2 r s) = E s) (s : Fin 1024) :
    k0_pay11 (F := Ideal) a2 b2 ab (ix2 r s) = cut (cut E) s := by
  have h := pay10_at a2 b2 ab E r hE
  have h' := pay7_at a2 b2 ab E r hE
  pointwise [k0_pay11, h, h', word_top, cut_def]

end

/-- The third round and the weights, from what they are made of. -/
theorem pay30_at (v0 v1 : FVec Ideal S2048 .f32) (m0 m1 : IVec S2048x1024 1) (t : FVec Ideal S2048x1024 .f32)
    (E : Fin 1024 → EReal) (r : Fin 2048) (s : Fin 1024) (h0 : v0 (ix1 r) = invLow E) (h1 : v1 (ix1 r) = invLow (cut E))
    (hm0 : m0 (ix2 r s) = pick E s) (hm1 : m1 (ix2 r s) = pick (cut E) s)
    (ht : ∀ s : Fin 1024, t (ix2 r s) = cut (cut E) s) :
    k0_pay30 (F := Ideal) (iota .tc S2048x1024 32 [1] iota_S2048x1024_d1_w32) v0 m0 v1 m1 t (ix2 r s) = exact E s := by
  unfold k0_pay30
  have h2 := inv_at _ r (cut (cut E)) (least_at t r _ ht)
  have hd := three_at _ _ _ r _ _ _ h0 h1 h2
  rw [← exact_def]
  exact blocks_at _ _ _ r s _ _ _ (share_at _ _ _ r s _ _ _ hm0 h0 hd) (share_at _ _ _ r s _ _ _ hm1 h1 hd)
    (share_at _ _ _ r s _ _ _ (place_at _ _ r s _ (least_at t r _ ht) ht) h2 hd)

/-- THE EXACT BLOCK is the exact row at every row. -/
theorem exactA_at (x : FVec Ideal S1x2048x3 .f32) (y : FVec Ideal S1x3x1024 .f32) (r : Fin 2048) (s : Fin 1024) :
    exactA (F := Ideal) x y (ix2 r s) = exact (full x y r) s := by
  have hE : ∀ s : Fin 1024, k0_pay3 (F := Ideal) (k0_pay15 x) (k0_pay16 y) (k0_pay17 x y) (ix2 r s) = full x y r s := fun s => by
    pointwise [k0_pay3, pay15_at, pay16_at, pay17_at]; rfl
  unfold exactA
  exact pay30_at _ _ _ _ _ _ r s (pay5_at _ _ _ _ r hE) (pay9_at _ _ _ _ r hE) (pay6_at _ _ _ _ r hE s) (pay10_at _ _ _ _ r hE s)
    (pay11_at _ _ _ _ r hE)

end Cert.KernelIdeal.Value

end
-- ==== Proof.Value.Weights.lean ====
/-
  The weights the first call goes on with are the weights of the three nearest points.
-/
module

public import proofs.«01_k».proof.Proof.Value.Fast
public import proofs.«01_k».proof.Proof.Value.Exact

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Run
open Cert.Near

/-- THE WEIGHTS the body goes on with: on a block whose squared distances are real and have three nearest points, the
    row of weights, whichever way it takes. -/
theorem weightsA_at (x : FVec Ideal S1x2048x3 .f32) (y : FVec Ideal S1x3x1024 .f32) (r : Fin 2048) (s : Fin 1024)
    (a : ℝ) (b e : Fin 1024 → ℝ) (ha : lenA x r = (a : EReal)) (hb : ∀ s, lenB y s = (b s : EReal)) (he : ∀ s, cross x y r s = (e s : EReal))
    {T : Finset (Fin 1024)} {z : Fin 1024} (h : Nearest (fun s => a + b s + e s) T z) :
    weightsA (F := Ideal) x y (ix2 r s) = ((weight (fun s => a + b s + e s) T s : ℝ) : EReal) := by
  have hp : part x y r = fun s => ((b s + e s : ℝ) : EReal) := funext fun s => by unfold part; rw [hb, he, EReal.coe_add]
  have hf : full x y r = fun s => ((a + b s + e s : ℝ) : EReal) := funext fun s => by
    unfold full; rw [ha, hb, he, EReal.coe_add, EReal.coe_add]
  unfold weightsA
  split
  · rw [exactA_at, hf, exact_eq h]
  · rename_i hk
    have hr := kept_rows x y hk r
    rw [ha, hp] at hr
    have h' : Nearest (fun s => a + (b s + e s)) T z := by
      have : (fun s => a + (b s + e s)) = fun s => a + b s + e s := funext fun s => (add_assoc _ _ _).symm
      rw [this]; exact h
    rw [fastA_at, ha, hp, fast_eq a (fun s => b s + e s) h' hr]
    simp only [add_assoc]

end Cert.KernelIdeal.Value

end
-- ==== Proof.Value.Pays.lean ====
/-
  The stored values of the three calls, entry by entry, over arbitrary blocks.
-/
module

public import proofs.«01_k».proof.Proof.Value.Norm
public import proofs.«01_k».proof.Proof.Ideal.PassA
public import proofs.«01_k».proof.Proof.Ideal.PassB
public import proofs.«01_k».proof.Proof.Ideal.PassC
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen
open Cert.Norm

/-- The features after the first part of the first matrix. -/
theorem pay12_at (w : FVec Ideal S256x256 .f32) (f : FVec Ideal S1x256x1024 .f32) (o : Fin 256) (s : Fin 1024) :
    k0_pay12 (F := Ideal) w f (ix2 o s) = ∑ k : Fin 256, w (ix2 o k) * f (ix3 0 k s) := by
  pointwise [k0_pay12]

/-- The first layer's block. -/
theorem pay31_at (g : FVec Ideal S256x1024 .f32) (w : FVec Ideal S2048x1024 .f32) (a : FVec Ideal S256x128 .f32)
    (f : FVec Ideal S1x128x2048 .f32) (b : FVec Ideal S1x256 .f32) (o : Fin 256) (r : Fin 2048) :
    k0_pay31 (F := Ideal) g w a f b (ix2 o r)
      = ∑ s : Fin 1024, g (ix2 o s) * w (ix2 r s) + ∑ k : Fin 128, a (ix2 o k) * f (ix3 0 k r) + b (ix2 0 o) := by
  pointwise [k0_pay31]

section
variable (g : FVec Ideal S256x1024 .f32) (w : FVec Ideal S2048x1024 .f32) (a : FVec Ideal S256x128 .f32)
    (f : FVec Ideal S1x128x2048 .f32) (b : FVec Ideal S1x256 .f32) (o : Fin 256) (Y : Fin 2048 → EReal)
    (hY : ∀ r : Fin 2048, k0_pay31 (F := Ideal) g w a f b (ix2 o r) = Y r)
include hY

/-- The stored block is the linear map. -/
theorem pay32_at (r : Fin 2048) : k0_pay32 (F := Ideal) g w a f b (ix3 0 o r) = Y r := by
  pointwise [k0_pay32, hY]

/-- The sum of its channel. -/
theorem pay33_at : k0_pay33 (F := Ideal) g w a f b (ix1 o) = ∑ r, Y r := by
  pointwise [k0_pay33, hY]

/-- The sum of the squares of its channel. -/
theorem pay34_at : k0_pay34 (F := Ideal) g w a f b (ix1 o) = ∑ r, Y r * Y r := by
  pointwise [k0_pay34, hY]

/-- The sum, as it is first stored. -/
theorem pay35_at : k0_pay35 (F := Ideal) g w a f b (ix2 0 o) = ∑ r, Y r := by
  have h := pay33_at g w a f b o Y hY
  pointwise [k0_pay35, h]

/-- The sum of the squares, as it is first stored. -/
theorem pay36_at : k0_pay36 (F := Ideal) g w a f b (ix2 0 o) = ∑ r, Y r * Y r := by
  have h := pay34_at g w a f b o Y hY
  pointwise [k0_pay36, h]

end

/-- A later step adds to the stored sum. -/
theorem pay1_at (s : FVec Ideal S256 .f32) (p : FVec Ideal S1x256 .f32) (o : Fin 256) :
    k0_pay1 (F := Ideal) s p (ix2 0 o) = p (ix2 0 o) + s (ix1 o) := by
  pointwise [k0_pay1]

/-- A later step adds to the stored sum of squares. -/
theorem pay2_at (s : FVec Ideal S256 .f32) (p : FVec Ideal S1x256 .f32) (o : Fin 256) :
    k0_pay2 (F := Ideal) s p (ix2 0 o) = p (ix2 0 o) + s (ix1 o) := by
  pointwise [k0_pay2]

/-- The second layer's block. -/
theorem k1_pay8_at (s q g e : FVec Ideal S1x256 .f32) (y : FVec Ideal S1x256x2048 .f32) (w : FVec Ideal S128x256 .f32)
    (b : FVec Ideal S1x128 .f32) (p : Fin 128) (r : Fin 2048) (Z : Fin 256 → EReal)
    (hZ : ∀ o : Fin 256, max (y (ix3 0 o r) * (Ideal.rsqrt (Ideal.div (q (ix2 0 o)) ((32768 : ℝ) : EReal)
        - Ideal.div (s (ix2 0 o)) ((32768 : ℝ) : EReal) * Ideal.div (s (ix2 0 o)) ((32768 : ℝ) : EReal) + ((fuzz : ℝ) : EReal)) * g (ix2 0 o))
      + (e (ix2 0 o) - Ideal.div (s (ix2 0 o)) ((32768 : ℝ) : EReal) * (Ideal.rsqrt (Ideal.div (q (ix2 0 o)) ((32768 : ℝ) : EReal)
        - Ideal.div (s (ix2 0 o)) ((32768 : ℝ) : EReal) * Ideal.div (s (ix2 0 o)) ((32768 : ℝ) : EReal) + ((fuzz : ℝ) : EReal)) * g (ix2 0 o)))) 0 = Z o) :
    k1_pay8 (F := Ideal) s q g e y w b (ix2 p r) = ∑ o : Fin 256, w (ix2 p o) * Z o + b (ix2 0 p) := by
  pointwise [k1_pay8, word_count, word_fuzz, hZ]

section
variable (v : FVec Ideal S128x2048 .f32) (u : FVec Ideal S1x128 .f32) (p : Fin 128)

/-- The stored block is the second linear map. -/
theorem k1_pay1_at (r : Fin 2048) : k1_pay1 (F := Ideal) v (ix3 0 p r) = v (ix2 p r) := by
  pointwise [k1_pay1]

/-- The sum of its channel, as it is first stored. -/
theorem k1_pay4_at : k1_pay4 (F := Ideal) v (ix2 0 p) = ∑ r : Fin 2048, v (ix2 p r) := by
  pointwise [k1_pay4, k1_pay2]

/-- The sum of the squares of its channel, as it is first stored. -/
theorem k1_pay5_at : k1_pay5 (F := Ideal) v (ix2 0 p) = ∑ r : Fin 2048, v (ix2 p r) * v (ix2 p r) := by
  pointwise [k1_pay5, k1_pay3]

/-- A later step adds to the stored sum. -/
theorem k1_pay6_at : k1_pay6 (F := Ideal) v u (ix2 0 p) = u (ix2 0 p) + ∑ r : Fin 2048, v (ix2 p r) := by
  pointwise [k1_pay6, k1_pay2]

/-- A later step adds to the stored sum of squares. -/
theorem k1_pay7_at : k1_pay7 (F := Ideal) v u (ix2 0 p) = u (ix2 0 p) + ∑ r : Fin 2048, v (ix2 p r) * v (ix2 p r) := by
  pointwise [k1_pay7, k1_pay3]

end

/-- The result's block. -/
theorem k2_pay1_at (s q g e : FVec Ideal S1x128 .f32) (y : FVec Ideal S1x128x2048 .f32) (p : Fin 128) (r : Fin 2048) (Z : EReal)
    (hZ : y (ix3 0 p r) * (Ideal.rsqrt (Ideal.div (q (ix2 0 p)) ((32768 : ℝ) : EReal)
        - Ideal.div (s (ix2 0 p)) ((32768 : ℝ) : EReal) * Ideal.div (s (ix2 0 p)) ((32768 : ℝ) : EReal) + ((fuzz : ℝ) : EReal)) * g (ix2 0 p))
      + (e (ix2 0 p) - Ideal.div (s (ix2 0 p)) ((32768 : ℝ) : EReal) * (Ideal.rsqrt (Ideal.div (q (ix2 0 p)) ((32768 : ℝ) : EReal)
        - Ideal.div (s (ix2 0 p)) ((32768 : ℝ) : EReal) * Ideal.div (s (ix2 0 p)) ((32768 : ℝ) : EReal) + ((fuzz : ℝ) : EReal)) * g (ix2 0 p))) = Z) :
    k2_pay1 (F := Ideal) s q g e y (ix3 0 p r) = max Z 0 := by
  pointwise [k2_pay1, word_count, word_fuzz, hZ]

end Cert.KernelIdeal.Value

end
-- ==== Proof.Value.LayerA.lean ====
/-
  The first call leaves the first layer and its channel sums.
-/
module

public import proofs.«01_k».proof.Proof.Value.Calls
public import proofs.«01_k».proof.Proof.Value.Weights
public import proofs.«01_k».proof.Proof.Value.Pays
public import proofs.«01_k».proof.Proof.Value.Model

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Run
open Cert.Near Cert.Norm Cert.Model

variable (W : Dev nD → Valuation τ sig (Elt Ideal)) (c : Dev nD) (M : Data)

/-- What the first call finds. -/
structure FeedA : Prop where
  x1 : ∀ b n d, (W c (Proc.devRef .tc main_arg0) : FVec Ideal S8x4096x3 .f32) (ix3 b n d) = ((M.x1 b n d : ℝ) : EReal)
  x2 : ∀ b s d, (W c (Proc.devRef .tc main_v0) : FVec Ideal S8x3x1024 .f32) (ix3 b d s) = ((M.x2 b s d : ℝ) : EReal)
  f1 : ∀ b k n, (W c (Proc.devRef .tc main_arg2) : FVec Ideal S8x128x4096 .f32) (ix3 b k n) = ((M.f1 b k n : ℝ) : EReal)
  f2 : ∀ b k s, (W c (Proc.devRef .tc main_arg3) : FVec Ideal S8x256x1024 .f32) (ix3 b k s) = ((M.f2 b k s : ℝ) : EReal)
  wlo : ∀ o k, (W c (Proc.devRef .tc main_v1) : FVec Ideal S256x256 .f32) (ix2 o k) = ((M.w1 o (lo k) : ℝ) : EReal)
  whi : ∀ o k, (W c (Proc.devRef .tc main_v2) : FVec Ideal S256x128 .f32) (ix2 o k) = ((M.w1 o (hi k) : ℝ) : EReal)
  b1 : ∀ o, (W c (Proc.devRef .tc main_v3) : FVec Ideal S1x256 .f32) (ix2 0 o) = M.b1 o

variable {W c M} (hN : Near M) (h : FeedA W c M)
include h

/-- The features of the batch. -/
theorem featA_at (t : Fin cfg0.N) (o : Fin 256) (s : Fin 1024) :
    featA W c t (ix2 o s) = ((∑ k, M.w1 o (lo k) * M.f2 (bt t) k s : ℝ) : EReal) := by
  unfold featA
  refine (pay12_at _ _ o s).trans ?_
  rw [← coe_sum]
  refine Finset.sum_congr rfl fun k _ => ?_
  have hb : bt (startOf t) = bt t := Fin.ext (by change (t.val - t.val % 2) / 2 = t.val / 2; omega)
  rw [EReal.coe_mul]
  refine congrArg₂ _ ((blkA_4 W c _ o k).trans (h.wlo o k)) ((blkA_2 W c _ k s).trans ?_)
  rw [hb]
  exact h.f2 _ _ _

include hN

/-- The weights of a block. -/
theorem weights_blk (t : Fin cfg0.N) (r : Fin 2048) (s : Fin 1024) :
    weightsA (F := Ideal) (blkA W c 0 t) (blkA W c 1 t) (ix2 r s) = ((wt M (bt t) (cl t r) s : ℝ) : EReal) := by
  have h0 := fun d => (blkA_0 W c t r d).trans (h.x1 (bt t) (cl t r) d)
  have h1 := fun d s => (blkA_1 W c t d s).trans (h.x2 (bt t) s d)
  refine weightsA_at _ _ r s (la M (bt t) (cl t r)) (lb M (bt t)) (cr M (bt t) (cl t r)) ?_ ?_ ?_ (hN (bt t) (cl t r))
  · unfold lenA la
    rw [← coe_sum]
    exact Finset.sum_congr rfl fun d _ => by rw [EReal.coe_mul]; exact congrArg₂ _ (h0 d) (h0 d)
  · intro s
    unfold lenB lb
    rw [← coe_sum]
    exact Finset.sum_congr rfl fun d _ => by rw [EReal.coe_mul]; exact congrArg₂ _ (h1 d s) (h1 d s)
  · intro s
    unfold cross cr
    rw [← coe_sum]
    exact Finset.sum_congr rfl fun d _ => by
      rw [EReal.coe_mul, EReal.coe_mul]; exact congrArg₂ _ (h0 d) (congrArg₂ _ rfl (h1 d s))

/-- The block of the first layer. -/
theorem block_at (t : Fin cfg0.N) (o : Fin 256) (r : Fin 2048) :
    k0_pay31 (F := Ideal) (featA W c t) (weightsA (blkA W c 0 t) (blkA W c 1 t)) (blkA W c 5 t) (blkA W c 3 t) (blkA W c 6 t) (ix2 o r)
      = v1 M o (bt t) (cl t r) := by
  refine (pay31_at _ _ _ _ _ o r).trans ?_
  rw [← lin_add]
  unfold lin
  rw [EReal.coe_add, ← coe_sum, ← coe_sum]
  refine congrArg₂ _ (congrArg₂ _ ?_ ?_) ((blkA_6 W c t o).trans (h.b1 o))
  · exact Finset.sum_congr rfl fun s _ => by
      rw [EReal.coe_mul]; exact congrArg₂ _ (featA_at h t o s) (weights_blk hN h t r s)
  · exact Finset.sum_congr rfl fun k _ => by
      rw [EReal.coe_mul]
      exact congrArg₂ _ ((blkA_5 W c t o k).trans (h.whi o k)) ((blkA_3 W c t k r).trans (h.f1 _ _ _))

/-- THE FIRST LAYER. -/
theorem firstA (b : Fin 8) (o : Fin 256) (n : Fin 4096) :
    ((datA W c).arrAt 7 cfg0.N : FVec Ideal S8x256x4096 .f32) (ix3 b o n) = v1 M o b n := by
  rw [arrA_7 W c (fun j => v1 M (j 1) (j 0) (j 2)) fun t o r => by
    unfold convA
    exact pay32_at _ _ _ _ _ o _ (block_at hN h t o) r]
  rfl

/-- Its channel sums. -/
theorem sumsA (o : Fin 256) :
    ((datA W c).arrAt 8 cfg0.N : FVec Ideal S1x256 .f32) (ix2 0 o) = s1 M o := by
  by_cases hw : Wild M o
  · rw [arrA_8, s1_wild M hw]
    refine running_same (fun n hn => sumA W c n hn (ix2 0 o)) _ (wild_add M hw) ?_ fun n hn => ?_
    · refine (pay35_at _ _ _ _ _ o _ (block_at hN h ⟨0, by decide⟩ o)).trans ?_
      simp only [v1_wild M hw]
      exact sum_same _ (wild_add M hw) 2047
    · refine (pay1_at _ _ o).trans (congrArg₂ _ rfl ?_)
      unfold chanA
      refine (pay33_at _ _ _ _ _ o _ (block_at hN h ⟨n + 1, hn⟩ o)).trans ?_
      simp only [v1_wild M hw]
      exact sum_same _ (wild_add M hw) 2047
  rw [arrA_8, s1_tame M hw, ← sum_blocks (y1 M o) bt cl (fun _ => rfl) (fun _ _ => rfl)]
  refine running (fun n hn => sumA W c n hn (ix2 0 o)) (fun t => ∑ r, y1 M o (bt t) (cl t r)) ?_ fun n hn => ?_
  · refine (pay35_at _ _ _ _ _ o _ (block_at hN h ⟨0, by decide⟩ o)).trans ?_
    simp only [v1_tame M hw]
    rw [coe_sum]; rfl
  · refine (pay1_at _ _ o).trans (congrArg₂ _ rfl ?_)
    unfold chanA
    refine (pay33_at _ _ _ _ _ o _ (block_at hN h ⟨n + 1, hn⟩ o)).trans ?_
    simp only [v1_tame M hw]
    rw [coe_sum]; rfl

/-- Its channel sums of squares. -/
theorem squaresA (o : Fin 256) :
    ((datA W c).arrAt 9 cfg0.N : FVec Ideal S1x256 .f32) (ix2 0 o) = q1 M o := by
  by_cases hw : Wild M o
  · rw [arrA_9, q1_wild M hw]
    refine running_same (fun n hn => sqA W c n hn (ix2 0 o)) _ rfl ?_ fun n hn => ?_
    · refine (pay36_at _ _ _ _ _ o _ (block_at hN h ⟨0, by decide⟩ o)).trans ?_
      simp only [v1_wild M hw, wild_mul M hw]
      exact sum_same _ rfl 2047
    · refine (pay2_at _ _ o).trans (congrArg₂ _ rfl ?_)
      unfold chanSqA
      refine (pay34_at _ _ _ _ _ o _ (block_at hN h ⟨n + 1, hn⟩ o)).trans ?_
      simp only [v1_wild M hw, wild_mul M hw]
      exact sum_same _ rfl 2047
  rw [arrA_9, q1_tame M hw, ← sum_blocks (fun b n => y1 M o b n * y1 M o b n) bt cl (fun _ => rfl) (fun _ _ => rfl)]
  refine running (fun n hn => sqA W c n hn (ix2 0 o)) (fun t => ∑ r, y1 M o (bt t) (cl t r) * y1 M o (bt t) (cl t r)) ?_ fun n hn => ?_
  · refine (pay36_at _ _ _ _ _ o _ (block_at hN h ⟨0, by decide⟩ o)).trans ?_
    simp only [v1_tame M hw, ← EReal.coe_mul]
    rw [coe_sum]; rfl
  · refine (pay2_at _ _ o).trans (congrArg₂ _ rfl ?_)
    unfold chanSqA
    refine (pay34_at _ _ _ _ _ o _ (block_at hN h ⟨n + 1, hn⟩ o)).trans ?_
    simp only [v1_tame M hw, ← EReal.coe_mul]
    rw [coe_sum]; rfl

end Cert.KernelIdeal.Value

end
-- ==== Proof.Value.LayerB.lean ====
/-
  The second call leaves the second layer before its normalisation and its channel sums; the third leaves the result.
-/
module

public import proofs.«01_k».proof.Proof.Value.Calls
public import proofs.«01_k».proof.Proof.Value.Pays
public import proofs.«01_k».proof.Proof.Value.Model

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Run
open Cert.Near Cert.Norm Cert.Model

variable (W : Dev nD → Valuation τ sig (Elt Ideal)) (c : Dev nD) (M : Data)

/-- What the second call finds. -/
structure FeedB : Prop where
  y : ∀ b o n, (W c (Proc.devRef .tc main_v9_0) : FVec Ideal S8x256x4096 .f32) (ix3 b o n) = v1 M o b n
  s : ∀ o, (W c (Proc.devRef .tc main_v9_1) : FVec Ideal S1x256 .f32) (ix2 0 o) = s1 M o
  q : ∀ o, (W c (Proc.devRef .tc main_v9_2) : FVec Ideal S1x256 .f32) (ix2 0 o) = q1 M o
  g : ∀ o, (W c (Proc.devRef .tc main_v4) : FVec Ideal S1x256 .f32) (ix2 0 o) = ((M.g1 o : ℝ) : EReal)
  e : ∀ o, (W c (Proc.devRef .tc main_v5) : FVec Ideal S1x256 .f32) (ix2 0 o) = ((M.e1 o : ℝ) : EReal)
  w : ∀ p o, (W c (Proc.devRef .tc main_arg8) : FVec Ideal S128x256 .f32) (ix2 p o) = ((M.w2 p o : ℝ) : EReal)
  b : ∀ p, (W c (Proc.devRef .tc main_v6) : FVec Ideal S1x128 .f32) (ix2 0 p) = ((M.b2 p : ℝ) : EReal)
  k : ∀ o, Wild M o → M.k1 o = if M.g1 o = 0 then max (M.e1 o) 0 else 0

/-- What the third call finds. -/
structure FeedC : Prop where
  y : ∀ b p n, (W c (Proc.devRef .tc main_v10_0) : FVec Ideal S8x128x4096 .f32) (ix3 b p n) = ((y2 M p b n : ℝ) : EReal)
  s : ∀ p, (W c (Proc.devRef .tc main_v10_1) : FVec Ideal S1x128 .f32) (ix2 0 p) = ((∑ b, ∑ n, y2 M p b n : ℝ) : EReal)
  q : ∀ p, (W c (Proc.devRef .tc main_v10_2) : FVec Ideal S1x128 .f32) (ix2 0 p) = ((∑ b, ∑ n, y2 M p b n * y2 M p b n : ℝ) : EReal)
  g : ∀ p, (W c (Proc.devRef .tc main_v7) : FVec Ideal S1x128 .f32) (ix2 0 p) = ((M.g2 p : ℝ) : EReal)
  e : ∀ p, (W c (Proc.devRef .tc main_v8) : FVec Ideal S1x128 .f32) (ix2 0 p) = M.e2 p

variable {W c M}

section
variable (h : FeedB W c M)
include h

/-- The block of the second layer. -/
theorem convB_at (t : Fin cfg1.N) (p : Fin 128) (r : Fin 2048) :
    convB W c t (ix2 p r) = ((y2 M p (bt t) (cl t r) : ℝ) : EReal) := by
  unfold convB
  refine (k1_pay8_at _ _ _ _ _ _ _ p r (fun o => ((z1 M o (bt t) (cl t r) : ℝ) : EReal)) fun o => ?_).trans ?_
  · have hg := (blkB_3 W c t o).trans (h.g o)
    have he := (blkB_4 W c t o).trans (h.e o)
    rw [hg, he]
    by_cases hw : Wild M o
    · rw [z1_wild M hw, h.k o hw]
      exact scaled_wild (M.b1 o) hw (M.g1 o) (M.e1 o) _ _ _ ((blkB_0 W c t o r).trans ((h.y _ _ _).trans (v1_wild M hw _ _)))
        ((blkB_1 W c t o).trans ((h.s o).trans (s1_wild M hw))) ((blkB_2 W c t o).trans ((h.q o).trans (q1_wild M hw)))
    rw [scaled (y1 M o) (M.g1 o) (M.e1 o) (bt t) (cl t r) _ _ _ ((blkB_0 W c t o r).trans ((h.y _ _ _).trans (v1_tame M hw _ _)))
      ((blkB_1 W c t o).trans ((h.s o).trans (s1_tame M hw))) ((blkB_2 W c t o).trans ((h.q o).trans (q1_tame M hw))),
      ← EReal.coe_add, ← EReal.coe_zero, max_coe, z1_tame M hw]
  · unfold y2
    rw [EReal.coe_add, ← coe_sum]
    refine congrArg₂ _ (Finset.sum_congr rfl fun o _ => ?_) ((blkB_6 W c t p).trans (h.b p))
    rw [EReal.coe_mul]
    exact congrArg₂ _ ((blkB_5 W c t p o).trans (h.w p o)) rfl

/-- THE SECOND LAYER before its normalisation. -/
theorem firstB (b : Fin 8) (p : Fin 128) (n : Fin 4096) :
    ((datB W c).arrAt 7 cfg1.N : FVec Ideal S8x128x4096 .f32) (ix3 b p n) = ((y2 M p b n : ℝ) : EReal) := by
  rw [arrB_7 W c (fun j => ((y2 M (j 1) (j 0) (j 2) : ℝ) : EReal)) fun t p r =>
    (k1_pay1_at _ p r).trans (convB_at h t p r)]
  rfl

/-- Its channel sums. -/
theorem sumsB (p : Fin 128) :
    ((datB W c).arrAt 8 cfg1.N : FVec Ideal S1x128 .f32) (ix2 0 p) = ((∑ b, ∑ n, y2 M p b n : ℝ) : EReal) := by
  rw [arrB_8, ← sum_blocks (y2 M p) bt cl (fun _ => rfl) (fun _ _ => rfl)]
  refine running (fun n hn => sumB W c n hn (ix2 0 p)) (fun t => ∑ r, y2 M p (bt t) (cl t r)) ?_ fun n hn => ?_
  · refine (k1_pay4_at _ p).trans ?_
    rw [← coe_sum]
    exact Finset.sum_congr rfl fun r _ => convB_at h ⟨0, by decide⟩ p r
  · refine (k1_pay6_at _ _ p).trans (congrArg₂ _ rfl ?_)
    rw [← coe_sum]
    exact Finset.sum_congr rfl fun r _ => convB_at h ⟨n + 1, hn⟩ p r

/-- Its channel sums of squares. -/
theorem squaresB (p : Fin 128) :
    ((datB W c).arrAt 9 cfg1.N : FVec Ideal S1x128 .f32) (ix2 0 p) = ((∑ b, ∑ n, y2 M p b n * y2 M p b n : ℝ) : EReal) := by
  rw [arrB_9, ← sum_blocks (fun b n => y2 M p b n * y2 M p b n) bt cl (fun _ => rfl) (fun _ _ => rfl)]
  refine running (fun n hn => sqB W c n hn (ix2 0 p)) (fun t => ∑ r, y2 M p (bt t) (cl t r) * y2 M p (bt t) (cl t r)) ?_ fun n hn => ?_
  · refine (k1_pay5_at _ p).trans ?_
    rw [← coe_sum]
    exact Finset.sum_congr rfl fun r _ => by
      rw [EReal.coe_mul]; exact congrArg₂ _ (convB_at h ⟨0, by decide⟩ p r) (convB_at h ⟨0, by decide⟩ p r)
  · refine (k1_pay7_at _ _ p).trans (congrArg₂ _ rfl ?_)
    rw [← coe_sum]
    exact Finset.sum_congr rfl fun r _ => by
      rw [EReal.coe_mul]; exact congrArg₂ _ (convB_at h ⟨n + 1, hn⟩ p r) (convB_at h ⟨n + 1, hn⟩ p r)

end

/-- THE RESULT. -/
theorem firstC (h : FeedC W c M) (b : Fin 8) (p : Fin 128) (n : Fin 4096) :
    ((datC W c).arrAt 5 cfg2.N : FVec Ideal S8x128x4096 .f32) (ix3 b p n) = out M p b n := by
  rw [arrC_5 W c (fun j => out M (j 1) (j 0) (j 2)) fun t p r => by
    unfold outC
    refine k2_pay1_at _ _ _ _ _ p r _ ?_
    have hg := (blkC_3 W c t p).trans (h.g p)
    have he := (blkC_4 W c t p).trans (h.e p)
    rw [hg, he]
    exact scaled (y2 M p) (M.g2 p) (M.e2 p) (bt t) (cl t r) _ _ _ ((blkC_0 W c t p r).trans (h.y _ _ _)) ((blkC_1 W c t p).trans (h.s p))
      ((blkC_2 W c t p).trans (h.q p))]
  rfl

end Cert.KernelIdeal.Value

end
-- ==== Proof.Value.KernelOut.lean ====
/-
  The kernel's result on real arguments.
-/
module

public import proofs.«01_k».proof.Proof.Value.LayerA
public import proofs.«01_k».proof.Proof.Value.LayerB
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Run
open Cert.Near Cert.Norm Cert.Model

variable (m : (ℓ : Loc nD τ sig) → Buf (Elt Ideal) ℓ) (c : Dev nD) (M : Data)

/-- The arguments hold the real numbers of `M`. -/
structure Given : Prop where
  x1 : ∀ b n d, (m ((c : Thread nD τ).loc main_arg0) : FVec Ideal S8x4096x3 .f32) (ix3 b n d) = ((M.x1 b n d : ℝ) : EReal)
  x2 : ∀ b s d, (m ((c : Thread nD τ).loc main_arg1) : FVec Ideal S8x1024x3 .f32) (ix3 b s d) = ((M.x2 b s d : ℝ) : EReal)
  f1 : ∀ b k n, (m ((c : Thread nD τ).loc main_arg2) : FVec Ideal S8x128x4096 .f32) (ix3 b k n) = ((M.f1 b k n : ℝ) : EReal)
  f2 : ∀ b k s, (m ((c : Thread nD τ).loc main_arg3) : FVec Ideal S8x256x1024 .f32) (ix3 b k s) = ((M.f2 b k s : ℝ) : EReal)
  w1 : ∀ o k, (m ((c : Thread nD τ).loc main_arg4) : FVec Ideal S256x384 .f32) (ix2 o k) = ((M.w1 o k : ℝ) : EReal)
  b1 : ∀ o, (m ((c : Thread nD τ).loc main_arg5) : FVec Ideal S256 .f32) (ix1 o) = M.b1 o
  g1 : ∀ o, (m ((c : Thread nD τ).loc main_arg6) : FVec Ideal S256 .f32) (ix1 o) = ((M.g1 o : ℝ) : EReal)
  e1 : ∀ o, (m ((c : Thread nD τ).loc main_arg7) : FVec Ideal S256 .f32) (ix1 o) = ((M.e1 o : ℝ) : EReal)
  w2 : ∀ p o, (m ((c : Thread nD τ).loc main_arg8) : FVec Ideal S128x256 .f32) (ix2 p o) = ((M.w2 p o : ℝ) : EReal)
  b2 : ∀ p, (m ((c : Thread nD τ).loc main_arg9) : FVec Ideal S128 .f32) (ix1 p) = ((M.b2 p : ℝ) : EReal)
  g2 : ∀ p, (m ((c : Thread nD τ).loc main_arg10) : FVec Ideal S128 .f32) (ix1 p) = ((M.g2 p : ℝ) : EReal)
  e2 : ∀ p, (m ((c : Thread nD τ).loc main_arg11) : FVec Ideal S128 .f32) (ix1 p) = M.e2 p
  k : ∀ o, Wild M o → M.k1 o = if M.g1 o = 0 then max (M.e1 o) 0 else 0

/-! ## What the operations before the first call write -/

/-- The source points, coordinates first. -/
theorem pre0 : atA m c (Proc.devRef .tc main_v0)
    = transpose S8x3x1024 [0, 2, 1] (m ((c : Thread nD τ).loc main_arg1) : FVec Ideal S8x1024x3 .f32) transposes_S8x1024x3_S8x3x1024_0_2_1 := by
  unfold atA; after_results
/-- The first part of the first matrix. -/
theorem pre1 : atA m c (Proc.devRef .tc main_v1)
    = extractStridedSlice S256x256 ![0, 0] (m ((c : Thread nD τ).loc main_arg4) : FVec Ideal S256x384 .f32) slices_S256x384_S256x256_0_0 := by
  unfold atA; after_results
/-- Its second part. -/
theorem pre2 : atA m c (Proc.devRef .tc main_v2)
    = extractStridedSlice S256x128 ![0, 256] (m ((c : Thread nD τ).loc main_arg4) : FVec Ideal S256x384 .f32) slices_S256x384_S256x128_0_256 := by
  unfold atA; after_results
/-- The first bias as a row. -/
theorem pre3 : atA m c (Proc.devRef .tc main_v3)
    = shapeCast S1x256 (m ((c : Thread nD τ).loc main_arg5) : FVec Ideal S256 .f32) shapeCasts_S256_S1x256 := by
  unfold atA; after_results; rfl
/-- The first scale as a row. -/
theorem pre4 : atA m c (Proc.devRef .tc main_v4)
    = shapeCast S1x256 (m ((c : Thread nD τ).loc main_arg6) : FVec Ideal S256 .f32) shapeCasts_S256_S1x256 := by
  unfold atA; after_results; rfl
/-- The first offset as a row. -/
theorem pre5 : atA m c (Proc.devRef .tc main_v5)
    = shapeCast S1x256 (m ((c : Thread nD τ).loc main_arg7) : FVec Ideal S256 .f32) shapeCasts_S256_S1x256 := by
  unfold atA; after_results; rfl
/-- The second bias as a row. -/
theorem pre6 : atA m c (Proc.devRef .tc main_v6)
    = shapeCast S1x128 (m ((c : Thread nD τ).loc main_arg9) : FVec Ideal S128 .f32) shapeCasts_S128_S1x128 := by
  unfold atA; after_results; rfl
/-- The second scale as a row. -/
theorem pre7 : atA m c (Proc.devRef .tc main_v7)
    = shapeCast S1x128 (m ((c : Thread nD τ).loc main_arg10) : FVec Ideal S128 .f32) shapeCasts_S128_S1x128 := by
  unfold atA; after_results; rfl
/-- The second offset as a row. -/
theorem pre8 : atA m c (Proc.devRef .tc main_v8)
    = shapeCast S1x128 (m ((c : Thread nD τ).loc main_arg11) : FVec Ideal S128 .f32) shapeCasts_S128_S1x128 := by
  unfold atA; after_results; rfl

/-- A row made of a list of 256 numbers. -/
theorem row256 (x : FVec Ideal S256 .f32) (o : Fin 256) : shapeCast S1x256 x shapeCasts_S256_S1x256 (ix2 0 o) = x (ix1 o) := by
  pointwise
/-- A row made of a list of 128 numbers. -/
theorem row128 (x : FVec Ideal S128 .f32) (p : Fin 128) : shapeCast S1x128 x shapeCasts_S128_S1x128 (ix2 0 p) = x (ix1 p) := by
  pointwise
/-- The transposed source points at a place. -/
theorem turned (x : FVec Ideal S8x1024x3 .f32) (b : Fin 8) (d : Fin 3) (s : Fin 1024) :
    transpose S8x3x1024 [0, 2, 1] x transposes_S8x1024x3_S8x3x1024_0_2_1 (ix3 b d s) = x (ix3 b s d) := by
  pointwise
/-- A column of the first part. -/
theorem left (x : FVec Ideal S256x384 .f32) (o k : Fin 256) :
    extractStridedSlice S256x256 ![0, 0] x slices_S256x384_S256x256_0_0 (ix2 o k) = x (ix2 o (lo k)) := by
  pointwise
  exact congrArg x (congrArg₂ ix2 rfl (Fin.ext (by simp [lo])))
/-- A column of the second part. -/
theorem right (x : FVec Ideal S256x384 .f32) (o : Fin 256) (k : Fin 128) :
    extractStridedSlice S256x128 ![0, 256] x slices_S256x384_S256x128_0_256 (ix2 o k) = x (ix2 o (hi k)) := by
  pointwise
  exact congrArg x (congrArg₂ ix2 rfl (Fin.ext (by simp [hi])))

variable {m c M} (g : Given m c M) (hN : Near M)
include g

/-- The first call finds the arguments. -/
theorem feedA : FeedA (atA m) c M where
  x1 b n d := (congrFun (V1_of m c main_arg0 (by decide)) _).trans (g.x1 b n d)
  x2 b s d := (congrFun (pre0 m c) _).trans ((turned _ b d s).trans (g.x2 b s d))
  f1 b k n := (congrFun (V1_of m c main_arg2 (by decide)) _).trans (g.f1 b k n)
  f2 b k s := (congrFun (V1_of m c main_arg3 (by decide)) _).trans (g.f2 b k s)
  wlo o k := (congrFun (pre1 m c) _).trans ((left _ o k).trans (g.w1 o (lo k)))
  whi o k := (congrFun (pre2 m c) _).trans ((right _ o k).trans (g.w1 o (hi k)))
  b1 o := (congrFun (pre3 m c) _).trans ((row256 _ o).trans (g.b1 o))

include hN

/-- The second call finds the first layer. -/
theorem feedB : FeedB (atB m) c M where
  y b o n := (congrFun (Pipeline.afterRegion_arr (datA (atA m) c) (atA m c) launch0.win.arr_inj 7) _).trans (firstA hN (feedA g) b o n)
  s o := (congrFun (Pipeline.afterRegion_arr (datA (atA m) c) (atA m c) launch0.win.arr_inj 8) _).trans (sumsA hN (feedA g) o)
  q o := (congrFun (Pipeline.afterRegion_arr (datA (atA m) c) (atA m c) launch0.win.arr_inj 9) _).trans (squaresA hN (feedA g) o)
  g o := (congrFun ((keepA m c main_v4 (by decide)).trans (pre4 m c)) _).trans ((row256 _ o).trans (g.g1 o))
  e o := (congrFun ((keepA m c main_v5 (by decide)).trans (pre5 m c)) _).trans ((row256 _ o).trans (g.e1 o))
  w p o := (congrFun ((keepA m c main_arg8 (by decide)).trans (V1_of m c main_arg8 (by decide))) _).trans (g.w2 p o)
  b p := (congrFun ((keepA m c main_v6 (by decide)).trans (pre6 m c)) _).trans ((row128 _ p).trans (g.b2 p))
  k := g.k

/-- The third call finds the second layer before its normalisation. -/
theorem feedC : FeedC (atC m) c M where
  y b p n := (congrFun (Pipeline.afterRegion_arr (datB (atB m) c) (atB m c) launch1.win.arr_inj 7) _).trans (firstB (feedB g hN) b p n)
  s p := (congrFun (Pipeline.afterRegion_arr (datB (atB m) c) (atB m c) launch1.win.arr_inj 8) _).trans (sumsB (feedB g hN) p)
  q p := (congrFun (Pipeline.afterRegion_arr (datB (atB m) c) (atB m c) launch1.win.arr_inj 9) _).trans (squaresB (feedB g hN) p)
  g p := (congrFun ((keepB m c main_v7 (by decide)).trans ((keepA m c main_v7 (by decide)).trans (pre7 m c))) _).trans ((row128 _ p).trans (g.g2 p))
  e p := (congrFun ((keepB m c main_v8 (by decide)).trans ((keepA m c main_v8 (by decide)).trans (pre8 m c))) _).trans ((row128 _ p).trans (g.e2 p))

/-- The kernel leaves the layer's value. -/
theorem kernel_out (b : Fin 8) (p : Fin 128) (n : Fin 4096) :
    (atEnd m c (Proc.devRef .tc main_v11) : FVec Ideal S8x128x4096 .f32) (ix3 b p n) = out M p b n :=
  (congrFun (atEnd_result m c) _).trans (firstC (feedC g hN) b p n)

end Cert.KernelIdeal.Value

end
-- ==== Proof.Value.RefTop.lean ====
/-
  The reference's distances, neighbours and interpolation, read at a place.
-/
module

public import proofs.«01_k».proof.ReferenceIdeal
public import proofs.«01_k».proof.Proof.Gen.ReferenceIdeal.Run
public import proofs.«01_k».proof.Proof.Value.Model
public import proofs.«01_k».proof.Proof.Value.Top
public import Idealize.ShloMosaic.Lib.Pointwise
public import Idealize.ShloMosaic.Lib.StableHlo.Predicate

@[expose] public section

set_option maxRecDepth 16384

noncomputable section

namespace Cert.ReferenceIdeal.Side

open Idealize.ShloMosaic Idealize.ShloMosaic.TcCoe Idealize.SL.Sem
open Cert.ReferenceIdeal Cert.ReferenceIdeal.Facts₀
open Cert.Near Cert.Norm Cert.Model Cert.Top

/-- The squared distance before the root: the two squared lengths less twice the inner product. -/
theorem square_at (a0 : FVec Ideal S8x4096x3 .f32) (a1 : FVec Ideal S8x1024x3 .f32) (b : Fin 8) (n : Fin 4096) (s : Fin 1024)
    (M : Data) (h0 : ∀ d, a0 (ix3 b n d) = ((M.x1 b n d : ℝ) : EReal)) (h1 : ∀ d, a1 (ix3 b s d) = ((M.x2 b s d : ℝ) : EReal)) :
    subf (F := Ideal) (addf (F := Ideal) (broadcastInDim S8x4096x1024 ![0, 1, 2] bcast_S8x4096x1_S8x4096x1024_0_1_2 (broadcastInDim S8x4096x1 ![0, 1] bcast_S8x4096_S8x4096x1_0_1 (Host.reduceAdd (F := Ideal) (mulf (F := Ideal) a0 a0) (constant S_ .f32 0x00000000#32) reducesTo_S8x4096x3_S8x4096_d2 h_S_))) (broadcastInDim S8x4096x1024 ![0, 1, 2] bcast_S8x1x1024_S8x4096x1024_0_1_2 (transpose S8x1x1024 [0, 2, 1] (broadcastInDim S8x1024x1 ![0, 1] bcast_S8x1024_S8x1024x1_0_1 (Host.reduceAdd (F := Ideal) (mulf (F := Ideal) a1 a1) (constant S_ .f32 0x00000000#32) reducesTo_S8x1024x3_S8x1024_d2 h_S_)) transposes_S8x1024x1_S8x1x1024_0_2_1))) (mulf (F := Ideal) (broadcastInDim S8x4096x1024 ![] bcast_S_S8x4096x1024 (constant S_ .f32 0x40000000#32)) (Host.dotGeneral (F := Ideal) dot_S8x4096x3_S8x1024x3_S8x4096x1024_2_2_1_1_0_0 none a0 a1)) (ix3 b n s)
      = ((sq M b n s : ℝ) : EReal) := by
  pointwise
  simp only [h0, h1, ← EReal.coe_mul, coe_sum, word_two, ← EReal.coe_add, ← EReal.coe_sub]
  refine congrArg _ ?_
  unfold Model.sq la lb cr
  have e : ∑ d, M.x1 b n d * (-2 * M.x2 b s d) = -(2 * ∑ d, M.x1 b n d * M.x2 b s d) := by
    rw [Finset.mul_sum, ← Finset.sum_neg_distrib]
    exact Finset.sum_congr rfl fun d _ => by ring
  rw [e, sub_eq_add_neg]

/-- From the squared distance to the negated distance. -/
theorem far_at (v : FVec Ideal S8x4096x1024 .f32) (b : Fin 8) (n : Fin 4096) (s : Fin 1024) (d : ℝ) (hv : v (ix3 b n s) = ((d : ℝ) : EReal)) :
    Host.negf (F := Ideal) (maximumf (F := Ideal) (Host.sqrt (F := Ideal) (maximumf (F := Ideal) v (broadcastInDim S8x4096x1024 ![] bcast_S_S8x4096x1024 (constant S_ .f32 0x00000000#32)))) (broadcastInDim S8x4096x1024 ![] bcast_S_S8x4096x1024 (constant S_ .f32 0x322BCC77#32))) (ix3 b n s)
      = ((-(Near.dist d) : ℝ) : EReal) := by
  pointwise
  rw [hv, ← EReal.coe_zero, max_coe, Ideal.sqrt_coe, if_neg (not_lt.2 (le_max_right _ _)), word_eps, max_coe, ← EReal.coe_neg]
  rfl

/-- The inverse of a distance. -/
theorem inv_at (v : FVec Ideal S8x4096x3 .f32) (b : Fin 8) (n : Fin 4096) (j : Fin 3) (d : ℝ) (hd : 0 < d) (hv : v (ix3 b n j) = ((-d : ℝ) : EReal)) :
    Host.divf (F := Ideal) (broadcastInDim S8x4096x3 ![] bcast_S_S8x4096x3 (constant S_ .f32 0x3F800000#32)) (Host.negf (F := Ideal) v) (ix3 b n j) = ((d⁻¹ : ℝ) : EReal) := by
  pointwise
  rw [hv, ← EReal.coe_neg, neg_neg, Ideal.div_coe hd.ne', one_mul, one_div]

/-- An inverse distance over the sum of the three. -/
theorem share_at (v : FVec Ideal S8x4096x3 .f32) (b : Fin 8) (n : Fin 4096) (j : Fin 3) (i : Fin 3 → ℝ) (hi : ∀ j, 0 < i j) (hv : ∀ j, v (ix3 b n j) = ((i j : ℝ) : EReal)) :
  (Host.divf (F := Ideal) v (broadcastInDim S8x4096x3 ![0, 1, 2] bcast_S8x4096x1_S8x4096x3_0_1_2 (broadcastInDim S8x4096x1 ![0, 1] bcast_S8x4096_S8x4096x1_0_1 (Host.reduceAdd (F := Ideal) v (constant S_ .f32 0x00000000#32) reducesTo_S8x4096x3_S8x4096_d2 h_S_)))) (ix3 b n j) = ((i j / ∑ k, i k : ℝ) : EReal) := by
  pointwise
  simp only [hv, coe_sum]
  rw [Ideal.div_coe (Finset.sum_pos (fun k _ => hi k) ⟨0, Finset.mem_univ _⟩).ne', ← EReal.coe_mul, mul_one_div]

/-- The weighted sum of three gathered rows. -/
theorem mix_at (v : FVec Ideal S8x4096x3 .f32) (w : FVec Ideal S8x4096x3x256 .f32) (b : Fin 8) (n : Fin 4096) (k : Fin 256) :
   (transpose S8x256x4096 [0, 2, 1] (Host.reduceAdd (F := Ideal) (mulf (F := Ideal) (broadcastInDim S8x4096x3x256 ![0, 1, 2, 3] bcast_S8x4096x3x1_S8x4096x3x256_0_1_2_3 (broadcastInDim S8x4096x3x1 ![0, 1, 2] bcast_S8x4096x3_S8x4096x3x1_0_1_2 v)) w) (constant S_ .f32 0x00000000#32) reducesTo_S8x4096x3x256_S8x4096x256_d2 h_S_) transposes_S8x4096x256_S8x256x4096_0_2_1) (ix3 b k n) = ∑ j, v (ix3 b n j) * w (ix4 b n j k) := by
  pointwise

/-- The first part of an index pair. -/
theorem key0_at (u : IVec S8x4096x3x1 32) (v : IVec S8x4096x3x1 32) (b : Fin 8) (n : Fin 4096) (j : Fin 3)  :
   (concatenate S8x4096x3x2 3 [⟨S8x4096x3x1, u⟩, ⟨S8x4096x3x1, v⟩] concatenates_S8x4096x3x1_S8x4096x3x1_S8x4096x3x2_d3) (ix4 b n j 0) = u (ix4 b n j 0) := by
  pointwise
/-- The second part of an index pair. -/
theorem key1_at (u : IVec S8x4096x3x1 32) (v : IVec S8x4096x3x1 32) (b : Fin 8) (n : Fin 4096) (j : Fin 3)  :
   (concatenate S8x4096x3x2 3 [⟨S8x4096x3x1, u⟩, ⟨S8x4096x3x1, v⟩] concatenates_S8x4096x3x1_S8x4096x3x1_S8x4096x3x2_d3) (ix4 b n j 1) = v (ix4 b n j 0) := by
  pointwise

/-- A word below a small bound is not negative, so nothing is added to it. -/
theorem kept (p : ℕ) (hp : p < 2 ^ 31) (k : BitVec 32) :
    Scalar.select (IntOp.cmpi CmpIPredicate.slt (BitVec.ofNat 32 p) 0#32) (IntOp.addi (BitVec.ofNat 32 p) k) (BitVec.ofNat 32 p) = BitVec.ofNat 32 p := by
  have h : ¬ IntOp.cmpi CmpIPredicate.slt (BitVec.ofNat 32 p) 0#32 = 1#1 := by
    intro hc
    have := (StableHlo.Predicate.slt_ofNat_iff p 0 hp (by norm_num)).1 hc
    omega
  unfold Scalar.select
  first | rw [if_neg h] | simp [h]

/-- The batch part of an index pair. -/
theorem batch_at (v : IVec S8x1x1 32) (b : Fin 8) (n : Fin 4096) (j : Fin 3) (hv : v (ix3 b 0 0) = BitVec.ofNat 32 b.val) :
   (broadcastInDim S8x4096x3x1 ![0, 1, 2] bcast_S8x4096x3_S8x4096x3x1_0_1_2 (broadcastInDim S8x4096x3 ![0, 1, 2] bcast_S8x1x1_S8x4096x3_0_1_2 (select (cmpi .slt v (broadcastInDim S8x1x1 ![] bcast_S_S8x1x1 (constantI S_ 32 0#32))) (addi v (broadcastInDim S8x1x1 ![] bcast_S_S8x1x1 (constantI S_ 32 8#32))) v))) (ix4 b n j 0) = BitVec.ofNat 32 b.val := by
  pointwise
  rw [hv]
  exact kept _ (by omega) _

/-- The batches' numbers. -/
theorem count_at (b : Fin 8) : broadcastInDim S8x1x1 ![0] bcast_S8_S8x1x1_0 (iotaInDim S8 32 0) (ix3 b 0 0) = BitVec.ofNat 32 b.val := by
  pointwise

/-- The point part of an index pair. -/
theorem point_at (v : IVec S8x4096x3 32) (b : Fin 8) (n : Fin 4096) (j : Fin 3) (p : Fin 1024) (hv : v (ix3 b n j) = BitVec.ofNat 32 p.val) :
   (broadcastInDim S8x4096x3x1 ![0, 1, 2] bcast_S8x4096x3_S8x4096x3x1_0_1_2 (select (cmpi .slt v (broadcastInDim S8x4096x3 ![] bcast_S_S8x4096x3 (constantI S_ 32 0#32))) (addi v (broadcastInDim S8x4096x3 ![] bcast_S_S8x4096x3 (constantI S_ 32 1024#32))) v)) (ix4 b n j 0) = BitVec.ofNat 32 p.val := by
  pointwise
  rw [hv]
  exact kept _ (by omega) _

/-- The gather at a place: the row of the batch and the point the index pair names. -/
theorem gather_at (x : FVec Ideal S8x1024x256 .f32) (idx : IVec S8x4096x3x2 32) (b : Fin 8) (n : Fin 4096) (j : Fin 3) (k : Fin 256) (p : Fin 1024)
    (h0 : idx (ix4 b n j 0) = BitVec.ofNat 32 b.val) (h1 : idx (ix4 b n j 1) = BitVec.ofNat 32 p.val) :
    Host.gather gather_S8x1024x256_S8x4096x3x2_S8x4096x3x256_3_01_n_n_01_3_11256 x idx (ix4 b n j k) = x (ix3 b p k) := by
  unfold Host.gather
  refine congrArg x ?_
  have e0 : gather_S8x1024x256_S8x4096x3x2_S8x4096x3x256_3_01_n_n_01_3_11256.siIdx (ix4 b n j k) ⟨0, by decide⟩ = ix4 b n j 0 := by
    funext a
    match a with
    | ⟨0, _⟩ => rfl
    | ⟨1, _⟩ => rfl
    | ⟨2, _⟩ => rfl
    | ⟨3, _⟩ => rfl
  have e1 : gather_S8x1024x256_S8x4096x3x2_S8x4096x3x256_3_01_n_n_01_3_11256.siIdx (ix4 b n j k) ⟨1, by decide⟩ = ix4 b n j 1 := by
    funext a
    match a with
    | ⟨0, _⟩ => rfl
    | ⟨1, _⟩ => rfl
    | ⟨2, _⟩ => rfl
    | ⟨3, _⟩ => rfl
  funext a
  match a with
  | ⟨0, _⟩ =>
    apply Fin.ext
    change min (idx (gather_S8x1024x256_S8x4096x3x2_S8x4096x3x256_3_01_n_n_01_3_11256.siIdx (ix4 b n j k) ⟨0, by decide⟩)).toInt.toNat (8 - 1) + 0 + 0 = b.val
    rw [e0, h0, StableHlo.Predicate.toInt_ofNat_small _ (by omega)]
    simp; omega
  | ⟨1, _⟩ =>
    apply Fin.ext
    change min (idx (gather_S8x1024x256_S8x4096x3x2_S8x4096x3x256_3_01_n_n_01_3_11256.siIdx (ix4 b n j k) ⟨1, by decide⟩)).toInt.toNat (1024 - 1) + 0 + 0 = p.val
    rw [e1, h1, StableHlo.Predicate.toInt_ofNat_small _ (by omega)]
    simp; omega
  | ⟨2, _⟩ => exact Fin.ext (by change 0 + 0 + k.val = k.val; omega)

/-- The joined features: the first rows are the interpolated ones. -/
theorem join_lo (u : FVec Ideal S8x256x4096 .f32) (v : FVec Ideal S8x128x4096 .f32) (b : Fin 8) (n : Fin 4096) (k : Fin 256) :
   concatenate S8x384x4096 1 [⟨S8x256x4096, u⟩, ⟨S8x128x4096, v⟩] concatenates_S8x256x4096_S8x128x4096_S8x384x4096_d1 (ix3 b (lo k) n) = u (ix3 b k n) := by
  pointwise
  exact dif_pos k.isLt
/-- The rest are the given ones. -/
theorem join_hi (u : FVec Ideal S8x256x4096 .f32) (v : FVec Ideal S8x128x4096 .f32) (b : Fin 8) (n : Fin 4096) (k : Fin 128) :
   concatenate S8x384x4096 1 [⟨S8x256x4096, u⟩, ⟨S8x128x4096, v⟩] concatenates_S8x256x4096_S8x128x4096_S8x384x4096_d1 (ix3 b (hi k) n) = v (ix3 b k n) := by
  pointwise
  refine (dif_neg (by simp [hi])).trans (congrArg v (congrArg₂ (ix3 b) (Fin.ext ?_) rfl))
  simp [hi]

/-- A sum over the columns of both parts. -/
theorem sum_parts (f : Fin 384 → EReal) : ∑ k, f k = ∑ k, f (lo k) + ∑ k, f (hi k) := Fin.sum_univ_add (a := 256) (b := 128) f

/-- The first linear map at a place. -/
theorem conv_at (u : FVec Ideal S8x384x4096 .f32) (w : FVec Ideal S256x384 .f32) (e : FVec Ideal S256 .f32) (b : Fin 8) (n : Fin 4096) (o : Fin 256)
    (a : Fin 256 → ℝ) (c : Fin 128 → ℝ) (W : Fin 384 → ℝ) (B : EReal)
    (hlo : ∀ k, u (ix3 b (lo k) n) = ((a k : ℝ) : EReal)) (hhi : ∀ k, u (ix3 b (hi k) n) = ((c k : ℝ) : EReal))
    (hw : ∀ k, w (ix2 o k) = ((W k : ℝ) : EReal)) (he : e (ix1 o) = B) :
  addf (F := Ideal) (transpose S8x256x4096 [0, 2, 1] (Host.dotGeneral (F := Ideal) dot_S8x384x4096_S256x384_S8x4096x256_1_1_02_0_n_n none u w) transposes_S8x4096x256_S8x256x4096_0_2_1) (broadcastInDim S8x256x4096 ![0, 1, 2] bcast_S1x256x1_S8x256x4096_0_1_2 (broadcastInDim S1x256x1 ![1] bcast_S256_S1x256x1_1 e)) (ix3 b o n)
    = ((∑ k, W (lo k) * a k + ∑ k, W (hi k) * c k : ℝ) : EReal) + B := by
  pointwise
  rw [sum_parts]
  simp only [hlo, hhi, hw, he, ← EReal.coe_mul, coe_sum, ← EReal.coe_add]
  refine congrArg (fun x : ℝ => (x : EReal) + B) (congrArg₂ (· + ·) ?_ ?_)
  · exact Finset.sum_congr rfl fun k _ => mul_comm _ _
  · exact Finset.sum_congr rfl fun k _ => mul_comm _ _

/-- The transposed features. -/
theorem turn_at (x : FVec Ideal S8x256x1024 .f32) (b : Fin 8) (p : Fin 1024) (k : Fin 256) :
    transpose S8x1024x256 [0, 2, 1] x transposes_S8x256x1024_S8x1024x256_0_2_1 (ix3 b p k) = x (ix3 b k p) := by
  pointwise

/-! ## The arguments as real numbers -/

variable (V : Valuation τ sig (Elt Ideal)) (M : Data)

/-- The arguments hold the real numbers of `M`. -/
structure Given : Prop where
  x1 : ∀ b n d, (V (Proc.devRef .tc main_arg0) : FVec Ideal S8x4096x3 .f32) (ix3 b n d) = ((M.x1 b n d : ℝ) : EReal)
  x2 : ∀ b s d, (V (Proc.devRef .tc main_arg1) : FVec Ideal S8x1024x3 .f32) (ix3 b s d) = ((M.x2 b s d : ℝ) : EReal)
  f1 : ∀ b k n, (V (Proc.devRef .tc main_arg2) : FVec Ideal S8x128x4096 .f32) (ix3 b k n) = ((M.f1 b k n : ℝ) : EReal)
  f2 : ∀ b k s, (V (Proc.devRef .tc main_arg3) : FVec Ideal S8x256x1024 .f32) (ix3 b k s) = ((M.f2 b k s : ℝ) : EReal)
  w1 : ∀ o k, (V (Proc.devRef .tc main_arg4) : FVec Ideal S256x384 .f32) (ix2 o k) = ((M.w1 o k : ℝ) : EReal)
  b1 : ∀ o, (V (Proc.devRef .tc main_arg5) : FVec Ideal S256 .f32) (ix1 o) = M.b1 o
  g1 : ∀ o, (V (Proc.devRef .tc main_arg6) : FVec Ideal S256 .f32) (ix1 o) = ((M.g1 o : ℝ) : EReal)
  e1 : ∀ o, (V (Proc.devRef .tc main_arg7) : FVec Ideal S256 .f32) (ix1 o) = ((M.e1 o : ℝ) : EReal)
  w2 : ∀ p o, (V (Proc.devRef .tc main_arg8) : FVec Ideal S128x256 .f32) (ix2 p o) = ((M.w2 p o : ℝ) : EReal)
  b2 : ∀ p, (V (Proc.devRef .tc main_arg9) : FVec Ideal S128 .f32) (ix1 p) = ((M.b2 p : ℝ) : EReal)
  g2 : ∀ p, (V (Proc.devRef .tc main_arg10) : FVec Ideal S128 .f32) (ix1 p) = ((M.g2 p : ℝ) : EReal)
  e2 : ∀ p, (V (Proc.devRef .tc main_arg11) : FVec Ideal S128 .f32) (ix1 p) = M.e2 p
  k : ∀ o, Wild M o → M.k1 o = max (M.e1 o) 0

variable {V M} (g : Given V M)
include g

/-- The reference's negated distances. -/
theorem v19_far : (Cert.ReferenceIdeal.Value.res_main_v19 V : FVec Ideal S8x4096x1024 .f32) = far (sq M) := by
  refine eq_far (sq M) _ fun b n s => ?_
  unfold Cert.ReferenceIdeal.Value.res_main_v19
  exact far_at _ b n s _ (square_at _ _ b n s M (g.x1 b n) (g.x2 b s))

/-- Its inverse distances. -/
theorem v22_at (b : Fin 8) (n : Fin 4096) (j : Fin 3) :
    (Cert.ReferenceIdeal.Value.res_main_v22 V : FVec Ideal S8x4096x3 .f32) (ix3 b n j)
      = (((Near.dist (sq M b n (near (sq M) b n ⟨j.val, by omega⟩)))⁻¹ : ℝ) : EReal) := by
  unfold Cert.ReferenceIdeal.Value.res_main_v22
  refine inv_at _ b n j _ (dist_pos _) ?_
  refine (top_values _ _ b n j (by omega)).trans ?_
  rw [v19_far g, ← near_def]
  rfl

/-- Its positions. -/
theorem indices_at (b : Fin 8) (n : Fin 4096) (j : Fin 3) :
    (Cert.ReferenceIdeal.Value.res_main_indices V : IVec S8x4096x3 32) (ix3 b n j) = BitVec.ofNat 32 (near (sq M) b n ⟨j.val, by omega⟩).val := by
  unfold Cert.ReferenceIdeal.Value.res_main_indices
  refine (top_places _ _ b n j (by omega)).trans ?_
  rw [v19_far g, ← near_def]

/-- The weighted sum over the three points is the weighted sum over all. -/
theorem three_sum (hT : M.T = three (sq M)) (b : Fin 8) (n : Fin 4096) (f : Fin 1024 → ℝ) :
    ∑ j : Fin 3, (Near.dist (sq M b n (near (sq M) b n ⟨j.val, by omega⟩)))⁻¹
        / (∑ k : Fin 3, (Near.dist (sq M b n (near (sq M) b n ⟨k.val, by omega⟩)))⁻¹) * f (near (sq M) b n ⟨j.val, by omega⟩)
      = ∑ s, wt M b n s * f s := by
  have n01 : near (sq M) b n 0 ≠ near (sq M) b n 1 := by rw [near_def, near_def]; exact place_ne _ b n (by decide)
  have n02 : near (sq M) b n 0 ≠ near (sq M) b n 2 := by rw [near_def, near_def]; exact place_ne _ b n (by decide)
  have n12 : near (sq M) b n 1 ≠ near (sq M) b n 2 := by rw [near_def, near_def]; exact place_ne _ b n (by decide)
  have hw : ∀ s, wt M b n s = _ := fun s => weight_of_points (D := sq M b n) (T := M.T b n)
    (fun j : Fin 3 => near (sq M) b n ⟨j.val, by omega⟩) n01 n02 n12 (by rw [hT]; rfl) s
  simp only [hw, add_mul, ite_mul, zero_mul, Finset.sum_add_distrib, Finset.sum_ite_eq', Finset.sum_ite_eq, Finset.mem_univ, if_true, Fin.sum_univ_three]

/-- The reference's first layer before its normalisation. -/
theorem v55_at (hT : M.T = three (sq M)) (b : Fin 8) (o : Fin 256) (n : Fin 4096) :
    (Cert.ReferenceIdeal.Value.res_main_v55 V : FVec Ideal S8x256x4096 .f32) (ix3 b o n) = v1 M o b n := by
  unfold Cert.ReferenceIdeal.Value.res_main_v55
  rw [← lin_add, lin_eq]
  refine conv_at _ _ _ b n o _ _ (M.w1 o) _ (fun k => ?_) (fun k => (join_hi _ _ b n k).trans (g.f1 b k n)) (g.w1 o) (g.b1 o)
  refine (join_lo _ _ b n k).trans ((mix_at _ _ b n k).trans ?_)
  rw [← three_sum g hT b n (fun s => M.f2 b k s), ← coe_sum]
  refine Finset.sum_congr rfl fun j _ => ?_
  rw [EReal.coe_mul]
  refine congrArg₂ (· * ·) (share_at _ b n j _ (fun j => inv_pos.2 (dist_pos _)) (v22_at g b n)) ?_
  refine (gather_at _ _ b n j k (near (Model.sq M) b n ⟨j.val, by omega⟩) ?_ ?_).trans ((turn_at _ b _ k).trans (g.f2 b k _))
  · exact (key0_at _ _ b n j).trans (batch_at _ b n j (count_at b))
  · exact (key1_at _ _ b n j).trans (point_at _ b n j _ (indices_at g b n j))

end Cert.ReferenceIdeal.Side

end
-- ==== Proof.Value.RefNorm.lean ====
/-
  The reference's batch normalisations, read at a place.
-/
module

public import proofs.«01_k».proof.ReferenceIdeal
public import proofs.«01_k».proof.Proof.Gen.ReferenceIdeal.Run
public import proofs.«01_k».proof.Proof.Value.Model
public import Idealize.ShloMosaic.Lib.Pointwise

@[expose] public section

set_option maxRecDepth 16384

noncomputable section

namespace Cert.ReferenceIdeal.Side

open Idealize.ShloMosaic Idealize.ShloMosaic.TcCoe Idealize.SL.Sem
open Cert.ReferenceIdeal Cert.ReferenceIdeal.Facts₀
open Cert.Near Cert.Norm Cert.Model

/-- A sum over the batches and the points of one channel. -/
theorem sum_outer {m : ℕ} (h : (⟨3, ![8, m, 4096]⟩ : Shape).ReducesTo [0, 2] ⟨1, ![m]⟩) (v : (⟨3, ![8, m, 4096]⟩ : Shape).Idx → EReal) (o : Fin m) :
    Ideal.hostReduceAdd h v 0 (ix1 o) = ∑ b, ∑ n, v (ix3 b o n) := by
  unfold Ideal.hostReduceAdd
  rw [zero_add, ← Fintype.sum_prod_type' (f := fun b n => v (ix3 b o n))]
  have hd : ∀ i : (⟨3, ![8, m, 4096]⟩ : Shape).Idx, h.drop i = ix1 (i 1) := by
    intro i
    funext a
    match a with
    | ⟨0, _⟩ => rfl
  have hi : ∀ i : (⟨3, ![8, m, 4096]⟩ : Shape).Idx, ix3 (i 0) (i 1) (i 2) = i := by
    intro i
    funext a
    match a with
    | ⟨0, _⟩ => rfl
    | ⟨1, _⟩ => rfl
    | ⟨2, _⟩ => rfl
  have ho : ∀ i : (⟨3, ![8, m, 4096]⟩ : Shape).Idx, h.drop i = ix1 o → i 1 = o := by
    intro i hx
    rw [hd] at hx
    exact congrFun hx 0
  refine Finset.sum_bij' (fun i _ => (i 0, i 2)) (fun p _ => ix3 p.1 o p.2) (fun _ _ => Finset.mem_univ _)
    (fun p _ => Finset.mem_filter.2 ⟨Finset.mem_univ _, hd _⟩) ?_ (fun _ _ => rfl) ?_
  · intro i hx
    have := ho i (Finset.mem_filter.1 hx).2
    rw [← this]
    exact hi i
  · intro i hx
    have := ho i (Finset.mem_filter.1 hx).2
    rw [← this]
    exact congrArg v (hi i).symm

/-- The number of entries of a channel. -/
theorem number_at : subf (F := Ideal) (constant S_ .f32 0x47000000#32) (sitofp .f32 (constantI S_ 32 0#32)) ix0 = ((32768 : ℝ) : EReal) := by
  pointwise
  rw [word_count]
  change _ - (((0#32 : BitVec 32).toInt : ℝ) : EReal) = _
  simp

/-- The mean of a channel. -/
theorem meanA_at (y : FVec Ideal S8x256x4096 .f32) (o : Fin 256) (Y : Fin 8 → Fin 4096 → ℝ) (hy : ∀ b n, y (ix3 b o n) = ((Y b n : ℝ) : EReal)) :
    Host.divf (F := Ideal) (broadcastInDim S1x256x1 ![1] bcast_S256_S1x256x1_1 (Host.reduceAdd (F := Ideal) y (constant S_ .f32 0x00000000#32) reducesTo_S8x256x4096_S256_d0_2 h_S_)) (broadcastInDim S1x256x1 ![] bcast_S_S1x256x1 (constant S_ .f32 0x47000000#32)) (ix3 0 o 0) = ((mean Y : ℝ) : EReal) := by
  pointwise
  refine (congrArg₂ Ideal.div ((sum_outer _ y o).trans ?_) word_count).trans (div_mean Y)
  simp only [hy, coe_sum]

/-- A channel less its mean. -/
theorem centerA_at (y : FVec Ideal S8x256x4096 .f32) (u : FVec Ideal S1x256x1 .f32) (b : Fin 8) (o : Fin 256) (n : Fin 4096) :
    subf (F := Ideal) y (broadcastInDim S8x256x4096 ![0, 1, 2] bcast_S1x256x1_S8x256x4096_0_1_2 u) (ix3 b o n) = y (ix3 b o n) - u (ix3 0 o 0) := by
  pointwise

/-- The variance of a channel from its centred entries. -/
theorem spreadA_at (v : FVec Ideal S8x256x4096 .f32) (q : FVec Ideal S_ .f32) (o : Fin 256) (Y : Fin 8 → Fin 4096 → ℝ)
    (hv : ∀ b n, v (ix3 b o n) = ((Y b n - mean Y : ℝ) : EReal)) (hq : q ix0 = ((32768 : ℝ) : EReal)) :
    (select (broadcastInDim S1x256x1 ![] bcast_S_S1x256x1 (cmpf (F := Ideal) .ogt q (constant S_ .f32 0x00000000#32))) (Host.divf (F := Ideal) (broadcastInDim S1x256x1 ![1] bcast_S256_S1x256x1_1 (Host.reduceAdd (F := Ideal) (mulf (F := Ideal) v v) (constant S_ .f32 0x00000000#32) reducesTo_S8x256x4096_S256_d0_2 h_S_)) (broadcastInDim S1x256x1 ![] bcast_S_S1x256x1 q)) (broadcastInDim S1x256x1 ![] bcast_S_S1x256x1 (id (constant (F := Ideal) S_ .f32 0x7FC00000#32)))) (ix3 0 o 0) = ((spread Y : ℝ) : EReal) := by
  pointwise
  rw [hq]
  refine (if_pos (EReal.coe_pos.2 (by norm_num))).trans ?_
  refine (congrArg (fun x => Ideal.div x ((32768 : ℝ) : EReal)) ((sum_outer _ (mulf (F := Ideal) v v) o).trans ?_)).trans (div_count (∑ b, ∑ n, (Y b n - mean Y) * (Y b n - mean Y)))
  simp only [← coe_sum, EReal.coe_mul]
  refine Finset.sum_congr rfl fun b _ => Finset.sum_congr rfl fun n _ => ?_
  exact congrArg₂ (· * ·) (hv b n) (hv b n)

/-- A normalised, scaled, shifted and cut entry. -/
theorem normA_at (y : FVec Ideal S8x256x4096 .f32) (u q : FVec Ideal S1x256x1 .f32) (g e : FVec Ideal S256 .f32) (b : Fin 8) (o : Fin 256) (n : Fin 4096)
    (Y : Fin 8 → Fin 4096 → ℝ) (G : ℝ) (hy : y (ix3 b o n) = ((Y b n : ℝ) : EReal)) (hu : u (ix3 0 o 0) = ((mean Y : ℝ) : EReal))
    (hq : q (ix3 0 o 0) = ((spread Y : ℝ) : EReal)) (hg : g (ix1 o) = ((G : ℝ) : EReal)) :
    (maximumf (F := Ideal) (addf (F := Ideal) (mulf (F := Ideal) (Host.divf (F := Ideal) (subf (F := Ideal) y (broadcastInDim S8x256x4096 ![0, 1, 2] bcast_S1x256x1_S8x256x4096_0_1_2 u)) (broadcastInDim S8x256x4096 ![0, 1, 2] bcast_S1x256x1_S8x256x4096_0_1_2 (Host.sqrt (F := Ideal) (addf (F := Ideal) q (broadcastInDim S1x256x1 ![] bcast_S_S1x256x1 (constant S_ .f32 0x3727C5AC#32)))))) (broadcastInDim S8x256x4096 ![0, 1, 2] bcast_S1x256x1_S8x256x4096_0_1_2 (broadcastInDim S1x256x1 ![1] bcast_S256_S1x256x1_1 g))) (broadcastInDim S8x256x4096 ![0, 1, 2] bcast_S1x256x1_S8x256x4096_0_1_2 (broadcastInDim S1x256x1 ![1] bcast_S256_S1x256x1_1 e))) (broadcastInDim S8x256x4096 ![] bcast_S_S8x256x4096 (constant S_ .f32 0x00000000#32))) (ix3 b o n)
      = max (((normed Y G b n : ℝ) : EReal) + e (ix1 o)) 0 := by
  pointwise
  rw [hg, word_fuzz]
  refine congrArg (fun x => max (x + e (ix1 o)) 0) (quotient Y G b n _ _ _ hy hu hq)

/-- A sum of one infinite value over the batches and the points. -/
theorem sum_wild (x : EReal) (hx : x = ⊤ ∨ x = ⊥) : ∑ _b : Fin 8, ∑ _n : Fin 4096, x = x := by
  have h : x + x = x := by rcases hx with e | e <;> rw [e] <;> rfl
  exact (Finset.sum_congr rfl fun _ _ => sum_same x h 4095).trans (sum_same x h 7)

/-- The mean of an infinite constant channel. -/
theorem meanA_wild (y : FVec Ideal S8x256x4096 .f32) (o : Fin 256) (x : EReal) (hx : x = ⊤ ∨ x = ⊥) (hy : ∀ b n, y (ix3 b o n) = x) :
    Host.divf (F := Ideal) (broadcastInDim S1x256x1 ![1] bcast_S256_S1x256x1_1 (Host.reduceAdd (F := Ideal) y (constant S_ .f32 0x00000000#32) reducesTo_S8x256x4096_S256_d0_2 h_S_)) (broadcastInDim S1x256x1 ![] bcast_S_S1x256x1 (constant S_ .f32 0x47000000#32)) (ix3 0 o 0) = x := by
  pointwise
  refine (congrArg₂ Ideal.div ((sum_outer _ y o).trans ?_) word_count).trans (?_ : Ideal.div x _ = x)
  · simp only [hy]
    exact sum_wild x hx
  · rcases hx with h | h <;> rw [h]
    · exact div_top
    · exact div_bot

/-- Its variance. -/
theorem spreadA_wild (v : FVec Ideal S8x256x4096 .f32) (q : FVec Ideal S_ .f32) (o : Fin 256)
    (hv : ∀ b n, v (ix3 b o n) = ⊥) (hq : q ix0 = ((32768 : ℝ) : EReal)) :
    (select (broadcastInDim S1x256x1 ![] bcast_S_S1x256x1 (cmpf (F := Ideal) .ogt q (constant S_ .f32 0x00000000#32))) (Host.divf (F := Ideal) (broadcastInDim S1x256x1 ![1] bcast_S256_S1x256x1_1 (Host.reduceAdd (F := Ideal) (mulf (F := Ideal) v v) (constant S_ .f32 0x00000000#32) reducesTo_S8x256x4096_S256_d0_2 h_S_)) (broadcastInDim S1x256x1 ![] bcast_S_S1x256x1 q)) (broadcastInDim S1x256x1 ![] bcast_S_S1x256x1 (id (constant (F := Ideal) S_ .f32 0x7FC00000#32)))) (ix3 0 o 0) = ⊤ := by
  pointwise
  rw [hq]
  refine (if_pos (EReal.coe_pos.2 (by norm_num))).trans ?_
  refine (congrArg (fun x => Ideal.div x ((32768 : ℝ) : EReal)) ((sum_outer _ (mulf (F := Ideal) v v) o).trans (?_ : _ = ⊤))).trans div_top
  refine Eq.trans ?_ (sum_wild ⊤ (Or.inl rfl))
  refine Finset.sum_congr rfl fun b _ => Finset.sum_congr rfl fun n _ => ?_
  exact (congrArg₂ (· * ·) (hv b n) (hv b n)).trans EReal.bot_mul_bot

/-- Its normalised entry: only the shift is left. -/
theorem normA_wild (y : FVec Ideal S8x256x4096 .f32) (u q : FVec Ideal S1x256x1 .f32) (g e : FVec Ideal S256 .f32) (b : Fin 8) (o : Fin 256) (n : Fin 4096)
    (x : EReal) (hx : x = ⊤ ∨ x = ⊥) (G : ℝ) (hy : y (ix3 b o n) = x) (hu : u (ix3 0 o 0) = x)
    (hq : q (ix3 0 o 0) = ⊤) (hg : g (ix1 o) = ((G : ℝ) : EReal)) :
    (maximumf (F := Ideal) (addf (F := Ideal) (mulf (F := Ideal) (Host.divf (F := Ideal) (subf (F := Ideal) y (broadcastInDim S8x256x4096 ![0, 1, 2] bcast_S1x256x1_S8x256x4096_0_1_2 u)) (broadcastInDim S8x256x4096 ![0, 1, 2] bcast_S1x256x1_S8x256x4096_0_1_2 (Host.sqrt (F := Ideal) (addf (F := Ideal) q (broadcastInDim S1x256x1 ![] bcast_S_S1x256x1 (constant S_ .f32 0x3727C5AC#32)))))) (broadcastInDim S8x256x4096 ![0, 1, 2] bcast_S1x256x1_S8x256x4096_0_1_2 (broadcastInDim S1x256x1 ![1] bcast_S256_S1x256x1_1 g))) (broadcastInDim S8x256x4096 ![0, 1, 2] bcast_S1x256x1_S8x256x4096_0_1_2 (broadcastInDim S1x256x1 ![1] bcast_S256_S1x256x1_1 e))) (broadcastInDim S8x256x4096 ![] bcast_S_S8x256x4096 (constant S_ .f32 0x00000000#32))) (ix3 b o n)
      = max (e (ix1 o)) 0 := by
  pointwise
  rw [hg, word_fuzz]
  exact congrArg (fun x => max x 0) ((congrArg (· + e (ix1 o)) (quotient_wild x hx G _ _ _ hy hu hq)).trans (zero_add _))

/-- The mean of a channel. -/
theorem meanB_at (y : FVec Ideal S8x128x4096 .f32) (o : Fin 128) (Y : Fin 8 → Fin 4096 → ℝ) (hy : ∀ b n, y (ix3 b o n) = ((Y b n : ℝ) : EReal)) :
    Host.divf (F := Ideal) (broadcastInDim S1x128x1 ![1] bcast_S128_S1x128x1_1 (Host.reduceAdd (F := Ideal) y (constant S_ .f32 0x00000000#32) reducesTo_S8x128x4096_S128_d0_2 h_S_)) (broadcastInDim S1x128x1 ![] bcast_S_S1x128x1 (constant S_ .f32 0x47000000#32)) (ix3 0 o 0) = ((mean Y : ℝ) : EReal) := by
  pointwise
  refine (congrArg₂ Ideal.div ((sum_outer _ y o).trans ?_) word_count).trans (div_mean Y)
  simp only [hy, coe_sum]

/-- A channel less its mean. -/
theorem centerB_at (y : FVec Ideal S8x128x4096 .f32) (u : FVec Ideal S1x128x1 .f32) (b : Fin 8) (o : Fin 128) (n : Fin 4096) :
    subf (F := Ideal) y (broadcastInDim S8x128x4096 ![0, 1, 2] bcast_S1x128x1_S8x128x4096_0_1_2 u) (ix3 b o n) = y (ix3 b o n) - u (ix3 0 o 0) := by
  pointwise

/-- The variance of a channel from its centred entries. -/
theorem spreadB_at (v : FVec Ideal S8x128x4096 .f32) (q : FVec Ideal S_ .f32) (o : Fin 128) (Y : Fin 8 → Fin 4096 → ℝ)
    (hv : ∀ b n, v (ix3 b o n) = ((Y b n - mean Y : ℝ) : EReal)) (hq : q ix0 = ((32768 : ℝ) : EReal)) :
    (select (broadcastInDim S1x128x1 ![] bcast_S_S1x128x1 (cmpf (F := Ideal) .ogt q (constant S_ .f32 0x00000000#32))) (Host.divf (F := Ideal) (broadcastInDim S1x128x1 ![1] bcast_S128_S1x128x1_1 (Host.reduceAdd (F := Ideal) (mulf (F := Ideal) v v) (constant S_ .f32 0x00000000#32) reducesTo_S8x128x4096_S128_d0_2 h_S_)) (broadcastInDim S1x128x1 ![] bcast_S_S1x128x1 q)) (broadcastInDim S1x128x1 ![] bcast_S_S1x128x1 (id (constant (F := Ideal) S_ .f32 0x7FC00000#32)))) (ix3 0 o 0) = ((spread Y : ℝ) : EReal) := by
  pointwise
  rw [hq]
  refine (if_pos (EReal.coe_pos.2 (by norm_num))).trans ?_
  refine (congrArg (fun x => Ideal.div x ((32768 : ℝ) : EReal)) ((sum_outer _ (mulf (F := Ideal) v v) o).trans ?_)).trans (div_count (∑ b, ∑ n, (Y b n - mean Y) * (Y b n - mean Y)))
  simp only [← coe_sum, EReal.coe_mul]
  refine Finset.sum_congr rfl fun b _ => Finset.sum_congr rfl fun n _ => ?_
  exact congrArg₂ (· * ·) (hv b n) (hv b n)

/-- A normalised, scaled, shifted and cut entry. -/
theorem normB_at (y : FVec Ideal S8x128x4096 .f32) (u q : FVec Ideal S1x128x1 .f32) (g e : FVec Ideal S128 .f32) (b : Fin 8) (o : Fin 128) (n : Fin 4096)
    (Y : Fin 8 → Fin 4096 → ℝ) (G : ℝ) (hy : y (ix3 b o n) = ((Y b n : ℝ) : EReal)) (hu : u (ix3 0 o 0) = ((mean Y : ℝ) : EReal))
    (hq : q (ix3 0 o 0) = ((spread Y : ℝ) : EReal)) (hg : g (ix1 o) = ((G : ℝ) : EReal)) :
    (maximumf (F := Ideal) (addf (F := Ideal) (mulf (F := Ideal) (Host.divf (F := Ideal) (subf (F := Ideal) y (broadcastInDim S8x128x4096 ![0, 1, 2] bcast_S1x128x1_S8x128x4096_0_1_2 u)) (broadcastInDim S8x128x4096 ![0, 1, 2] bcast_S1x128x1_S8x128x4096_0_1_2 (Host.sqrt (F := Ideal) (addf (F := Ideal) q (broadcastInDim S1x128x1 ![] bcast_S_S1x128x1 (constant S_ .f32 0x3727C5AC#32)))))) (broadcastInDim S8x128x4096 ![0, 1, 2] bcast_S1x128x1_S8x128x4096_0_1_2 (broadcastInDim S1x128x1 ![1] bcast_S128_S1x128x1_1 g))) (broadcastInDim S8x128x4096 ![0, 1, 2] bcast_S1x128x1_S8x128x4096_0_1_2 (broadcastInDim S1x128x1 ![1] bcast_S128_S1x128x1_1 e))) (broadcastInDim S8x128x4096 ![] bcast_S_S8x128x4096 (constant S_ .f32 0x00000000#32))) (ix3 b o n)
      = max (((normed Y G b n : ℝ) : EReal) + e (ix1 o)) 0 := by
  pointwise
  rw [hg, word_fuzz]
  refine congrArg (fun x => max (x + e (ix1 o)) 0) (quotient Y G b n _ _ _ hy hu hq)

/-- The second linear map at a place. -/
theorem map_at (u : FVec Ideal S8x256x4096 .f32) (w : FVec Ideal S128x256 .f32) (e : FVec Ideal S128 .f32) (b : Fin 8) (n : Fin 4096) (p : Fin 128)
    (a W : Fin 256 → ℝ) (B : ℝ) (hu : ∀ o, u (ix3 b o n) = ((a o : ℝ) : EReal)) (hw : ∀ o, w (ix2 p o) = ((W o : ℝ) : EReal)) (he : e (ix1 p) = ((B : ℝ) : EReal)) :
    addf (F := Ideal) (transpose S8x128x4096 [0, 2, 1] (Host.dotGeneral (F := Ideal) dot_S8x256x4096_S128x256_S8x4096x128_1_1_02_0_n_n none u w) transposes_S8x4096x128_S8x128x4096_0_2_1) (broadcastInDim S8x128x4096 ![0, 1, 2] bcast_S1x128x1_S8x128x4096_0_1_2 (broadcastInDim S1x128x1 ![1] bcast_S128_S1x128x1_1 e)) (ix3 b p n)
      = ((∑ o, W o * a o + B : ℝ) : EReal) := by
  pointwise
  simp only [hu, hw, he, ← EReal.coe_mul, coe_sum, ← EReal.coe_add]
  exact congrArg _ (congrArg (· + B) (Finset.sum_congr rfl fun k _ => mul_comm _ _))

end Cert.ReferenceIdeal.Side

end
-- ==== Proof.Value.RefOut.lean ====
/-
  The reference's result on real arguments.
-/
module

public import proofs.«01_k».proof.Proof.Value.RefTop
public import proofs.«01_k».proof.Proof.Value.RefNorm

@[expose] public section

set_option maxRecDepth 16384

noncomputable section

namespace Cert.ReferenceIdeal.Side

open Idealize.ShloMosaic Idealize.ShloMosaic.TcCoe Idealize.SL.Sem
open Cert.ReferenceIdeal Cert.ReferenceIdeal.Facts₀
open Cert.Near Cert.Norm Cert.Model Cert.Top

variable {V : Valuation τ sig (Elt Ideal)} {M : Data} (g : Given V M) (hT : M.T = three (Model.sq M))
include g hT

/-- A first layer's channel with an infinite offset, less its mean. -/
theorem center0_wild (o : Fin 256) (hw : Wild M o) (b : Fin 8) (n : Fin 4096) :
    ((Cert.ReferenceIdeal.Value.res_main_call0_v5 V : FVec Ideal S8x256x4096 .f32) (ix3 b o n) : EReal) = (⊥ : EReal) := by
  have hv : ∀ b n, (Cert.ReferenceIdeal.Value.res_main_v55 V : FVec Ideal S8x256x4096 .f32) (ix3 b o n) = M.b1 o :=
    fun b n => (v55_at g hT b o n).trans (v1_wild M hw b n)
  unfold Cert.ReferenceIdeal.Value.res_main_call0_v5
  refine (centerA_at _ _ b o n).trans ?_
  have hd : M.b1 o - M.b1 o = ⊥ := by rcases hw with h | h <;> rw [h] <;> rfl
  exact (congrArg₂ (fun x y : EReal => x - y) (hv b n) (meanA_wild _ o (M.b1 o) hw hv)).trans hd

/-- The first layer less its channels' means. -/
theorem center0_at (o : Fin 256) (hw : ¬ Wild M o) (b : Fin 8) (n : Fin 4096) :
    (Cert.ReferenceIdeal.Value.res_main_call0_v5 V : FVec Ideal S8x256x4096 .f32) (ix3 b o n) = ((y1 M o b n - mean (y1 M o) : ℝ) : EReal) := by
  unfold Cert.ReferenceIdeal.Value.res_main_call0_v5
  refine (centerA_at _ _ b o n).trans ?_
  rw [EReal.coe_sub]
  have hv : ∀ b n, (Cert.ReferenceIdeal.Value.res_main_v55 V : FVec Ideal S8x256x4096 .f32) (ix3 b o n) = ((y1 M o b n : ℝ) : EReal) :=
    fun b n => (v55_at g hT b o n).trans (v1_tame M hw b n)
  exact congrArg₂ (· - ·) (hv b n) (meanA_at _ o (y1 M o) hv)

/-- The second layer before its normalisation. -/
theorem v80_at (b : Fin 8) (p : Fin 128) (n : Fin 4096) :
    (Cert.ReferenceIdeal.Value.res_main_v80 V : FVec Ideal S8x128x4096 .f32) (ix3 b p n) = ((y2 M p b n : ℝ) : EReal) := by
  unfold Cert.ReferenceIdeal.Value.res_main_v80
  refine map_at _ _ _ b n p (fun o => z1 M o b n) (M.w2 p) (M.b2 p) (fun o => ?_) (g.w2 p) (g.b2 p)
  by_cases hw : Wild M o
  · have hv : ∀ b n, (Cert.ReferenceIdeal.Value.res_main_v55 V : FVec Ideal S8x256x4096 .f32) (ix3 b o n) = M.b1 o :=
      fun b n => (v55_at g hT b o n).trans (v1_wild M hw b n)
    refine (normA_wild _ _ _ _ _ b o n (M.b1 o) hw (M.g1 o) (hv b n) (meanA_wild _ o _ hw hv)
      (spreadA_wild _ _ o (center0_wild g hT o hw) number_at) (g.g1 o)).trans ?_
    rw [z1_wild M hw, g.k o hw, g.e1 o, ← EReal.coe_zero, max_coe]
  have hv : ∀ b n, (Cert.ReferenceIdeal.Value.res_main_v55 V : FVec Ideal S8x256x4096 .f32) (ix3 b o n) = ((y1 M o b n : ℝ) : EReal) :=
    fun b n => (v55_at g hT b o n).trans (v1_tame M hw b n)
  refine (normA_at _ _ _ _ _ b o n (y1 M o) (M.g1 o) (hv b n) (meanA_at _ o (y1 M o) hv)
    (spreadA_at _ _ o (y1 M o) (center0_at g hT o hw) number_at) (g.g1 o)).trans ?_
  rw [z1_tame M hw, g.e1 o, ← EReal.coe_add, ← EReal.coe_zero, max_coe]

/-- The second layer less its channels' means. -/
theorem center1_at (b : Fin 8) (p : Fin 128) (n : Fin 4096) :
    (Cert.ReferenceIdeal.Value.res_main_call1_v5 V : FVec Ideal S8x128x4096 .f32) (ix3 b p n) = ((y2 M p b n - mean (y2 M p) : ℝ) : EReal) := by
  unfold Cert.ReferenceIdeal.Value.res_main_call1_v5
  refine (centerB_at _ _ b p n).trans ?_
  rw [EReal.coe_sub]
  exact congrArg₂ (· - ·) (v80_at g hT b p n) (meanB_at _ p (y2 M p) fun b n => v80_at g hT b p n)

/-- The reference leaves the layer's value. -/
theorem reference_out (b : Fin 8) (p : Fin 128) (n : Fin 4096) :
    (Cert.ReferenceIdeal.Value.val3 V (Proc.devRef .tc main_v100) : FVec Ideal S8x128x4096 .f32) (ix3 b p n) = out M p b n := by
  rw [Cert.ReferenceIdeal.Value.val3_main_v100]
  refine (normB_at _ _ _ _ _ b p n (y2 M p) (M.g2 p) (v80_at g hT b p n) (meanB_at _ p (y2 M p) fun b n => v80_at g hT b p n)
    (spreadB_at _ _ p (y2 M p) (fun b n => center1_at g hT b p n) number_at) (g.g2 p)).trans ?_
  unfold out
  rw [g.e2 p]

end Cert.ReferenceIdeal.Side

end
-- ==== Proof.Value.Final.lean ====
/-
  The kernel and the reference leave the same result.
-/
module

public import proofs.«01_k».proof.Defs
public import proofs.«01_k».proof.Proof.Value.Pre
public import proofs.«01_k».proof.Proof.Value.KernelOut
public import proofs.«01_k».proof.Proof.Value.RefOut

@[expose] public section

set_option maxRecDepth 16384

noncomputable section

namespace Cert.Final

open Idealize.ShloMosaic Idealize.ShloMosaic.TcCoe Idealize.SL.Sem
open Cert.Near Cert.Norm Cert.Model Cert.Top
open Cert.Pre_three_nearest.Side (Numbers)

variable (m : (ℓ : Loc Cert.KernelIdeal.nD Cert.KernelIdeal.τ Cert.KernelIdeal.sig) → Buf (Elt Ideal) ℓ)
variable (c : Dev Cert.KernelIdeal.nD)

/-- The real numbers the arguments hold on one device, before any neighbour is chosen. -/
def raw : Data where
  x1 b n d := ((m ((c.tc : Thread Cert.KernelIdeal.nD Cert.KernelIdeal.τ).loc Cert.KernelIdeal.main_arg0) : FVec Ideal Cert.KernelIdeal.S8x4096x3 .f32) (ix3 b n d) : EReal).toReal
  x2 b s d := ((m ((c.tc : Thread Cert.KernelIdeal.nD Cert.KernelIdeal.τ).loc Cert.KernelIdeal.main_arg1) : FVec Ideal Cert.KernelIdeal.S8x1024x3 .f32) (ix3 b s d) : EReal).toReal
  f1 b k n := ((m ((c.tc : Thread Cert.KernelIdeal.nD Cert.KernelIdeal.τ).loc Cert.KernelIdeal.main_arg2) : FVec Ideal Cert.KernelIdeal.S8x128x4096 .f32) (ix3 b k n) : EReal).toReal
  f2 b k s := ((m ((c.tc : Thread Cert.KernelIdeal.nD Cert.KernelIdeal.τ).loc Cert.KernelIdeal.main_arg3) : FVec Ideal Cert.KernelIdeal.S8x256x1024 .f32) (ix3 b k s) : EReal).toReal
  w1 o k := ((m ((c.tc : Thread Cert.KernelIdeal.nD Cert.KernelIdeal.τ).loc Cert.KernelIdeal.main_arg4) : FVec Ideal Cert.KernelIdeal.S256x384 .f32) (ix2 o k) : EReal).toReal
  b1 o := (m ((c.tc : Thread Cert.KernelIdeal.nD Cert.KernelIdeal.τ).loc Cert.KernelIdeal.main_arg5) : FVec Ideal Cert.KernelIdeal.S256 .f32) (ix1 o)
  g1 o := ((m ((c.tc : Thread Cert.KernelIdeal.nD Cert.KernelIdeal.τ).loc Cert.KernelIdeal.main_arg6) : FVec Ideal Cert.KernelIdeal.S256 .f32) (ix1 o) : EReal).toReal
  e1 o := ((m ((c.tc : Thread Cert.KernelIdeal.nD Cert.KernelIdeal.τ).loc Cert.KernelIdeal.main_arg7) : FVec Ideal Cert.KernelIdeal.S256 .f32) (ix1 o) : EReal).toReal
  w2 p o := ((m ((c.tc : Thread Cert.KernelIdeal.nD Cert.KernelIdeal.τ).loc Cert.KernelIdeal.main_arg8) : FVec Ideal Cert.KernelIdeal.S128x256 .f32) (ix2 p o) : EReal).toReal
  b2 p := ((m ((c.tc : Thread Cert.KernelIdeal.nD Cert.KernelIdeal.τ).loc Cert.KernelIdeal.main_arg9) : FVec Ideal Cert.KernelIdeal.S128 .f32) (ix1 p) : EReal).toReal
  g2 p := ((m ((c.tc : Thread Cert.KernelIdeal.nD Cert.KernelIdeal.τ).loc Cert.KernelIdeal.main_arg10) : FVec Ideal Cert.KernelIdeal.S128 .f32) (ix1 p) : EReal).toReal
  e2 p := (m ((c.tc : Thread Cert.KernelIdeal.nD Cert.KernelIdeal.τ).loc Cert.KernelIdeal.main_arg11) : FVec Ideal Cert.KernelIdeal.S128 .f32) (ix1 p)
  T _ _ := ∅
  z _ _ := 0
  k1 _ := 0

/-- The same numbers, with each query's three nearest points and the third of them, and what the kernel leaves of a channel
    with an infinite offset. -/
def data : Data := { raw m c with
  T := three (Model.sq (raw m c))
  z := fun b n => Top.near (Model.sq (raw m c)) b n 2
  k1 := fun o => if (raw m c).g1 o = 0 then max ((raw m c).e1 o) 0 else 0 }

/-- The same, with what the reference leaves of such a channel. -/
def dataR : Data := { data m c with k1 := fun o => max ((raw m c).e1 o) 0 }

/-- The squared distances do not depend on the choice. -/
theorem sq_data : Model.sq (data m c) = Model.sq (raw m c) := rfl

variable {m} (hP : Cert.Pre_KernelIdeal_three_nearest (hPre_three_nearest := Cert.Pre_three_nearest.facts) m)

include hP in
/-- The precondition, read on one device. -/
theorem read : (Numbers (m ((c.tc : Thread Cert.KernelIdeal.nD Cert.KernelIdeal.τ).loc Cert.KernelIdeal.main_arg0) : FVec Ideal Cert.KernelIdeal.S8x4096x3 .f32)
      ∧ Numbers (m ((c.tc : Thread Cert.KernelIdeal.nD Cert.KernelIdeal.τ).loc Cert.KernelIdeal.main_arg1) : FVec Ideal Cert.KernelIdeal.S8x1024x3 .f32)
      ∧ Numbers (m ((c.tc : Thread Cert.KernelIdeal.nD Cert.KernelIdeal.τ).loc Cert.KernelIdeal.main_arg2) : FVec Ideal Cert.KernelIdeal.S8x128x4096 .f32)
      ∧ Numbers (m ((c.tc : Thread Cert.KernelIdeal.nD Cert.KernelIdeal.τ).loc Cert.KernelIdeal.main_arg3) : FVec Ideal Cert.KernelIdeal.S8x256x1024 .f32)
      ∧ Numbers (m ((c.tc : Thread Cert.KernelIdeal.nD Cert.KernelIdeal.τ).loc Cert.KernelIdeal.main_arg4) : FVec Ideal Cert.KernelIdeal.S256x384 .f32)
      ∧ Numbers (m ((c.tc : Thread Cert.KernelIdeal.nD Cert.KernelIdeal.τ).loc Cert.KernelIdeal.main_arg6) : FVec Ideal Cert.KernelIdeal.S256 .f32)
      ∧ Numbers (m ((c.tc : Thread Cert.KernelIdeal.nD Cert.KernelIdeal.τ).loc Cert.KernelIdeal.main_arg7) : FVec Ideal Cert.KernelIdeal.S256 .f32)
      ∧ Numbers (m ((c.tc : Thread Cert.KernelIdeal.nD Cert.KernelIdeal.τ).loc Cert.KernelIdeal.main_arg8) : FVec Ideal Cert.KernelIdeal.S128x256 .f32)
      ∧ Numbers (m ((c.tc : Thread Cert.KernelIdeal.nD Cert.KernelIdeal.τ).loc Cert.KernelIdeal.main_arg9) : FVec Ideal Cert.KernelIdeal.S128 .f32)
      ∧ Numbers (m ((c.tc : Thread Cert.KernelIdeal.nD Cert.KernelIdeal.τ).loc Cert.KernelIdeal.main_arg10) : FVec Ideal Cert.KernelIdeal.S128 .f32))
    ∧ ∀ M : Data, (∀ b n d, (m ((c.tc : Thread Cert.KernelIdeal.nD Cert.KernelIdeal.τ).loc Cert.KernelIdeal.main_arg0) : FVec Ideal Cert.KernelIdeal.S8x4096x3 .f32) (ix3 b n d) = ((M.x1 b n d : ℝ) : EReal)) → (∀ b s d, (m ((c.tc : Thread Cert.KernelIdeal.nD Cert.KernelIdeal.τ).loc Cert.KernelIdeal.main_arg1) : FVec Ideal Cert.KernelIdeal.S8x1024x3 .f32) (ix3 b s d) = ((M.x2 b s d : ℝ) : EReal)) →
      ∀ b n, far (Model.sq M) (ix3 b n (Top.near (Model.sq M) b n 2)) < far (Model.sq M) (ix3 b n (Top.near (Model.sq M) b n 1))
        ∧ far (Model.sq M) (ix3 b n (Top.near (Model.sq M) b n 3)) < far (Model.sq M) (ix3 b n (Top.near (Model.sq M) b n 2)) :=
  @Cert.Pre_three_nearest.Side.meaning Cert.Pre_three_nearest.facts _ _ _ _ _ _ _ _ _ _ _ _ (congrFun (hP c) ix0)

include hP in
/-- The kernel's arguments hold these numbers. -/
theorem given_kernel : Cert.KernelIdeal.Value.Given m c (data m c) :=
  have h := read c hP
  {
  x1 b n d := h.1.1 (ix3 b n d)
  x2 b s d := h.1.2.1 (ix3 b s d)
  f1 b k n := h.1.2.2.1 (ix3 b k n)
  f2 b k s := h.1.2.2.2.1 (ix3 b k s)
  w1 o k := h.1.2.2.2.2.1 (ix2 o k)
  b1 o := rfl
  g1 o := h.1.2.2.2.2.2.1 (ix1 o)
  e1 o := h.1.2.2.2.2.2.2.1 (ix1 o)
  w2 p o := h.1.2.2.2.2.2.2.2.1 (ix2 p o)
  b2 p := h.1.2.2.2.2.2.2.2.2.1 (ix1 p)
  g2 p := h.1.2.2.2.2.2.2.2.2.2 (ix1 p)
  e2 p := rfl
  k _ _ := rfl
  }

include hP in
/-- The three chosen are the nearest. -/
theorem near_data : Model.Near (data m c) := fun b n =>
  have h := (read c hP).2 (raw m c) (given_kernel c hP).x1 (given_kernel c hP).x2 b n
  nearest_three (Model.sq (raw m c)) b n h.1 h.2

variable {m' : (ℓ : Loc Cert.ReferenceIdeal.nD Cert.ReferenceIdeal.τ Cert.ReferenceIdeal.sig) → Buf (Elt Ideal) ℓ}
  (hm : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))

include hP hm in
/-- The reference's arguments hold the same numbers. -/
theorem given_reference : Cert.ReferenceIdeal.Side.Given (StableHlo.launchContents m' c) (dataR m c) :=
  have g := given_kernel c hP
  have q := hm c
  {
  x1 b n d := (congrFun (q.1) (ix3 b n d)).trans (g.x1 b n d)
  x2 b s d := (congrFun (q.2.1) (ix3 b s d)).trans (g.x2 b s d)
  f1 b k n := (congrFun (q.2.2.1) (ix3 b k n)).trans (g.f1 b k n)
  f2 b k s := (congrFun (q.2.2.2.1) (ix3 b k s)).trans (g.f2 b k s)
  w1 o k := (congrFun (q.2.2.2.2.1) (ix2 o k)).trans (g.w1 o k)
  b1 o := (congrFun (q.2.2.2.2.2.1) (ix1 o)).trans (g.b1 o)
  g1 o := (congrFun (q.2.2.2.2.2.2.1) (ix1 o)).trans (g.g1 o)
  e1 o := (congrFun (q.2.2.2.2.2.2.2.1) (ix1 o)).trans (g.e1 o)
  w2 p o := (congrFun (q.2.2.2.2.2.2.2.2.1) (ix2 p o)).trans (g.w2 p o)
  b2 p := (congrFun (q.2.2.2.2.2.2.2.2.2.1) (ix1 p)).trans (g.b2 p)
  g2 p := (congrFun (q.2.2.2.2.2.2.2.2.2.2.1) (ix1 p)).trans (g.g2 p)
  e2 p := (congrFun (q.2.2.2.2.2.2.2.2.2.2.2) (ix1 p)).trans (g.e2 p)
  k _ _ := rfl
  }

include hP hm in
/-- The two results are the same array. -/
theorem same : (Cert.KernelIdeal.Run.atEnd m c (Proc.devRef .tc Cert.KernelIdeal.main_v11) : FVec Ideal Cert.KernelIdeal.S8x128x4096 .f32)
    = (Cert.ReferenceIdeal.Value.val3 (StableHlo.launchContents m' c) (Proc.devRef .tc Cert.ReferenceIdeal.main_v100) : FVec Ideal Cert.ReferenceIdeal.S8x128x4096 .f32) := by
  funext i
  have e : i = ix3 (i 0) (i 1) (i 2) := by
    funext a
    match a with
    | ⟨0, _⟩ => rfl
    | ⟨1, _⟩ => rfl
    | ⟨2, _⟩ => rfl
  rw [e]
  exact (Cert.KernelIdeal.Value.kernel_out (given_kernel c hP) (near_data c hP) _ _ _).trans
    ((Cert.ReferenceIdeal.Side.reference_out (given_reference c hP hm) rfl _ _ _).trans (out_free (data m c) _ _ _ _)).symm

/-- From equal arguments that meet the precondition, both end with the same result. -/
theorem algebraic : Cert.algebraic_KernelIdeal_ReferenceIdeal_pre_three_nearest (hKernelIdeal := Cert.KernelIdeal.Gen.facts)
    (hReferenceIdeal := Cert.ReferenceIdeal.Gen.facts) (hPre_three_nearest := Cert.Pre_three_nearest.facts) := by
  intro m g m' g' hP hm
  refine ⟨fun c => Cert.KernelIdeal.Run.atEnd m c (Proc.devRef .tc Cert.KernelIdeal.main_v11), Cert.KernelIdeal.Run.run_value (F := Ideal) m g, ?_⟩
  refine (θ_run Cert.ReferenceIdeal.defs _ _).mono (fun r h c => ⟨?_, (h c).2⟩) (Cert.ReferenceIdeal.Value.run (F := Ideal) m' g')
  refine (h c).1.trans ?_
  exact (Cert.ReferenceIdeal.Value.val3_main_v100 (StableHlo.launchContents m' c)).symm.trans (same c hP hm).symm

end Cert.Final

end
-- ==== Proof.lean ====
/- The certificate: `Cert.Claim` (proofs.«01_k».proof.Defs). -/
module

public import proofs.«01_k».proof.Defs
public import proofs.«01_k».proof.Proof.Frames
public import proofs.«01_k».proof.Proof.Value.Final

@[expose] public section

noncomputable section

namespace Cert.Proof

open Idealize.ShloMosaic Idealize.SL.Sem

/-- Everything this certificate claims. -/
theorem claim : Cert.Claim := ⟨Cert.Kernel.Gen.facts, Cert.KernelIdeal.Gen.facts, Cert.ReferenceIdeal.Gen.facts, Cert.Pre_three_nearest.facts,
  frame_kernel, frame_ideal, fun m g _ => frame_ideal m g trivial, frame_reference, fun m g _ => frame_reference m g trivial, bound_named,
  Cert.Final.algebraic⟩

end Cert.Proof

end
